-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S768 : Shape := ⟨1, ![768]⟩
abbrev S3 : Shape := ⟨1, ![3]⟩
abbrev S2048x768 : Shape := ⟨2, ![2048, 768]⟩
abbrev S1 : Shape := ⟨1, ![1]⟩
abbrev S_ : Shape := ⟨0, ![]⟩
abbrev S512 : Shape := ⟨1, ![512]⟩
abbrev S512x1 : Shape := ⟨2, ![512, 1]⟩
abbrev S256 : Shape := ⟨1, ![256]⟩
abbrev S1x256 : Shape := ⟨2, ![1, 256]⟩
abbrev S512x256 : Shape := ⟨2, ![512, 256]⟩
abbrev S512x256x1 : Shape := ⟨3, ![512, 256, 1]⟩
abbrev S1x768 : Shape := ⟨2, ![1, 768]⟩
abbrev S256x768 : Shape := ⟨2, ![256, 768]⟩
abbrev S256x1 : Shape := ⟨2, ![256, 1]⟩
abbrev S256x128 : Shape := ⟨2, ![256, 128]⟩
abbrev S256x1024 : Shape := ⟨2, ![256, 1024]⟩
abbrev S256x512 : Shape := ⟨2, ![256, 512]⟩
abbrev S256x256 : Shape := ⟨2, ![256, 256]⟩
abbrev S1x256x768 : Shape := ⟨3, ![1, 256, 768]⟩
abbrev S1x1x1 : Shape := ⟨3, ![1, 1, 1]⟩
abbrev S2048x768x1 : Shape := ⟨3, ![2048, 768, 1]⟩
abbrev S2048x768x2 : Shape := ⟨3, ![2048, 768, 2]⟩
abbrev S1x2048x768x2 : Shape := ⟨4, ![1, 2048, 768, 2]⟩

abbrev nBuf : Space → Nat
  | .hbm => 231
  | .vmem => 21
  | .smem => 0
  | _ => 0

abbrev hbmTy0_0 (i : Nat) : BufTy := match i % 128 with
  | 0 => ⟨S1x2048x768, .f32⟩
  | 1 => ⟨S1x2048x768, .f32⟩
  | 2 => ⟨S768, .f32⟩
  | 3 => ⟨S3, .f32⟩
  | 4 => ⟨S2048x768, .f32⟩
  | 5 => ⟨S2048x768, .f32⟩
  | 6 => ⟨S1, .f32⟩
  | 7 => ⟨S_, .f32⟩
  | 8 => ⟨S_, .f32⟩
  | 9 => ⟨S_, .f32⟩
  | 10 => ⟨S1, .f32⟩
  | 11 => ⟨S_, .f32⟩
  | 12 => ⟨S_, .f32⟩
  | 13 => ⟨S_, .f32⟩
  | 14 => ⟨S1, .f32⟩
  | 15 => ⟨S_, .f32⟩
  | 16 => ⟨S_, .f32⟩
  | 17 => ⟨S_, .f32⟩
  | 18 => ⟨S1, .f32⟩
  | 19 => ⟨S_, .f32⟩
  | 20 => ⟨S_, .f32⟩
  | 21 => ⟨S_, .f32⟩
  | 22 => ⟨S1, .f32⟩
  | 23 => ⟨S_, .f32⟩
  | 24 => ⟨S_, .f32⟩
  | 25 => ⟨S_, .f32⟩
  | 26 => ⟨S1, .f32⟩
  | 27 => ⟨S_, .f32⟩
  | 28 => ⟨S_, .f32⟩
  | 29 => ⟨S_, .f32⟩
  | 30 => ⟨S1, .f32⟩
  | 31 => ⟨S_, .f32⟩
  | 32 => ⟨S_, .f32⟩
  | 33 => ⟨S_, .f32⟩
  | 34 => ⟨S1, .f32⟩
  | 35 => ⟨S_, .f32⟩
  | 36 => ⟨S_, .f32⟩
  | 37 => ⟨S_, .f32⟩
  | 38 => ⟨S1, .f32⟩
  | 39 => ⟨S_, .f32⟩
  | 40 => ⟨S_, .f32⟩
  | 41 => ⟨S_, .f32⟩
  | 42 => ⟨S1, .f32⟩
  | 43 => ⟨S_, .f32⟩
  | 44 => ⟨S_, .f32⟩
  | 45 => ⟨S_, .f32⟩
  | 46 => ⟨S1, .f32⟩
  | 47 => ⟨S_, .f32⟩
  | 48 => ⟨S_, .f32⟩
  | 49 => ⟨S_, .f32⟩
  | 50 => ⟨S1, .f32⟩
  | 51 => ⟨S_, .f32⟩
  | 52 => ⟨S_, .f32⟩
  | 53 => ⟨S_, .f32⟩
  | 54 => ⟨S1, .f32⟩
  | 55 => ⟨S_, .f32⟩
  | 56 => ⟨S_, .f32⟩
  | 57 => ⟨S_, .f32⟩
  | 58 => ⟨S1, .f32⟩
  | 59 => ⟨S_, .f32⟩
  | 60 => ⟨S_, .f32⟩
  | 61 => ⟨S_, .f32⟩
  | 62 => ⟨S1, .f32⟩
  | 63 => ⟨S_, .f32⟩
  | 64 => ⟨S_, .f32⟩
  | 65 => ⟨S_, .f32⟩
  | 66 => ⟨S_, .f32⟩
  | 67 => ⟨S768, .f32⟩
  | 68 => ⟨S_, .f32⟩
  | 69 => ⟨S_, .f32⟩
  | 70 => ⟨S_, .i32⟩
  | 71 => ⟨S1, .i32⟩
  | 72 => ⟨S768, .f32⟩
  | 73 => ⟨S_, .i32⟩
  | 74 => ⟨S1, .i32⟩
  | 75 => ⟨S768, .f32⟩
  | 76 => ⟨S_, .f32⟩
  | 77 => ⟨S_, .f32⟩
  | 78 => ⟨S_, .f32⟩
  | 79 => ⟨S_, .f32⟩
  | 80 => ⟨S_, .f32⟩
  | 81 => ⟨S_, .i32⟩
  | 82 => ⟨S1, .i32⟩
  | 83 => ⟨S768, .f32⟩
  | 84 => ⟨S_, .i32⟩
  | 85 => ⟨S1, .i32⟩
  | 86 => ⟨S768, .f32⟩
  | 87 => ⟨S_, .f32⟩
  | 88 => ⟨S_, .f32⟩
  | 89 => ⟨S_, .f32⟩
  | 90 => ⟨S_, .i32⟩
  | 91 => ⟨S1, .i32⟩
  | 92 => ⟨S768, .f32⟩
  | 93 => ⟨S_, .i32⟩
  | 94 => ⟨S1, .i32⟩
  | 95 => ⟨S768, .f32⟩
  | 96 => ⟨S_, .f32⟩
  | 97 => ⟨S_, .f32⟩
  | 98 => ⟨S_, .f32⟩
  | 99 => ⟨S_, .f32⟩
  | 100 => ⟨S_, .f32⟩
  | 101 => ⟨S_, .i32⟩
  | 102 => ⟨S1, .i32⟩
  | 103 => ⟨S768, .f32⟩
  | 104 => ⟨S_, .i32⟩
  | 105 => ⟨S1, .i32⟩
  | 106 => ⟨S768, .f32⟩
  | 107 => ⟨S_, .f32⟩
  | 108 => ⟨S_, .f32⟩
  | 109 => ⟨S_, .f32⟩
  | 110 => ⟨S_, .i32⟩
  | 111 => ⟨S1, .i32⟩
  | 112 => ⟨S768, .f32⟩
  | 113 => ⟨S_, .i32⟩
  | 114 => ⟨S1, .i32⟩
  | 115 => ⟨S768, .f32⟩
  | 116 => ⟨S_, .f32⟩
  | 117 => ⟨S_, .f32⟩
  | 118 => ⟨S_, .f32⟩
  | 119 => ⟨S_, .i32⟩
  | 120 => ⟨S1, .i32⟩
  | 121 => ⟨S768, .f32⟩
  | 122 => ⟨S_, .i32⟩
  | 123 => ⟨S1, .i32⟩
  | 124 => ⟨S768, .f32⟩
  | 125 => ⟨S_, .f32⟩
  | 126 => ⟨S_, .f32⟩
  | 127 => ⟨S_, .f32⟩
  | _ => ⟨S1x2048x768, .f32⟩

abbrev hbmTy0_1 (i : Nat) : BufTy := match i % 128 with
  | 0 => ⟨S_, .f32⟩
  | 1 => ⟨S_, .i32⟩
  | 2 => ⟨S1, .i32⟩
  | 3 => ⟨S768, .f32⟩
  | 4 => ⟨S_, .i32⟩
  | 5 => ⟨S1, .i32⟩
  | 6 => ⟨S768, .f32⟩
  | 7 => ⟨S_, .f32⟩
  | 8 => ⟨S_, .f32⟩
  | 9 => ⟨S_, .f32⟩
  | 10 => ⟨S_, .i32⟩
  | 11 => ⟨S1, .i32⟩
  | 12 => ⟨S768, .f32⟩
  | 13 => ⟨S_, .i32⟩
  | 14 => ⟨S1, .i32⟩
  | 15 => ⟨S768, .f32⟩
  | 16 => ⟨S_, .f32⟩
  | 17 => ⟨S_, .f32⟩
  | 18 => ⟨S_, .f32⟩
  | 19 => ⟨S_, .i32⟩
  | 20 => ⟨S1, .i32⟩
  | 21 => ⟨S768, .f32⟩
  | 22 => ⟨S_, .i32⟩
  | 23 => ⟨S1, .i32⟩
  | 24 => ⟨S768, .f32⟩
  | 25 => ⟨S_, .f32⟩
  | 26 => ⟨S_, .f32⟩
  | 27 => ⟨S_, .f32⟩
  | 28 => ⟨S_, .i32⟩
  | 29 => ⟨S1, .i32⟩
  | 30 => ⟨S768, .f32⟩
  | 31 => ⟨S_, .i32⟩
  | 32 => ⟨S1, .i32⟩
  | 33 => ⟨S768, .f32⟩
  | 34 => ⟨S_, .f32⟩
  | 35 => ⟨S_, .f32⟩
  | 36 => ⟨S_, .f32⟩
  | 37 => ⟨S_, .i32⟩
  | 38 => ⟨S1, .i32⟩
  | 39 => ⟨S768, .f32⟩
  | 40 => ⟨S_, .i32⟩
  | 41 => ⟨S1, .i32⟩
  | 42 => ⟨S768, .f32⟩
  | 43 => ⟨S_, .f32⟩
  | 44 => ⟨S_, .f32⟩
  | 45 => ⟨S_, .f32⟩
  | 46 => ⟨S_, .i32⟩
  | 47 => ⟨S1, .i32⟩
  | 48 => ⟨S768, .f32⟩
  | 49 => ⟨S512, .i32⟩
  | 50 => ⟨S512x1, .i32⟩
  | 51 => ⟨S256, .i32⟩
  | 52 => ⟨S1x256, .i32⟩
  | 53 => ⟨S512x256, .i32⟩
  | 54 => ⟨S512x256, .i32⟩
  | 55 => ⟨S512x256, .i32⟩
  | 56 => ⟨S_, .i32⟩
  | 57 => ⟨S512x256, .i32⟩
  | 58 => ⟨S512x256, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S512x256, .i32⟩
  | 66 => ⟨S512x256, .i32⟩
  | 67 => ⟨S_, .i32⟩
  | 68 => ⟨S512x256, .i32⟩
  | 69 => ⟨S512x256, .i1⟩
  | 70 => ⟨S_, .i32⟩
  | 71 => ⟨S512x256, .i32⟩
  | 72 => ⟨S512x256, .i1⟩
  | 73 => ⟨S_, .i32⟩
  | 74 => ⟨S_, .i1⟩
  | 75 => ⟨S512x256, .i1⟩
  | 76 => ⟨S512x256, .i1⟩
  | 77 => ⟨S512x256, .i1⟩
  | 78 => ⟨S512x256, .i32⟩
  | 79 => ⟨S512x256, .i32⟩
  | 80 => ⟨S512x256, .i32⟩
  | 81 => ⟨S_, .i32⟩
  | 82 => ⟨S512x256, .i32⟩
  | 83 => ⟨S512x256, .i1⟩
  | 84 => ⟨S_, .i32⟩
  | 85 => ⟨S512x256, .i32⟩
  | 86 => ⟨S512x256, .i32⟩
  | 87 => ⟨S512x256, .i32⟩
  | 88 => ⟨S512x256x1, .i32⟩
  | 89 => ⟨S512x256, .f32⟩
  | 90 => ⟨S512x256, .bf16⟩
  | 91 => ⟨S512x256, .f32⟩
  | 92 => ⟨S512x256, .f32⟩
  | 93 => ⟨S512x256, .bf16⟩
  | 94 => ⟨S1x768, .f32⟩
  | 95 => ⟨S2048x768, .f32⟩
  | 96 => ⟨S2048x768, .f32⟩
  | 97 => ⟨S2048x768, .f32⟩
  | 98 => ⟨S2048x768, .f32⟩
  | 99 => ⟨S2048x768x1, .f32⟩
  | 100 => ⟨S2048x768x1, .f32⟩
  | 101 => ⟨S2048x768x2, .f32⟩
  | 102 => ⟨S1x2048x768x2, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x768, .f32⟩
  | .local _ .vmem, ⟨5, _⟩ => ⟨S512x256, .bf16⟩
  | .local _ .vmem, ⟨6, _⟩ => ⟨S512x256, .bf16⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S512x256, .bf16⟩
  | .local _ .vmem, ⟨12, _⟩ => ⟨S512x256, .bf16⟩
  | .local _ .vmem, ⟨13, _⟩ => ⟨S2048x768, .f32⟩
  | .local _ .vmem, ⟨14, _⟩ => ⟨S2048x768, .f32⟩
  | .local _ .vmem, ⟨15, _⟩ => ⟨S2048x768, .f32⟩
  | .local _ .vmem, ⟨16, _⟩ => ⟨S2048x768, .f32⟩
  | .local _ .vmem, ⟨17, _⟩ => ⟨S2048x768, .f32⟩
  | .local _ .vmem, ⟨18, _⟩ => ⟨S2048x768, .f32⟩
  | .local _ .vmem, ⟨19, _⟩ => ⟨S2048x768, .f32⟩
  | .local _ .vmem, ⟨20, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_cst_14 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_v50 : Ref sig .tc := ⟨.hbm, 72, rfl⟩
abbrev main_c_16 : Ref sig .tc := ⟨.hbm, 73, rfl⟩
abbrev main_v51 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_cst_18 : Ref sig .tc := ⟨.hbm, 78, rfl⟩
abbrev main_v54 : Ref sig .tc := ⟨.hbm, 79, rfl⟩
abbrev main_v55 : Ref sig .tc := ⟨.hbm, 80, rfl⟩
abbrev main_c_19 : Ref sig .tc := ⟨.hbm, 81, rfl⟩
abbrev main_v56 : Ref sig .tc := ⟨.hbm, 82, rfl⟩
abbrev main_v57 : Ref sig .tc := ⟨.hbm, 83, rfl⟩
abbrev main_c_20 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_21 : Ref sig .tc := ⟨.hbm, 88, rfl⟩
abbrev main_v61 : Ref sig .tc := ⟨.hbm, 89, rfl⟩
abbrev main_c_22 : Ref sig .tc := ⟨.hbm, 90, rfl⟩
abbrev main_v62 : Ref sig .tc := ⟨.hbm, 91, rfl⟩
abbrev main_v63 : Ref sig .tc := ⟨.hbm, 92, rfl⟩
abbrev main_c_23 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_24 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_25 : Ref sig .tc := ⟨.hbm, 101, rfl⟩
abbrev main_v70 : Ref sig .tc := ⟨.hbm, 102, rfl⟩
abbrev main_v71 : Ref sig .tc := ⟨.hbm, 103, rfl⟩
abbrev main_c_26 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_27 : Ref sig .tc := ⟨.hbm, 108, rfl⟩
abbrev main_v75 : Ref sig .tc := ⟨.hbm, 109, rfl⟩
abbrev main_c_28 : Ref sig .tc := ⟨.hbm, 110, rfl⟩
abbrev main_v76 : Ref sig .tc := ⟨.hbm, 111, rfl⟩
abbrev main_v77 : Ref sig .tc := ⟨.hbm, 112, rfl⟩
abbrev main_c_29 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_30 : Ref sig .tc := ⟨.hbm, 117, rfl⟩
abbrev main_v81 : Ref sig .tc := ⟨.hbm, 118, rfl⟩
abbrev main_c_31 : Ref sig .tc := ⟨.hbm, 119, rfl⟩
abbrev main_v82 : Ref sig .tc := ⟨.hbm, 120, rfl⟩
abbrev main_v83 : Ref sig .tc := ⟨.hbm, 121, rfl⟩
abbrev main_c_32 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_33 : Ref sig .tc := ⟨.hbm, 126, rfl⟩
abbrev main_v87 : Ref sig .tc := ⟨.hbm, 127, rfl⟩
abbrev main_v88 : Ref sig .tc := ⟨.hbm, 128, rfl⟩
abbrev main_c_34 : Ref sig .tc := ⟨.hbm, 129, rfl⟩
abbrev main_v89 : Ref sig .tc := ⟨.hbm, 130, rfl⟩
abbrev main_v90 : Ref sig .tc := ⟨.hbm, 131, rfl⟩
abbrev main_c_35 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_36 : Ref sig .tc := ⟨.hbm, 136, rfl⟩
abbrev main_v94 : Ref sig .tc := ⟨.hbm, 137, rfl⟩
abbrev main_c_37 : Ref sig .tc := ⟨.hbm, 138, rfl⟩
abbrev main_v95 : Ref sig .tc := ⟨.hbm, 139, rfl⟩
abbrev main_v96 : Ref sig .tc := ⟨.hbm, 140, rfl⟩
abbrev main_c_38 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_39 : Ref sig .tc := ⟨.hbm, 145, rfl⟩
abbrev main_v100 : Ref sig .tc := ⟨.hbm, 146, rfl⟩
abbrev main_c_40 : Ref sig .tc := ⟨.hbm, 147, rfl⟩
abbrev main_v101 : Ref sig .tc := ⟨.hbm, 148, rfl⟩
abbrev main_v102 : Ref sig .tc := ⟨.hbm, 149, rfl⟩
abbrev main_c_41 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_42 : Ref sig .tc := ⟨.hbm, 154, rfl⟩
abbrev main_v106 : Ref sig .tc := ⟨.hbm, 155, rfl⟩
abbrev main_c_43 : Ref sig .tc := ⟨.hbm, 156, rfl⟩
abbrev main_v107 : Ref sig .tc := ⟨.hbm, 157, rfl⟩
abbrev main_v108 : Ref sig .tc := ⟨.hbm, 158, rfl⟩
abbrev main_c_44 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_45 : Ref sig .tc := ⟨.hbm, 163, rfl⟩
abbrev main_v112 : Ref sig .tc := ⟨.hbm, 164, rfl⟩
abbrev main_c_46 : Ref sig .tc := ⟨.hbm, 165, rfl⟩
abbrev main_v113 : Ref sig .tc := ⟨.hbm, 166, rfl⟩
abbrev main_v114 : Ref sig .tc := ⟨.hbm, 167, rfl⟩
abbrev main_c_47 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_48 : Ref sig .tc := ⟨.hbm, 172, rfl⟩
abbrev main_v118 : Ref sig .tc := ⟨.hbm, 173, rfl⟩
abbrev main_c_49 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_c_50 : Ref sig .tc := ⟨.hbm, 184, rfl⟩
abbrev main_v128 : Ref sig .tc := ⟨.hbm, 185, rfl⟩
abbrev main_v129 : Ref sig .tc := ⟨.hbm, 186, rfl⟩
abbrev main_c_51 : Ref sig .tc := ⟨.hbm, 187, rfl⟩
abbrev main_call0_v0 : Ref sig .tc := ⟨.hbm, 188, rfl⟩
abbrev main_call0_c : Ref sig .tc := ⟨.hbm, 189, rfl⟩
abbrev main_call0_v1 : Ref sig .tc := ⟨.hbm, 190, rfl⟩
abbrev main_call0_c_0 : Ref sig .tc := ⟨.hbm, 191, rfl⟩
abbrev main_call0_v2 : Ref sig .tc := ⟨.hbm, 192, rfl⟩
abbrev main_call0_v3 : Ref sig .tc := ⟨.hbm, 193, rfl⟩
abbrev main_call0_v4 : Ref sig .tc := ⟨.hbm, 194, rfl⟩
abbrev main_call0_c_1 : Ref sig .tc := ⟨.hbm, 195, rfl⟩
abbrev main_call0_v5 : Ref sig .tc := ⟨.hbm, 196, rfl⟩
abbrev main_call0_v6 : Ref sig .tc := ⟨.hbm, 197, rfl⟩
abbrev main_call0_c_2 : Ref sig .tc := ⟨.hbm, 198, rfl⟩
abbrev main_call0_v7 : Ref sig .tc := ⟨.hbm, 199, rfl⟩
abbrev main_call0_v8 : Ref sig .tc := ⟨.hbm, 200, rfl⟩
abbrev main_call0_c_3 : Ref sig .tc := ⟨.hbm, 201, rfl⟩
abbrev main_call0_v9 : Ref sig .tc := ⟨.hbm, 202, rfl⟩
abbrev main_call0_v10 : Ref sig .tc := ⟨.hbm, 203, rfl⟩
abbrev main_call0_v11 : Ref sig .tc := ⟨.hbm, 204, rfl⟩
abbrev main_call0_v12 : Ref sig .tc := ⟨.hbm, 205, rfl⟩
abbrev main_call0_v13 : Ref sig .tc := ⟨.hbm, 206, rfl⟩
abbrev main_call0_v14 : Ref sig .tc := ⟨.hbm, 207, rfl⟩
abbrev main_v130 : Ref sig .tc := ⟨.hbm, 208, rfl⟩
abbrev main_c_52 : Ref sig .tc := ⟨.hbm, 209, rfl⟩
abbrev main_v131 : Ref sig .tc := ⟨.hbm, 210, rfl⟩
abbrev main_v132 : Ref sig .tc := ⟨.hbm, 211, rfl⟩
abbrev main_c_53 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143_0 : Ref sig .tc := ⟨.hbm, 223, rfl⟩
abbrev main_v143_1 : Ref sig .tc := ⟨.hbm, 224, rfl⟩
abbrev main_v144_0 : Ref sig .tc := ⟨.hbm, 225, rfl⟩
abbrev main_v144_1 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc1_scratch7 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

@[reducible] def k1_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k1_off1 (k1_t1 : Fin k1_t1_loop.trips) : Fin 2 → Nat :=
  let c0_i32 : BitVec 32 := 0#32
  let c1_i32 : BitVec 32 := 1#32
  let arg16 : BitVec 32 := Scf.iv c0_i32 c1_i32 k1_t1
  let c256_i32 : BitVec 32 := 256#32
  let v12 : BitVec 32 := Scalar.muli arg16 c256_i32
  let v13 : Index := Scalar.indexCast v12
  let c0_14 : Index := 0#32
  ![v13.toNat, 0]
@[reducible] def k1_t2_loop : Scf.Loop 32 :=
  let c0_i32_8 : BitVec 32 := 0#32
  let c20_i32 : BitVec 32 := 20#32
  let v9 : BitVec 32 := Scalar.addi c0_i32_8 c20_i32
  let c1_i32_9 : BitVec 32 := 1#32
  ⟨c0_i32_8, v9, c1_i32_9⟩
@[reducible] def k1_t3_loop : Scf.Loop 32 :=
  let c0_i32_16 : BitVec 32 := 0#32
  let c8_i32_17 : BitVec 32 := 8#32
  let v15 : BitVec 32 := Scalar.addi c0_i32_16 c8_i32_17
  let c1_i32_18 : BitVec 32 := 1#32
  ⟨c0_i32_16, v15, c1_i32_18⟩
def k1_off2 (k1_t3 : Fin k1_t3_loop.trips) : Fin 2 → Nat :=
  let c0_i32_16 : BitVec 32 := 0#32
  let c1_i32_18 : BitVec 32 := 1#32
  let arg20 : BitVec 32 := Scf.iv c0_i32_16 c1_i32_18 k1_t3
  let c256_i32 : BitVec 32 := 256#32
  let v25 : BitVec 32 := Scalar.muli arg20 c256_i32
  let v26 : Index := Scalar.indexCast v25
  let c0_29 : Index := 0#32
  ![v26.toNat, 0]
@[reducible] def k1_t4_loop : Scf.Loop 32 :=
  let c0_i32_23 : BitVec 32 := 0#32
  let c8_i32_24 : BitVec 32 := 8#32
  let v20 : BitVec 32 := Scalar.addi c0_i32_23 c8_i32_24
  let c1_i32_25 : BitVec 32 := 1#32
  ⟨c0_i32_23, v20, c1_i32_25⟩
def k1_off3 (k1_t4 : Fin k1_t4_loop.trips) : Fin 2 → Nat :=
  let c0_i32_23 : BitVec 32 := 0#32
  let c1_i32_25 : BitVec 32 := 1#32
  let arg20 : BitVec 32 := Scf.iv c0_i32_23 c1_i32_25 k1_t4
  let c256_i32 : BitVec 32 := 256#32
  let v25 : BitVec 32 := Scalar.muli arg20 c256_i32
  let v26 : Index := Scalar.indexCast v25
  let c0_29 : Index := 0#32
  ![v26.toNat, 0]
@[reducible] def k1_t5_loop : Scf.Loop 32 :=
  let c0_i32_10 : BitVec 32 := 0#32
  let c8_i32_11 : BitVec 32 := 8#32
  let v11 : BitVec 32 := Scalar.addi c0_i32_10 c8_i32_11
  let c1_i32_12 : BitVec 32 := 1#32
  ⟨c0_i32_10, v11, c1_i32_12⟩
def k1_off4 (k1_t5 : Fin k1_t5_loop.trips) : Fin 2 → Nat :=
  let c0_i32_10 : BitVec 32 := 0#32
  let c1_i32_12 : BitVec 32 := 1#32
  let arg16 : BitVec 32 := Scf.iv c0_i32_10 c1_i32_12 k1_t5
  let c256_i32 : BitVec 32 := 256#32
  let v12 : BitVec 32 := Scalar.muli arg16 c256_i32
  let v13 : Index := Scalar.indexCast v12
  let c0_14 : Index := 0#32
  ![v13.toNat, 0]
abbrev stage1_0 : Fin 1 → Memref sig .tc .vmem S512x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1x2048x768 : Shape := ⟨3, ![1, 2048, 768]⟩
abbrev S768 : Shape := ⟨1, ![768]⟩
abbrev S3 : Shape := ⟨1, ![3]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1 : Shape := ⟨1, ![1]⟩
abbrev S1x2048x767 : Shape := ⟨3, ![1, 2048, 767]⟩
abbrev S1x2048x2 : Shape := ⟨3, ![1, 2048, 2]⟩
abbrev S1x2048x766 : Shape := ⟨3, ![1, 2048, 766]⟩
abbrev S1x2048x3 : Shape := ⟨3, ![1, 2048, 3]⟩
abbrev S1x2048x765 : Shape := ⟨3, ![1, 2048, 765]⟩
abbrev S1x2048x4 : Shape := ⟨3, ![1, 2048, 4]⟩
abbrev S1x2048x764 : Shape := ⟨3, ![1, 2048, 764]⟩
abbrev S1x2048x5 : Shape := ⟨3, ![1, 2048, 5]⟩
abbrev S1x2048x763 : Shape := ⟨3, ![1, 2048, 763]⟩
abbrev S1x2048x6 : Shape := ⟨3, ![1, 2048, 6]⟩
abbrev S1x2048x762 : Shape := ⟨3, ![1, 2048, 762]⟩
abbrev S1x2048x8 : Shape := ⟨3, ![1, 2048, 8]⟩
abbrev S1x2048x760 : Shape := ⟨3, ![1, 2048, 760]⟩
abbrev S1x2048x10 : Shape := ⟨3, ![1, 2048, 10]⟩
abbrev S1x2048x758 : Shape := ⟨3, ![1, 2048, 758]⟩
abbrev S1x2048x12 : Shape := ⟨3, ![1, 2048, 12]⟩
abbrev S1x2048x756 : Shape := ⟨3, ![1, 2048, 756]⟩
abbrev S1x2048x16 : Shape := ⟨3, ![1, 2048, 16]⟩
abbrev S1x2048x752 : Shape := ⟨3, ![1, 2048, 752]⟩
abbrev S1x2048x20 : Shape := ⟨3, ![1, 2048, 20]⟩
abbrev S1x2048x748 : Shape := ⟨3, ![1, 2048, 748]⟩
abbrev S1x2048x768x1 : Shape := ⟨4, ![1, 2048, 768, 1]⟩
abbrev S1x2048x768x2 : Shape := ⟨4, ![1, 2048, 768, 2]⟩
abbrev S2048x768x2 : Shape := ⟨3, ![2048, 768, 2]⟩
abbrev S2048x768x1 : Shape := ⟨3, ![2048, 768, 1]⟩
abbrev S2048x768 : Shape := ⟨2, ![2048, 768]⟩
abbrev S2048x1 : Shape := ⟨2, ![2048, 1]⟩
abbrev S2048x767 : Shape := ⟨2, ![2048, 767]⟩
abbrev S2048x2 : Shape := ⟨2, ![2048, 2]⟩
abbrev S2048x766 : Shape := ⟨2, ![2048, 766]⟩
abbrev S2048x3 : Shape := ⟨2, ![2048, 3]⟩
abbrev S2048x765 : Shape := ⟨2, ![2048, 765]⟩
abbrev S2048x4 : Shape := ⟨2, ![2048, 4]⟩
abbrev S2048x764 : Shape := ⟨2, ![2048, 764]⟩
abbrev S2048x5 : Shape := ⟨2, ![2048, 5]⟩
abbrev S2048x763 : Shape := ⟨2, ![2048, 763]⟩
abbrev S2048x6 : Shape := ⟨2, ![2048, 6]⟩
abbrev S2048x762 : Shape := ⟨2, ![2048, 762]⟩
abbrev S2048x8 : Shape := ⟨2, ![2048, 8]⟩
abbrev S2048x760 : Shape := ⟨2, ![2048, 760]⟩
abbrev S2048x10 : Shape := ⟨2, ![2048, 10]⟩
abbrev S2048x758 : Shape := ⟨2, ![2048, 758]⟩
abbrev S2048x12 : Shape := ⟨2, ![2048, 12]⟩
abbrev S2048x756 : Shape := ⟨2, ![2048, 756]⟩
abbrev S2048x16 : Shape := ⟨2, ![2048, 16]⟩
abbrev S2048x752 : Shape := ⟨2, ![2048, 752]⟩
abbrev S2048x20 : Shape := ⟨2, ![2048, 20]⟩
abbrev S2048x748 : Shape := ⟨2, ![2048, 748]⟩

abbrev nBuf : Space → Nat
  | .hbm => 975
  | .vmem => 0
  | .smem => 0
  | _ => 0

abbrev hbmTy0_0 (i : Nat) : BufTy := match i % 128 with
  | 0 => ⟨S1x2048x768, .f32⟩
  | 1 => ⟨S1x2048x768, .f32⟩
  | 2 => ⟨S768, .f32⟩
  | 3 => ⟨S3, .f32⟩
  | 4 => ⟨S1x2048x768, .f32⟩
  | 5 => ⟨S1x2048x768, .f32⟩
  | 6 => ⟨S1x2048x768, .f32⟩
  | 7 => ⟨S_, .f32⟩
  | 8 => ⟨S1x2048, .f32⟩
  | 9 => ⟨S1x2048x1, .f32⟩
  | 10 => ⟨S_, .f32⟩
  | 11 => ⟨S1x2048x1, .f32⟩
  | 12 => ⟨S1x2048x1, .f32⟩
  | 13 => ⟨S_, .f32⟩
  | 14 => ⟨S1x2048x1, .f32⟩
  | 15 => ⟨S1x2048x1, .f32⟩
  | 16 => ⟨S1x2048x768, .f32⟩
  | 17 => ⟨S1x2048x768, .f32⟩
  | 18 => ⟨S1x1x768, .f32⟩
  | 19 => ⟨S1x2048x768, .f32⟩
  | 20 => ⟨S1x2048x768, .f32⟩
  | 21 => ⟨S1x2048x768, .f32⟩
  | 22 => ⟨S1x2048x768, .f32⟩
  | 23 => ⟨S1x2048x768, .f32⟩
  | 24 => ⟨S1x2048x768, .f32⟩
  | 25 => ⟨S1x2048x768, .f32⟩
  | 26 => ⟨S1x2048x768, .f32⟩
  | 27 => ⟨S1x2048x768, .f32⟩
  | 28 => ⟨S1x2048x768, .f32⟩
  | 29 => ⟨S1, .f32⟩
  | 30 => ⟨S_, .f32⟩
  | 31 => ⟨S_, .f32⟩
  | 32 => ⟨S_, .f32⟩
  | 33 => ⟨S_, .f32⟩
  | 34 => ⟨S_, .f32⟩
  | 35 => ⟨S1, .f32⟩
  | 36 => ⟨S_, .f32⟩
  | 37 => ⟨S_, .f32⟩
  | 38 => ⟨S_, .f32⟩
  | 39 => ⟨S_, .f32⟩
  | 40 => ⟨S_, .f32⟩
  | 41 => ⟨S1, .f32⟩
  | 42 => ⟨S_, .f32⟩
  | 43 => ⟨S_, .f32⟩
  | 44 => ⟨S_, .f32⟩
  | 45 => ⟨S_, .f32⟩
  | 46 => ⟨S_, .f32⟩
  | 47 => ⟨S1, .f32⟩
  | 48 => ⟨S_, .f32⟩
  | 49 => ⟨S_, .f32⟩
  | 50 => ⟨S_, .f32⟩
  | 51 => ⟨S_, .f32⟩
  | 52 => ⟨S_, .f32⟩
  | 53 => ⟨S1, .f32⟩
  | 54 => ⟨S_, .f32⟩
  | 55 => ⟨S_, .f32⟩
  | 56 => ⟨S_, .f32⟩
  | 57 => ⟨S_, .f32⟩
  | 58 => ⟨S_, .f32⟩
  | 59 => ⟨S1, .f32⟩
  | 60 => ⟨S_, .f32⟩
  | 61 => ⟨S_, .f32⟩
  | 62 => ⟨S_, .f32⟩
  | 63 => ⟨S_, .f32⟩
  | 64 => ⟨S1, .f32⟩
  | 65 => ⟨S_, .f32⟩
  | 66 => ⟨S_, .f32⟩
  | 67 => ⟨S_, .f32⟩
  | 68 => ⟨S_, .f32⟩
  | 69 => ⟨S1, .f32⟩
  | 70 => ⟨S_, .f32⟩
  | 71 => ⟨S_, .f32⟩
  | 72 => ⟨S_, .f32⟩
  | 73 => ⟨S_, .f32⟩
  | 74 => ⟨S_, .f32⟩
  | 75 => ⟨S1, .f32⟩
  | 76 => ⟨S_, .f32⟩
  | 77 => ⟨S_, .f32⟩
  | 78 => ⟨S_, .f32⟩
  | 79 => ⟨S_, .f32⟩
  | 80 => ⟨S_, .f32⟩
  | 81 => ⟨S1, .f32⟩
  | 82 => ⟨S_, .f32⟩
  | 83 => ⟨S_, .f32⟩
  | 84 => ⟨S_, .f32⟩
  | 85 => ⟨S_, .f32⟩
  | 86 => ⟨S_, .f32⟩
  | 87 => ⟨S1, .f32⟩
  | 88 => ⟨S_, .f32⟩
  | 89 => ⟨S_, .f32⟩
  | 90 => ⟨S_, .f32⟩
  | 91 => ⟨S_, .f32⟩
  | 92 => ⟨S1, .f32⟩
  | 93 => ⟨S_, .f32⟩
  | 94 => ⟨S_, .f32⟩
  | 95 => ⟨S_, .f32⟩
  | 96 => ⟨S_, .f32⟩
  | 97 => ⟨S1, .f32⟩
  | 98 => ⟨S_, .f32⟩
  | 99 => ⟨S_, .f32⟩
  | 100 => ⟨S_, .f32⟩
  | 101 => ⟨S_, .f32⟩
  | 102 => ⟨S_, .f32⟩
  | 103 => ⟨S1, .f32⟩
  | 104 => ⟨S_, .f32⟩
  | 105 => ⟨S_, .f32⟩
  | 106 => ⟨S_, .f32⟩
  | 107 => ⟨S_, .f32⟩
  | 108 => ⟨S_, .f32⟩
  | 109 => ⟨S1, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x2048x768, .f32⟩
  | 117 => ⟨S1x2048x1, .f32⟩
  | 118 => ⟨S1x2048x767, .f32⟩
  | 119 => ⟨S1x2048x768, .f32⟩
  | 120 => ⟨S1x2048x767, .f32⟩
  | 121 => ⟨S1x2048x1, .f32⟩
  | 122 => ⟨S1x2048x768, .f32⟩
  | 123 => ⟨S1x2048x768, .f32⟩
  | 124 => ⟨S1x2048x768, .f32⟩
  | 125 => ⟨S1x2048x768, .f32⟩
  | 126 => ⟨S1x2048x768, .f32⟩
  | 127 => ⟨S_, .f32⟩
  | _ => ⟨S1x2048x768, .f32⟩

abbrev hbmTy0_1 (i : Nat) : BufTy := match i % 128 with
  | 0 => ⟨S_, .f32⟩
  | 1 => ⟨S1x2048x2, .f32⟩
  | 2 => ⟨S1x2048x766, .f32⟩
  | 3 => ⟨S1x2048x768, .f32⟩
  | 4 => ⟨S1x2048x766, .f32⟩
  | 5 => ⟨S1x2048x2, .f32⟩
  | 6 => ⟨S1x2048x768, .f32⟩
  | 7 => ⟨S1x2048x768, .f32⟩
  | 8 => ⟨S1x2048x768, .f32⟩
  | 9 => ⟨S1x2048x768, .f32⟩
  | 10 => ⟨S1x2048x768, .f32⟩
  | 11 => ⟨S_, .f32⟩
  | 12 => ⟨S1x2048x3, .f32⟩
  | 13 => ⟨S1x2048x765, .f32⟩
  | 14 => ⟨S1x2048x768, .f32⟩
  | 15 => ⟨S1x2048x765, .f32⟩
  | 16 => ⟨S1x2048x3, .f32⟩
  | 17 => ⟨S1x2048x768, .f32⟩
  | 18 => ⟨S1x2048x768, .f32⟩
  | 19 => ⟨S1x2048x768, .f32⟩
  | 20 => ⟨S1x2048x768, .f32⟩
  | 21 => ⟨S1x2048x768, .f32⟩
  | 22 => ⟨S_, .f32⟩
  | 23 => ⟨S1x2048x4, .f32⟩
  | 24 => ⟨S1x2048x764, .f32⟩
  | 25 => ⟨S1x2048x768, .f32⟩
  | 26 => ⟨S1x2048x764, .f32⟩
  | 27 => ⟨S1x2048x4, .f32⟩
  | 28 => ⟨S1x2048x768, .f32⟩
  | 29 => ⟨S1x2048x768, .f32⟩
  | 30 => ⟨S1x2048x768, .f32⟩
  | 31 => ⟨S1x2048x768, .f32⟩
  | 32 => ⟨S1x2048x768, .f32⟩
  | 33 => ⟨S_, .f32⟩
  | 34 => ⟨S1x2048x5, .f32⟩
  | 35 => ⟨S1x2048x763, .f32⟩
  | 36 => ⟨S1x2048x768, .f32⟩
  | 37 => ⟨S1x2048x763, .f32⟩
  | 38 => ⟨S1x2048x5, .f32⟩
  | 39 => ⟨S1x2048x768, .f32⟩
  | 40 => ⟨S1x2048x768, .f32⟩
  | 41 => ⟨S1x2048x768, .f32⟩
  | 42 => ⟨S1x2048x768, .f32⟩
  | 43 => ⟨S1x2048x768, .f32⟩
  | 44 => ⟨S_, .f32⟩
  | 45 => ⟨S1x2048x6, .f32⟩
  | 46 => ⟨S1x2048x762, .f32⟩
  | 47 => ⟨S1x2048x768, .f32⟩
  | 48 => ⟨S1x2048x762, .f32⟩
  | 49 => ⟨S1x2048x6, .f32⟩
  | 50 => ⟨S1x2048x768, .f32⟩
  | 51 => ⟨S1x2048x768, .f32⟩
  | 52 => ⟨S1x2048x768, .f32⟩
  | 53 => ⟨S1x2048x768, .f32⟩
  | 54 => ⟨S1x2048x768, .f32⟩
  | 55 => ⟨S_, .f32⟩
  | 56 => ⟨S1x2048x8, .f32⟩
  | 57 => ⟨S1x2048x760, .f32⟩
  | 58 => ⟨S1x2048x768, .f32⟩
  | 59 => ⟨S1x2048x760, .f32⟩
  | 60 => ⟨S1x2048x8, .f32⟩
  | 61 => ⟨S1x2048x768, .f32⟩
  | 62 => ⟨S1x2048x768, .f32⟩
  | 63 => ⟨S1x2048x768, .f32⟩
  | 64 => ⟨S1x2048x768, .f32⟩
  | 65 => ⟨S1x2048x768, .f32⟩
  | 66 => ⟨S_, .f32⟩
  | 67 => ⟨S1x2048x10, .f32⟩
  | 68 => ⟨S1x2048x758, .f32⟩
  | 69 => ⟨S1x2048x768, .f32⟩
  | 70 => ⟨S1x2048x758, .f32⟩
  | 71 => ⟨S1x2048x10, .f32⟩
  | 72 => ⟨S1x2048x768, .f32⟩
  | 73 => ⟨S1x2048x768, .f32⟩
  | 74 => ⟨S1x2048x768, .f32⟩
  | 75 => ⟨S1x2048x768, .f32⟩
  | 76 => ⟨S1x2048x768, .f32⟩
  | 77 => ⟨S_, .f32⟩
  | 78 => ⟨S1x2048x12, .f32⟩
  | 79 => ⟨S1x2048x756, .f32⟩
  | 80 => ⟨S1x2048x768, .f32⟩
  | 81 => ⟨S1x2048x756, .f32⟩
  | 82 => ⟨S1x2048x12, .f32⟩
  | 83 => ⟨S1x2048x768, .f32⟩
  | 84 => ⟨S1x2048x768, .f32⟩
  | 85 => ⟨S1x2048x768, .f32⟩
  | 86 => ⟨S1x2048x768, .f32⟩
  | 87 => ⟨S1x2048x768, .f32⟩
  | 88 => ⟨S_, .f32⟩
  | 89 => ⟨S1x2048x16, .f32⟩
  | 90 => ⟨S1x2048x752, .f32⟩
  | 91 => ⟨S1x2048x768, .f32⟩
  | 92 => ⟨S1x2048x752, .f32⟩
  | 93 => ⟨S1x2048x16, .f32⟩
  | 94 => ⟨S1x2048x768, .f32⟩
  | 95 => ⟨S1x2048x768, .f32⟩
  | 96 => ⟨S1x2048x768, .f32⟩
  | 97 => ⟨S1x2048x768, .f32⟩
  | 98 => ⟨S1x2048x768, .f32⟩
  | 99 => ⟨S_, .f32⟩
  | 100 => ⟨S1x2048x20, .f32⟩
  | 101 => ⟨S1x2048x748, .f32⟩
  | 102 => ⟨S1x2048x768, .f32⟩
  | 103 => ⟨S1x2048x748, .f32⟩
  | 104 => ⟨S1x2048x20, .f32⟩
  | 105 => ⟨S1x2048x768, .f32⟩
  | 106 => ⟨S1x2048x768, .f32⟩
  | 107 => ⟨S1x2048x768, .f32⟩
  | 108 => ⟨S1x2048x768, .f32⟩
  | 109 => ⟨S1x2048x768, .f32⟩
  | 110 => ⟨S_, .f32⟩
  | 111 => ⟨S_, .f32⟩
  | 112 => ⟨S_, .f32⟩
  | 113 => ⟨S1x2048x768, .f32⟩
  | 114 => ⟨S1x2048x768, .f32⟩
  | 115 => ⟨S1x2048x768, .f32⟩
  | 116 => ⟨S1, .f32⟩
  | 117 => ⟨S_, .f32⟩
  | 118 => ⟨S_, .f32⟩
  | 119 => ⟨S_, .f32⟩
  | 120 => ⟨S_, .f32⟩
  | 121 => ⟨S_, .f32⟩
  | 122 => ⟨S1, .f32⟩
  | 123 => ⟨S_, .f32⟩
  | 124 => ⟨S_, .f32⟩
  | 125 => ⟨S_, .f32⟩
  | 126 => ⟨S_, .f32⟩
  | 127 => ⟨S_, .f32⟩
  | _ => ⟨S1x2048x768, .f32⟩

abbrev hbmTy0_2 (i : Nat) : BufTy := match i % 128 with
  | 0 => ⟨S1, .f32⟩
  | 1 => ⟨S_, .f32⟩
  | 2 => ⟨S_, .f32⟩
  | 3 => ⟨S_, .f32⟩
  | 4 => ⟨S_, .f32⟩
  | 5 => ⟨S_, .f32⟩
  | 6 => ⟨S1, .f32⟩
  | 7 => ⟨S_, .f32⟩
  | 8 => ⟨S_, .f32⟩
  | 9 => ⟨S_, .f32⟩
  | 10 => ⟨S_, .f32⟩
  | 11 => ⟨S_, .f32⟩
  | 12 => ⟨S1, .f32⟩
  | 13 => ⟨S_, .f32⟩
  | 14 => ⟨S_, .f32⟩
  | 15 => ⟨S_, .f32⟩
  | 16 => ⟨S_, .f32⟩
  | 17 => ⟨S_, .f32⟩
  | 18 => ⟨S1, .f32⟩
  | 19 => ⟨S_, .f32⟩
  | 20 => ⟨S_, .f32⟩
  | 21 => ⟨S_, .f32⟩
  | 22 => ⟨S_, .f32⟩
  | 23 => ⟨S1, .f32⟩
  | 24 => ⟨S_, .f32⟩
  | 25 => ⟨S_, .f32⟩
  | 26 => ⟨S_, .f32⟩
  | 27 => ⟨S_, .f32⟩
  | 28 => ⟨S1, .f32⟩
  | 29 => ⟨S_, .f32⟩
  | 30 => ⟨S_, .f32⟩
  | 31 => ⟨S_, .f32⟩
  | 32 => ⟨S_, .f32⟩
  | 33 => ⟨S_, .f32⟩
  | 34 => ⟨S1, .f32⟩
  | 35 => ⟨S_, .f32⟩
  | 36 => ⟨S_, .f32⟩
  | 37 => ⟨S_, .f32⟩
  | 38 => ⟨S_, .f32⟩
  | 39 => ⟨S_, .f32⟩
  | 40 => ⟨S1, .f32⟩
  | 41 => ⟨S_, .f32⟩
  | 42 => ⟨S_, .f32⟩
  | 43 => ⟨S_, .f32⟩
  | 44 => ⟨S_, .f32⟩
  | 45 => ⟨S_, .f32⟩
  | 46 => ⟨S1, .f32⟩
  | 47 => ⟨S_, .f32⟩
  | 48 => ⟨S_, .f32⟩
  | 49 => ⟨S_, .f32⟩
  | 50 => ⟨S_, .f32⟩
  | 51 => ⟨S1, .f32⟩
  | 52 => ⟨S_, .f32⟩
  | 53 => ⟨S_, .f32⟩
  | 54 => ⟨S_, .f32⟩
  | 55 => ⟨S_, .f32⟩
  | 56 => ⟨S1, .f32⟩
  | 57 => ⟨S_, .f32⟩
  | 58 => ⟨S_, .f32⟩
  | 59 => ⟨S_, .f32⟩
  | 60 => ⟨S_, .f32⟩
  | 61 => ⟨S_, .f32⟩
  | 62 => ⟨S1, .f32⟩
  | 63 => ⟨S_, .f32⟩
  | 64 => ⟨S_, .f32⟩
  | 65 => ⟨S_, .f32⟩
  | 66 => ⟨S_, .f32⟩
  | 67 => ⟨S_, .f32⟩
  | 68 => ⟨S1, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S1x2048x768, .f32⟩
  | 76 => ⟨S1x2048x1, .f32⟩
  | 77 => ⟨S1x2048x767, .f32⟩
  | 78 => ⟨S1x2048x768, .f32⟩
  | 79 => ⟨S1x2048x767, .f32⟩
  | 80 => ⟨S1x2048x1, .f32⟩
  | 81 => ⟨S1x2048x768, .f32⟩
  | 82 => ⟨S1x2048x768, .f32⟩
  | 83 => ⟨S1x2048x768, .f32⟩
  | 84 => ⟨S1x2048x768, .f32⟩
  | 85 => ⟨S1x2048x768, .f32⟩
  | 86 => ⟨S_, .f32⟩
  | 87 => ⟨S_, .f32⟩
  | 88 => ⟨S1x2048x2, .f32⟩
  | 89 => ⟨S1x2048x766, .f32⟩
  | 90 => ⟨S1x2048x768, .f32⟩
  | 91 => ⟨S1x2048x766, .f32⟩
  | 92 => ⟨S1x2048x2, .f32⟩
  | 93 => ⟨S1x2048x768, .f32⟩
  | 94 => ⟨S1x2048x768, .f32⟩
  | 95 => ⟨S1x2048x768, .f32⟩
  | 96 => ⟨S1x2048x768, .f32⟩
  | 97 => ⟨S1x2048x768, .f32⟩
  | 98 => ⟨S_, .f32⟩
  | 99 => ⟨S1x2048x3, .f32⟩
  | 100 => ⟨S1x2048x765, .f32⟩
  | 101 => ⟨S1x2048x768, .f32⟩
  | 102 => ⟨S1x2048x765, .f32⟩
  | 103 => ⟨S1x2048x3, .f32⟩
  | 104 => ⟨S1x2048x768, .f32⟩
  | 105 => ⟨S1x2048x768, .f32⟩
  | 106 => ⟨S1x2048x768, .f32⟩
  | 107 => ⟨S1x2048x768, .f32⟩
  | 108 => ⟨S1x2048x768, .f32⟩
  | 109 => ⟨S_, .f32⟩
  | 110 => ⟨S1x2048x4, .f32⟩
  | 111 => ⟨S1x2048x764, .f32⟩
  | 112 => ⟨S1x2048x768, .f32⟩
  | 113 => ⟨S1x2048x764, .f32⟩
  | 114 => ⟨S1x2048x4, .f32⟩
  | 115 => ⟨S1x2048x768, .f32⟩
  | 116 => ⟨S1x2048x768, .f32⟩
  | 117 => ⟨S1x2048x768, .f32⟩
  | 118 => ⟨S1x2048x768, .f32⟩
  | 119 => ⟨S1x2048x768, .f32⟩
  | 120 => ⟨S_, .f32⟩
  | 121 => ⟨S1x2048x5, .f32⟩
  | 122 => ⟨S1x2048x763, .f32⟩
  | 123 => ⟨S1x2048x768, .f32⟩
  | 124 => ⟨S1x2048x763, .f32⟩
  | 125 => ⟨S1x2048x5, .f32⟩
  | 126 => ⟨S1x2048x768, .f32⟩
  | 127 => ⟨S1x2048x768, .f32⟩
  | _ => ⟨S1x2048x768, .f32⟩

abbrev hbmTy0_3 (i : Nat) : BufTy := match i % 128 with
  | 0 => ⟨S1x2048x768, .f32⟩
  | 1 => ⟨S1x2048x768, .f32⟩
  | 2 => ⟨S1x2048x768, .f32⟩
  | 3 => ⟨S_, .f32⟩
  | 4 => ⟨S1x2048x6, .f32⟩
  | 5 => ⟨S1x2048x762, .f32⟩
  | 6 => ⟨S1x2048x768, .f32⟩
  | 7 => ⟨S1x2048x762, .f32⟩
  | 8 => ⟨S1x2048x6, .f32⟩
  | 9 => ⟨S1x2048x768, .f32⟩
  | 10 => ⟨S1x2048x768, .f32⟩
  | 11 => ⟨S1x2048x768, .f32⟩
  | 12 => ⟨S1x2048x768, .f32⟩
  | 13 => ⟨S1x2048x768, .f32⟩
  | 14 => ⟨S_, .f32⟩
  | 15 => ⟨S1x2048x8, .f32⟩
  | 16 => ⟨S1x2048x760, .f32⟩
  | 17 => ⟨S1x2048x768, .f32⟩
  | 18 => ⟨S1x2048x760, .f32⟩
  | 19 => ⟨S1x2048x8, .f32⟩
  | 20 => ⟨S1x2048x768, .f32⟩
  | 21 => ⟨S1x2048x768, .f32⟩
  | 22 => ⟨S1x2048x768, .f32⟩
  | 23 => ⟨S1x2048x768, .f32⟩
  | 24 => ⟨S1x2048x768, .f32⟩
  | 25 => ⟨S_, .f32⟩
  | 26 => ⟨S1x2048x10, .f32⟩
  | 27 => ⟨S1x2048x758, .f32⟩
  | 28 => ⟨S1x2048x768, .f32⟩
  | 29 => ⟨S1x2048x758, .f32⟩
  | 30 => ⟨S1x2048x10, .f32⟩
  | 31 => ⟨S1x2048x768, .f32⟩
  | 32 => ⟨S1x2048x768, .f32⟩
  | 33 => ⟨S1x2048x768, .f32⟩
  | 34 => ⟨S1x2048x768, .f32⟩
  | 35 => ⟨S1x2048x768, .f32⟩
  | 36 => ⟨S_, .f32⟩
  | 37 => ⟨S1x2048x12, .f32⟩
  | 38 => ⟨S1x2048x756, .f32⟩
  | 39 => ⟨S1x2048x768, .f32⟩
  | 40 => ⟨S1x2048x756, .f32⟩
  | 41 => ⟨S1x2048x12, .f32⟩
  | 42 => ⟨S1x2048x768, .f32⟩
  | 43 => ⟨S1x2048x768, .f32⟩
  | 44 => ⟨S1x2048x768, .f32⟩
  | 45 => ⟨S1x2048x768, .f32⟩
  | 46 => ⟨S1x2048x768, .f32⟩
  | 47 => ⟨S_, .f32⟩
  | 48 => ⟨S1x2048x16, .f32⟩
  | 49 => ⟨S1x2048x752, .f32⟩
  | 50 => ⟨S1x2048x768, .f32⟩
  | 51 => ⟨S1x2048x752, .f32⟩
  | 52 => ⟨S1x2048x16, .f32⟩
  | 53 => ⟨S1x2048x768, .f32⟩
  | 54 => ⟨S1x2048x768, .f32⟩
  | 55 => ⟨S1x2048x768, .f32⟩
  | 56 => ⟨S1x2048x768, .f32⟩
  | 57 => ⟨S1x2048x768, .f32⟩
  | 58 => ⟨S_, .f32⟩
  | 59 => ⟨S1x2048x20, .f32⟩
  | 60 => ⟨S1x2048x748, .f32⟩
  | 61 => ⟨S1x2048x768, .f32⟩
  | 62 => ⟨S1x2048x748, .f32⟩
  | 63 => ⟨S1x2048x20, .f32⟩
  | 64 => ⟨S1x2048x768, .f32⟩
  | 65 => ⟨S1x2048x768, .f32⟩
  | 66 => ⟨S1x2048x768, .f32⟩
  | 67 => ⟨S1x2048x768, .f32⟩
  | 68 => ⟨S1x2048x768, .f32⟩
  | 69 => ⟨S_, .f32⟩
  | 70 => ⟨S_, .f32⟩
  | 71 => ⟨S_, .f32⟩
  | 72 => ⟨S1x2048x768, .f32⟩
  | 73 => ⟨S1x2048x768, .f32⟩
  | 74 => ⟨S1x2048x768, .f32⟩
  | 75 => ⟨S_, .f32⟩
  | 76 => ⟨S1x2048x768, .f32⟩
  | 77 => ⟨S1x2048x768, .f32⟩
  | 78 => ⟨S1x2048x768, .f32⟩
  | 79 => ⟨S_, .f32⟩
  | 80 => ⟨S1x2048x768, .f32⟩
  | 81 => ⟨S1x2048x768, .f32⟩
  | 82 => ⟨S1x2048x768, .f32⟩
  | 83 => ⟨S1x2048x768x1, .f32⟩
  | 84 => ⟨S1x2048x768x1, .f32⟩
  | 85 => ⟨S1x2048x768x2, .f32⟩
  | 86 => ⟨S2048x768x2, .f32⟩
  | 87 => ⟨S2048x768x2, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S2048x768x2, .f32⟩
  | 95 => ⟨S2048x768x2, .f32⟩
  | 96 => ⟨S_, .f32⟩
  | 97 => ⟨S_, .f32⟩
  | 98 => ⟨S_, .i32⟩
  | 99 => ⟨S_, .i32⟩
  | 100 => ⟨S_, .f32⟩
  | 101 => ⟨S3, .f32⟩
  | 102 => ⟨S_, .i32⟩
  | 103 => ⟨S_, .i32⟩
  | 104 => ⟨S2048x768x2, .f32⟩
  | 105 => ⟨S2048x768x2, .f32⟩
  | 106 => ⟨S2048x768x2, .f32⟩
  | 107 => ⟨S_, .f32⟩
  | 108 => ⟨S_, .i32⟩
  | 109 => ⟨S_, .i1⟩
  | 110 => ⟨S_, .i32⟩
  | 111 => ⟨S_, .i32⟩
  | 112 => ⟨S_, .f32⟩
  | 113 => ⟨S_, .f32⟩
  | 114 => ⟨S_, .f32⟩
  | 115 => ⟨S_, .i1⟩
  | 116 => ⟨S2048x768x1, .f32⟩
  | 117 => ⟨S2048x768, .f32⟩
  | 118 => ⟨S2048x768x1, .f32⟩
  | 119 => ⟨S2048x768, .f32⟩
  | 120 => ⟨S1, .f32⟩
  | 121 => ⟨S_, .f32⟩
  | 122 => ⟨S_, .f32⟩
  | 123 => ⟨S_, .f32⟩
  | 124 => ⟨S_, .f32⟩
  | 125 => ⟨S_, .f32⟩
  | 126 => ⟨S1, .f32⟩
  | 127 => ⟨S_, .f32⟩
  | _ => ⟨S1x2048x768, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S1, .f32⟩
  | 5 => ⟨S_, .f32⟩
  | 6 => ⟨S_, .f32⟩
  | 7 => ⟨S_, .f32⟩
  | 8 => ⟨S_, .f32⟩
  | 9 => ⟨S_, .f32⟩
  | 10 => ⟨S1, .f32⟩
  | 11 => ⟨S_, .f32⟩
  | 12 => ⟨S_, .f32⟩
  | 13 => ⟨S_, .f32⟩
  | 14 => ⟨S_, .f32⟩
  | 15 => ⟨S_, .f32⟩
  | 16 => ⟨S1, .f32⟩
  | 17 => ⟨S_, .f32⟩
  | 18 => ⟨S_, .f32⟩
  | 19 => ⟨S_, .f32⟩
  | 20 => ⟨S_, .f32⟩
  | 21 => ⟨S_, .f32⟩
  | 22 => ⟨S1, .f32⟩
  | 23 => ⟨S_, .f32⟩
  | 24 => ⟨S_, .f32⟩
  | 25 => ⟨S_, .f32⟩
  | 26 => ⟨S_, .f32⟩
  | 27 => ⟨S1, .f32⟩
  | 28 => ⟨S_, .f32⟩
  | 29 => ⟨S_, .f32⟩
  | 30 => ⟨S_, .f32⟩
  | 31 => ⟨S_, .f32⟩
  | 32 => ⟨S1, .f32⟩
  | 33 => ⟨S_, .f32⟩
  | 34 => ⟨S_, .f32⟩
  | 35 => ⟨S_, .f32⟩
  | 36 => ⟨S_, .f32⟩
  | 37 => ⟨S_, .f32⟩
  | 38 => ⟨S1, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S_, .f32⟩
  | 46 => ⟨S_, .f32⟩
  | 47 => ⟨S_, .f32⟩
  | 48 => ⟨S_, .f32⟩
  | 49 => ⟨S_, .f32⟩
  | 50 => ⟨S1, .f32⟩
  | 51 => ⟨S_, .f32⟩
  | 52 => ⟨S_, .f32⟩
  | 53 => ⟨S_, .f32⟩
  | 54 => ⟨S_, .f32⟩
  | 55 => ⟨S1, .f32⟩
  | 56 => ⟨S_, .f32⟩
  | 57 => ⟨S_, .f32⟩
  | 58 => ⟨S_, .f32⟩
  | 59 => ⟨S_, .f32⟩
  | 60 => ⟨S1, .f32⟩
  | 61 => ⟨S_, .f32⟩
  | 62 => ⟨S_, .f32⟩
  | 63 => ⟨S_, .f32⟩
  | 64 => ⟨S_, .f32⟩
  | 65 => ⟨S_, .f32⟩
  | 66 => ⟨S1, .f32⟩
  | 67 => ⟨S_, .f32⟩
  | 68 => ⟨S_, .f32⟩
  | 69 => ⟨S_, .f32⟩
  | 70 => ⟨S_, .f32⟩
  | 71 => ⟨S_, .f32⟩
  | 72 => ⟨S1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S2048x768, .f32⟩
  | 80 => ⟨S2048x1, .f32⟩
  | 81 => ⟨S2048x767, .f32⟩
  | 82 => ⟨S2048x768, .f32⟩
  | 83 => ⟨S2048x767, .f32⟩
  | 84 => ⟨S2048x1, .f32⟩
  | 85 => ⟨S2048x768, .f32⟩
  | 86 => ⟨S2048x768, .f32⟩
  | 87 => ⟨S2048x768, .f32⟩
  | 88 => ⟨S2048x768, .f32⟩
  | 89 => ⟨S2048x768, .f32⟩
  | 90 => ⟨S_, .f32⟩
  | 91 => ⟨S_, .f32⟩
  | 92 => ⟨S2048x2, .f32⟩
  | 93 => ⟨S2048x766, .f32⟩
  | 94 => ⟨S2048x768, .f32⟩
  | 95 => ⟨S2048x766, .f32⟩
  | 96 => ⟨S2048x2, .f32⟩
  | 97 => ⟨S2048x768, .f32⟩
  | 98 => ⟨S2048x768, .f32⟩
  | 99 => ⟨S2048x768, .f32⟩
  | 100 => ⟨S2048x768, .f32⟩
  | 101 => ⟨S2048x768, .f32⟩
  | 102 => ⟨S_, .f32⟩
  | 103 => ⟨S2048x3, .f32⟩
  | 104 => ⟨S2048x765, .f32⟩
  | 105 => ⟨S2048x768, .f32⟩
  | 106 => ⟨S2048x765, .f32⟩
  | 107 => ⟨S2048x3, .f32⟩
  | 108 => ⟨S2048x768, .f32⟩
  | 109 => ⟨S2048x768, .f32⟩
  | 110 => ⟨S2048x768, .f32⟩
  | 111 => ⟨S2048x768, .f32⟩
  | 112 => ⟨S2048x768, .f32⟩
  | 113 => ⟨S_, .f32⟩
  | 114 => ⟨S2048x4, .f32⟩
  | 115 => ⟨S2048x764, .f32⟩
  | 116 => ⟨S2048x768, .f32⟩
  | 117 => ⟨S2048x764, .f32⟩
  | 118 => ⟨S2048x4, .f32⟩
  | 119 => ⟨S2048x768, .f32⟩
  | 120 => ⟨S2048x768, .f32⟩
  | 121 => ⟨S2048x768, .f32⟩
  | 122 => ⟨S2048x768, .f32⟩
  | 123 => ⟨S2048x768, .f32⟩
  | 124 => ⟨S_, .f32⟩
  | 125 => ⟨S2048x5, .f32⟩
  | 126 => ⟨S2048x763, .f32⟩
  | 127 => ⟨S2048x768, .f32⟩
  | _ => ⟨S1x2048x768, .f32⟩

abbrev hbmTy0_5 (i : Nat) : BufTy := match i % 128 with
  | 0 => ⟨S2048x763, .f32⟩
  | 1 => ⟨S2048x5, .f32⟩
  | 2 => ⟨S2048x768, .f32⟩
  | 3 => ⟨S2048x768, .f32⟩
  | 4 => ⟨S2048x768, .f32⟩
  | 5 => ⟨S2048x768, .f32⟩
  | 6 => ⟨S2048x768, .f32⟩
  | 7 => ⟨S_, .f32⟩
  | 8 => ⟨S2048x6, .f32⟩
  | 9 => ⟨S2048x762, .f32⟩
  | 10 => ⟨S2048x768, .f32⟩
  | 11 => ⟨S2048x762, .f32⟩
  | 12 => ⟨S2048x6, .f32⟩
  | 13 => ⟨S2048x768, .f32⟩
  | 14 => ⟨S2048x768, .f32⟩
  | 15 => ⟨S2048x768, .f32⟩
  | 16 => ⟨S2048x768, .f32⟩
  | 17 => ⟨S2048x768, .f32⟩
  | 18 => ⟨S_, .f32⟩
  | 19 => ⟨S2048x8, .f32⟩
  | 20 => ⟨S2048x760, .f32⟩
  | 21 => ⟨S2048x768, .f32⟩
  | 22 => ⟨S2048x760, .f32⟩
  | 23 => ⟨S2048x8, .f32⟩
  | 24 => ⟨S2048x768, .f32⟩
  | 25 => ⟨S2048x768, .f32⟩
  | 26 => ⟨S2048x768, .f32⟩
  | 27 => ⟨S2048x768, .f32⟩
  | 28 => ⟨S2048x768, .f32⟩
  | 29 => ⟨S_, .f32⟩
  | 30 => ⟨S2048x10, .f32⟩
  | 31 => ⟨S2048x758, .f32⟩
  | 32 => ⟨S2048x768, .f32⟩
  | 33 => ⟨S2048x758, .f32⟩
  | 34 => ⟨S2048x10, .f32⟩
  | 35 => ⟨S2048x768, .f32⟩
  | 36 => ⟨S2048x768, .f32⟩
  | 37 => ⟨S2048x768, .f32⟩
  | 38 => ⟨S2048x768, .f32⟩
  | 39 => ⟨S2048x768, .f32⟩
  | 40 => ⟨S_, .f32⟩
  | 41 => ⟨S2048x12, .f32⟩
  | 42 => ⟨S2048x756, .f32⟩
  | 43 => ⟨S2048x768, .f32⟩
  | 44 => ⟨S2048x756, .f32⟩
  | 45 => ⟨S2048x12, .f32⟩
  | 46 => ⟨S2048x768, .f32⟩
  | 47 => ⟨S2048x768, .f32⟩
  | 48 => ⟨S2048x768, .f32⟩
  | 49 => ⟨S2048x768, .f32⟩
  | 50 => ⟨S2048x768, .f32⟩
  | 51 => ⟨S_, .f32⟩
  | 52 => ⟨S2048x16, .f32⟩
  | 53 => ⟨S2048x752, .f32⟩
  | 54 => ⟨S2048x768, .f32⟩
  | 55 => ⟨S2048x752, .f32⟩
  | 56 => ⟨S2048x16, .f32⟩
  | 57 => ⟨S2048x768, .f32⟩
  | 58 => ⟨S2048x768, .f32⟩
  | 59 => ⟨S2048x768, .f32⟩
  | 60 => ⟨S2048x768, .f32⟩
  | 61 => ⟨S2048x768, .f32⟩
  | 62 => ⟨S_, .f32⟩
  | 63 => ⟨S2048x20, .f32⟩
  | 64 => ⟨S2048x748, .f32⟩
  | 65 => ⟨S2048x768, .f32⟩
  | 66 => ⟨S2048x748, .f32⟩
  | 67 => ⟨S2048x20, .f32⟩
  | 68 => ⟨S2048x768, .f32⟩
  | 69 => ⟨S2048x768, .f32⟩
  | 70 => ⟨S2048x768, .f32⟩
  | 71 => ⟨S2048x768, .f32⟩
  | 72 => ⟨S2048x768, .f32⟩
  | 73 => ⟨S_, .f32⟩
  | 74 => ⟨S_, .f32⟩
  | 75 => ⟨S_, .f32⟩
  | 76 => ⟨S2048x768, .f32⟩
  | 77 => ⟨S2048x768, .f32⟩
  | 78 => ⟨S2048x768, .f32⟩
  | 79 => ⟨S1, .f32⟩
  | 80 => ⟨S_, .f32⟩
  | 81 => ⟨S_, .f32⟩
  | 82 => ⟨S_, .f32⟩
  | 83 => ⟨S_, .f32⟩
  | 84 => ⟨S_, .f32⟩
  | 85 => ⟨S1, .f32⟩
  | 86 => ⟨S_, .f32⟩
  | 87 => ⟨S_, .f32⟩
  | 88 => ⟨S_, .f32⟩
  | 89 => ⟨S_, .f32⟩
  | 90 => ⟨S_, .f32⟩
  | 91 => ⟨S1, .f32⟩
  | 92 => ⟨S_, .f32⟩
  | 93 => ⟨S_, .f32⟩
  | 94 => ⟨S_, .f32⟩
  | 95 => ⟨S_, .f32⟩
  | 96 => ⟨S_, .f32⟩
  | 97 => ⟨S1, .f32⟩
  | 98 => ⟨S_, .f32⟩
  | 99 => ⟨S_, .f32⟩
  | 100 => ⟨S_, .f32⟩
  | 101 => ⟨S_, .f32⟩
  | 102 => ⟨S_, .f32⟩
  | 103 => ⟨S1, .f32⟩
  | 104 => ⟨S_, .f32⟩
  | 105 => ⟨S_, .f32⟩
  | 106 => ⟨S_, .f32⟩
  | 107 => ⟨S_, .f32⟩
  | 108 => ⟨S_, .f32⟩
  | 109 => ⟨S1, .f32⟩
  | 110 => ⟨S_, .f32⟩
  | 111 => ⟨S_, .f32⟩
  | 112 => ⟨S_, .f32⟩
  | 113 => ⟨S_, .f32⟩
  | 114 => ⟨S1, .f32⟩
  | 115 => ⟨S_, .f32⟩
  | 116 => ⟨S_, .f32⟩
  | 117 => ⟨S_, .f32⟩
  | 118 => ⟨S_, .f32⟩
  | 119 => ⟨S1, .f32⟩
  | 120 => ⟨S_, .f32⟩
  | 121 => ⟨S_, .f32⟩
  | 122 => ⟨S_, .f32⟩
  | 123 => ⟨S_, .f32⟩
  | 124 => ⟨S_, .f32⟩
  | 125 => ⟨S1, .f32⟩
  | 126 => ⟨S_, .f32⟩
  | 127 => ⟨S_, .f32⟩
  | _ => ⟨S1x2048x768, .f32⟩

abbrev hbmTy0_6 (i : Nat) : BufTy := match i % 128 with
  | 0 => ⟨S_, .f32⟩
  | 1 => ⟨S_, .f32⟩
  | 2 => ⟨S_, .f32⟩
  | 3 => ⟨S1, .f32⟩
  | 4 => ⟨S_, .f32⟩
  | 5 => ⟨S_, .f32⟩
  | 6 => ⟨S_, .f32⟩
  | 7 => ⟨S_, .f32⟩
  | 8 => ⟨S_, .f32⟩
  | 9 => ⟨S1, .f32⟩
  | 10 => ⟨S_, .f32⟩
  | 11 => ⟨S_, .f32⟩
  | 12 => ⟨S_, .f32⟩
  | 13 => ⟨S_, .f32⟩
  | 14 => ⟨S1, .f32⟩
  | 15 => ⟨S_, .f32⟩
  | 16 => ⟨S_, .f32⟩
  | 17 => ⟨S_, .f32⟩
  | 18 => ⟨S_, .f32⟩
  | 19 => ⟨S1, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S_, .f32⟩
  | 27 => ⟨S_, .f32⟩
  | 28 => ⟨S_, .f32⟩
  | 29 => ⟨S_, .f32⟩
  | 30 => ⟨S_, .f32⟩
  | 31 => ⟨S1, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S2048x768, .f32⟩
  | 39 => ⟨S2048x1, .f32⟩
  | 40 => ⟨S2048x767, .f32⟩
  | 41 => ⟨S2048x768, .f32⟩
  | 42 => ⟨S2048x767, .f32⟩
  | 43 => ⟨S2048x1, .f32⟩
  | 44 => ⟨S2048x768, .f32⟩
  | 45 => ⟨S2048x768, .f32⟩
  | 46 => ⟨S2048x768, .f32⟩
  | 47 => ⟨S2048x768, .f32⟩
  | 48 => ⟨S2048x768, .f32⟩
  | 49 => ⟨S_, .f32⟩
  | 50 => ⟨S_, .f32⟩
  | 51 => ⟨S2048x2, .f32⟩
  | 52 => ⟨S2048x766, .f32⟩
  | 53 => ⟨S2048x768, .f32⟩
  | 54 => ⟨S2048x766, .f32⟩
  | 55 => ⟨S2048x2, .f32⟩
  | 56 => ⟨S2048x768, .f32⟩
  | 57 => ⟨S2048x768, .f32⟩
  | 58 => ⟨S2048x768, .f32⟩
  | 59 => ⟨S2048x768, .f32⟩
  | 60 => ⟨S2048x768, .f32⟩
  | 61 => ⟨S_, .f32⟩
  | 62 => ⟨S2048x3, .f32⟩
  | 63 => ⟨S2048x765, .f32⟩
  | 64 => ⟨S2048x768, .f32⟩
  | 65 => ⟨S2048x765, .f32⟩
  | 66 => ⟨S2048x3, .f32⟩
  | 67 => ⟨S2048x768, .f32⟩
  | 68 => ⟨S2048x768, .f32⟩
  | 69 => ⟨S2048x768, .f32⟩
  | 70 => ⟨S2048x768, .f32⟩
  | 71 => ⟨S2048x768, .f32⟩
  | 72 => ⟨S_, .f32⟩
  | 73 => ⟨S2048x4, .f32⟩
  | 74 => ⟨S2048x764, .f32⟩
  | 75 => ⟨S2048x768, .f32⟩
  | 76 => ⟨S2048x764, .f32⟩
  | 77 => ⟨S2048x4, .f32⟩
  | 78 => ⟨S2048x768, .f32⟩
  | 79 => ⟨S2048x768, .f32⟩
  | 80 => ⟨S2048x768, .f32⟩
  | 81 => ⟨S2048x768, .f32⟩
  | 82 => ⟨S2048x768, .f32⟩
  | 83 => ⟨S_, .f32⟩
  | 84 => ⟨S2048x5, .f32⟩
  | 85 => ⟨S2048x763, .f32⟩
  | 86 => ⟨S2048x768, .f32⟩
  | 87 => ⟨S2048x763, .f32⟩
  | 88 => ⟨S2048x5, .f32⟩
  | 89 => ⟨S2048x768, .f32⟩
  | 90 => ⟨S2048x768, .f32⟩
  | 91 => ⟨S2048x768, .f32⟩
  | 92 => ⟨S2048x768, .f32⟩
  | 93 => ⟨S2048x768, .f32⟩
  | 94 => ⟨S_, .f32⟩
  | 95 => ⟨S2048x6, .f32⟩
  | 96 => ⟨S2048x762, .f32⟩
  | 97 => ⟨S2048x768, .f32⟩
  | 98 => ⟨S2048x762, .f32⟩
  | 99 => ⟨S2048x6, .f32⟩
  | 100 => ⟨S2048x768, .f32⟩
  | 101 => ⟨S2048x768, .f32⟩
  | 102 => ⟨S2048x768, .f32⟩
  | 103 => ⟨S2048x768, .f32⟩
  | 104 => ⟨S2048x768, .f32⟩
  | 105 => ⟨S_, .f32⟩
  | 106 => ⟨S2048x8, .f32⟩
  | 107 => ⟨S2048x760, .f32⟩
  | 108 => ⟨S2048x768, .f32⟩
  | 109 => ⟨S2048x760, .f32⟩
  | 110 => ⟨S2048x8, .f32⟩
  | 111 => ⟨S2048x768, .f32⟩
  | 112 => ⟨S2048x768, .f32⟩
  | 113 => ⟨S2048x768, .f32⟩
  | 114 => ⟨S2048x768, .f32⟩
  | 115 => ⟨S2048x768, .f32⟩
  | 116 => ⟨S_, .f32⟩
  | 117 => ⟨S2048x10, .f32⟩
  | 118 => ⟨S2048x758, .f32⟩
  | 119 => ⟨S2048x768, .f32⟩
  | 120 => ⟨S2048x758, .f32⟩
  | 121 => ⟨S2048x10, .f32⟩
  | 122 => ⟨S2048x768, .f32⟩
  | 123 => ⟨S2048x768, .f32⟩
  | 124 => ⟨S2048x768, .f32⟩
  | 125 => ⟨S2048x768, .f32⟩
  | 126 => ⟨S2048x768, .f32⟩
  | 127 => ⟨S_, .f32⟩
  | _ => ⟨S1x2048x768, .f32⟩

abbrev hbmTy0_7 (i : Nat) : BufTy := match i % 128 with
  | 0 => ⟨S2048x12, .f32⟩
  | 1 => ⟨S2048x756, .f32⟩
  | 2 => ⟨S2048x768, .f32⟩
  | 3 => ⟨S2048x756, .f32⟩
  | 4 => ⟨S2048x12, .f32⟩
  | 5 => ⟨S2048x768, .f32⟩
  | 6 => ⟨S2048x768, .f32⟩
  | 7 => ⟨S2048x768, .f32⟩
  | 8 => ⟨S2048x768, .f32⟩
  | 9 => ⟨S2048x768, .f32⟩
  | 10 => ⟨S_, .f32⟩
  | 11 => ⟨S2048x16, .f32⟩
  | 12 => ⟨S2048x752, .f32⟩
  | 13 => ⟨S2048x768, .f32⟩
  | 14 => ⟨S2048x752, .f32⟩
  | 15 => ⟨S2048x16, .f32⟩
  | 16 => ⟨S2048x768, .f32⟩
  | 17 => ⟨S2048x768, .f32⟩
  | 18 => ⟨S2048x768, .f32⟩
  | 19 => ⟨S2048x768, .f32⟩
  | 20 => ⟨S2048x768, .f32⟩
  | 21 => ⟨S_, .f32⟩
  | 22 => ⟨S2048x20, .f32⟩
  | 23 => ⟨S2048x748, .f32⟩
  | 24 => ⟨S2048x768, .f32⟩
  | 25 => ⟨S2048x748, .f32⟩
  | 26 => ⟨S2048x20, .f32⟩
  | 27 => ⟨S2048x768, .f32⟩
  | 28 => ⟨S2048x768, .f32⟩
  | 29 => ⟨S2048x768, .f32⟩
  | 30 => ⟨S2048x768, .f32⟩
  | 31 => ⟨S2048x768, .f32⟩
  | 32 => ⟨S_, .f32⟩
  | 33 => ⟨S_, .f32⟩
  | 34 => ⟨S_, .f32⟩
  | 35 => ⟨S2048x768, .f32⟩
  | 36 => ⟨S2048x768, .f32⟩
  | 37 => ⟨S2048x768, .f32⟩
  | 38 => ⟨S_, .f32⟩
  | 39 => ⟨S2048x768, .f32⟩
  | 40 => ⟨S2048x768, .f32⟩
  | 41 => ⟨S2048x768, .f32⟩
  | 42 => ⟨S_, .f32⟩
  | 43 => ⟨S2048x768, .f32⟩
  | 44 => ⟨S2048x768, .f32⟩
  | 45 => ⟨S2048x768, .f32⟩
  | 46 => ⟨S2048x768x1, .f32⟩
  | 47 => ⟨S2048x768x1, .f32⟩
  | 48 => ⟨S2048x768x2, .f32⟩
  | 49 => ⟨S2048x768x2, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S2048x768x2, .f32⟩
  | 59 => ⟨S2048x768x2, .f32⟩
  | 60 => ⟨S2048x768x2, .f32⟩
  | 61 => ⟨S2048x768x2, .f32⟩
  | 62 => ⟨S2048x768x2, .f32⟩
  | 63 => ⟨S2048x768x2, .f32⟩
  | 64 => ⟨S2048x768x2, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S2048x768x2, .f32⟩
  | 74 => ⟨S2048x768x2, .f32⟩
  | 75 => ⟨S2048x768x2, .f32⟩
  | 76 => ⟨S_, .i32⟩
  | 77 => ⟨S_, .i32⟩
  | 78 => ⟨S1x2048x768x2, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_16 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_cst_19 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_cst_23 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_24 : Ref sig .tc := ⟨.hbm, 105, rfl⟩
abbrev main_v76 : Ref sig .tc := ⟨.hbm, 106, rfl⟩
abbrev main_cst_25 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_26 : Ref sig .tc := ⟨.hbm, 111, rfl⟩
abbrev main_v80 : Ref sig .tc := ⟨.hbm, 112, rfl⟩
abbrev main_cst_27 : Ref sig .tc := ⟨.hbm, 113, rfl⟩
abbrev main_v81 : Ref sig .tc := ⟨.hbm, 114, rfl⟩
abbrev main_cst_28 : Ref sig .tc := ⟨.hbm, 115, rfl⟩
abbrev main_v82 : Ref sig .tc := ⟨.hbm, 116, rfl⟩
abbrev main_call0_v0 : Ref sig .tc := ⟨.hbm, 117, rfl⟩
abbrev main_call0_v1 : Ref sig .tc := ⟨.hbm, 118, rfl⟩
abbrev main_v83 : Ref sig .tc := ⟨.hbm, 119, rfl⟩
abbrev main_call1_v0 : Ref sig .tc := ⟨.hbm, 120, rfl⟩
abbrev main_call1_v1 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_29 : Ref sig .tc := ⟨.hbm, 127, rfl⟩
abbrev main_v89 : Ref sig .tc := ⟨.hbm, 128, rfl⟩
abbrev main_call2_v0 : Ref sig .tc := ⟨.hbm, 129, rfl⟩
abbrev main_call2_v1 : Ref sig .tc := ⟨.hbm, 130, rfl⟩
abbrev main_v90 : Ref sig .tc := ⟨.hbm, 131, rfl⟩
abbrev main_call3_v0 : Ref sig .tc := ⟨.hbm, 132, rfl⟩
abbrev main_call3_v1 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_call4_v0 : Ref sig .tc := ⟨.hbm, 140, rfl⟩
abbrev main_call4_v1 : Ref sig .tc := ⟨.hbm, 141, rfl⟩
abbrev main_v97 : Ref sig .tc := ⟨.hbm, 142, rfl⟩
abbrev main_call5_v0 : Ref sig .tc := ⟨.hbm, 143, rfl⟩
abbrev main_call5_v1 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call6_v0 : Ref sig .tc := ⟨.hbm, 151, rfl⟩
abbrev main_call6_v1 : Ref sig .tc := ⟨.hbm, 152, rfl⟩
abbrev main_v104 : Ref sig .tc := ⟨.hbm, 153, rfl⟩
abbrev main_call7_v0 : Ref sig .tc := ⟨.hbm, 154, rfl⟩
abbrev main_call7_v1 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call8_v0 : Ref sig .tc := ⟨.hbm, 162, rfl⟩
abbrev main_call8_v1 : Ref sig .tc := ⟨.hbm, 163, rfl⟩
abbrev main_v111 : Ref sig .tc := ⟨.hbm, 164, rfl⟩
abbrev main_call9_v0 : Ref sig .tc := ⟨.hbm, 165, rfl⟩
abbrev main_call9_v1 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_call10_v0 : Ref sig .tc := ⟨.hbm, 173, rfl⟩
abbrev main_call10_v1 : Ref sig .tc := ⟨.hbm, 174, rfl⟩
abbrev main_v118 : Ref sig .tc := ⟨.hbm, 175, rfl⟩
abbrev main_call11_v0 : Ref sig .tc := ⟨.hbm, 176, rfl⟩
abbrev main_call11_v1 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_call12_v0 : Ref sig .tc := ⟨.hbm, 184, rfl⟩
abbrev main_call12_v1 : Ref sig .tc := ⟨.hbm, 185, rfl⟩
abbrev main_v125 : Ref sig .tc := ⟨.hbm, 186, rfl⟩
abbrev main_call13_v0 : Ref sig .tc := ⟨.hbm, 187, rfl⟩
abbrev main_call13_v1 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_call14_v0 : Ref sig .tc := ⟨.hbm, 195, rfl⟩
abbrev main_call14_v1 : Ref sig .tc := ⟨.hbm, 196, rfl⟩
abbrev main_v132 : Ref sig .tc := ⟨.hbm, 197, rfl⟩
abbrev main_call15_v0 : Ref sig .tc := ⟨.hbm, 198, rfl⟩
abbrev main_call15_v1 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_call16_v0 : Ref sig .tc := ⟨.hbm, 206, rfl⟩
abbrev main_call16_v1 : Ref sig .tc := ⟨.hbm, 207, rfl⟩
abbrev main_v139 : Ref sig .tc := ⟨.hbm, 208, rfl⟩
abbrev main_call17_v0 : Ref sig .tc := ⟨.hbm, 209, rfl⟩
abbrev main_call17_v1 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_call18_v0 : Ref sig .tc := ⟨.hbm, 217, rfl⟩
abbrev main_call18_v1 : Ref sig .tc := ⟨.hbm, 218, rfl⟩
abbrev main_v146 : Ref sig .tc := ⟨.hbm, 219, rfl⟩
abbrev main_call19_v0 : Ref sig .tc := ⟨.hbm, 220, rfl⟩
abbrev main_call19_v1 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_call20_v0 : Ref sig .tc := ⟨.hbm, 228, rfl⟩
abbrev main_call20_v1 : Ref sig .tc := ⟨.hbm, 229, rfl⟩
abbrev main_v153 : Ref sig .tc := ⟨.hbm, 230, rfl⟩
abbrev main_call21_v0 : Ref sig .tc := ⟨.hbm, 231, rfl⟩
abbrev main_call21_v1 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst_30 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_cst_31 : Ref sig .tc := ⟨.hbm, 246, rfl⟩
abbrev main_v166 : Ref sig .tc := ⟨.hbm, 247, rfl⟩
abbrev main_cst_32 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_cst_33 : Ref sig .tc := ⟨.hbm, 252, rfl⟩
abbrev main_v170 : Ref sig .tc := ⟨.hbm, 253, rfl⟩
abbrev main_cst_34 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_cst_35 : Ref sig .tc := ⟨.hbm, 258, rfl⟩
abbrev main_v174 : Ref sig .tc := ⟨.hbm, 259, rfl⟩
abbrev main_cst_36 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_cst_37 : Ref sig .tc := ⟨.hbm, 264, rfl⟩
abbrev main_v178 : Ref sig .tc := ⟨.hbm, 265, rfl⟩
abbrev main_cst_38 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_cst_39 : Ref sig .tc := ⟨.hbm, 270, rfl⟩
abbrev main_v182 : Ref sig .tc := ⟨.hbm, 271, rfl⟩
abbrev main_cst_40 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_cst_41 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_cst_42 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_cst_43 : Ref sig .tc := ⟨.hbm, 286, rfl⟩
abbrev main_v194 : Ref sig .tc := ⟨.hbm, 287, rfl⟩
abbrev main_cst_44 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_cst_45 : Ref sig .tc := ⟨.hbm, 292, rfl⟩
abbrev main_v198 : Ref sig .tc := ⟨.hbm, 293, rfl⟩
abbrev main_cst_46 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_cst_47 : Ref sig .tc := ⟨.hbm, 298, rfl⟩
abbrev main_v202 : Ref sig .tc := ⟨.hbm, 299, rfl⟩
abbrev main_cst_48 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_cst_49 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_cst_50 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_cst_51 : Ref sig .tc := ⟨.hbm, 314, rfl⟩
abbrev main_v214 : Ref sig .tc := ⟨.hbm, 315, rfl⟩
abbrev main_cst_52 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_cst_53 : Ref sig .tc := ⟨.hbm, 320, rfl⟩
abbrev main_v218 : Ref sig .tc := ⟨.hbm, 321, rfl⟩
abbrev main_cst_54 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_cst_55 : Ref sig .tc := ⟨.hbm, 326, rfl⟩
abbrev main_v222 : Ref sig .tc := ⟨.hbm, 327, rfl⟩
abbrev main_cst_56 : Ref sig .tc := ⟨.hbm, 328, rfl⟩
abbrev main_v223 : Ref sig .tc := ⟨.hbm, 329, rfl⟩
abbrev main_cst_57 : Ref sig .tc := ⟨.hbm, 330, rfl⟩
abbrev main_v224 : Ref sig .tc := ⟨.hbm, 331, rfl⟩
abbrev main_call22_v0 : Ref sig .tc := ⟨.hbm, 332, rfl⟩
abbrev main_call22_v1 : Ref sig .tc := ⟨.hbm, 333, rfl⟩
abbrev main_v225 : Ref sig .tc := ⟨.hbm, 334, rfl⟩
abbrev main_call23_v0 : Ref sig .tc := ⟨.hbm, 335, rfl⟩
abbrev main_call23_v1 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_cst_58 : Ref sig .tc := ⟨.hbm, 342, rfl⟩
abbrev main_v231 : Ref sig .tc := ⟨.hbm, 343, rfl⟩
abbrev main_call24_v0 : Ref sig .tc := ⟨.hbm, 344, rfl⟩
abbrev main_call24_v1 : Ref sig .tc := ⟨.hbm, 345, rfl⟩
abbrev main_v232 : Ref sig .tc := ⟨.hbm, 346, rfl⟩
abbrev main_call25_v0 : Ref sig .tc := ⟨.hbm, 347, rfl⟩
abbrev main_call25_v1 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_call26_v0 : Ref sig .tc := ⟨.hbm, 355, rfl⟩
abbrev main_call26_v1 : Ref sig .tc := ⟨.hbm, 356, rfl⟩
abbrev main_v239 : Ref sig .tc := ⟨.hbm, 357, rfl⟩
abbrev main_call27_v0 : Ref sig .tc := ⟨.hbm, 358, rfl⟩
abbrev main_call27_v1 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_call28_v0 : Ref sig .tc := ⟨.hbm, 366, rfl⟩
abbrev main_call28_v1 : Ref sig .tc := ⟨.hbm, 367, rfl⟩
abbrev main_v246 : Ref sig .tc := ⟨.hbm, 368, rfl⟩
abbrev main_call29_v0 : Ref sig .tc := ⟨.hbm, 369, rfl⟩
abbrev main_call29_v1 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_call30_v0 : Ref sig .tc := ⟨.hbm, 377, rfl⟩
abbrev main_call30_v1 : Ref sig .tc := ⟨.hbm, 378, rfl⟩
abbrev main_v253 : Ref sig .tc := ⟨.hbm, 379, rfl⟩
abbrev main_call31_v0 : Ref sig .tc := ⟨.hbm, 380, rfl⟩
abbrev main_call31_v1 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_call32_v0 : Ref sig .tc := ⟨.hbm, 388, rfl⟩
abbrev main_call32_v1 : Ref sig .tc := ⟨.hbm, 389, rfl⟩
abbrev main_v260 : Ref sig .tc := ⟨.hbm, 390, rfl⟩
abbrev main_call33_v0 : Ref sig .tc := ⟨.hbm, 391, rfl⟩
abbrev main_call33_v1 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_call34_v0 : Ref sig .tc := ⟨.hbm, 399, rfl⟩
abbrev main_call34_v1 : Ref sig .tc := ⟨.hbm, 400, rfl⟩
abbrev main_v267 : Ref sig .tc := ⟨.hbm, 401, rfl⟩
abbrev main_call35_v0 : Ref sig .tc := ⟨.hbm, 402, rfl⟩
abbrev main_call35_v1 : Ref sig .tc := ⟨.hbm, 403, rfl⟩
abbrev main_v268 : Ref sig .tc := ⟨.hbm, 404, rfl⟩
abbrev main_v269 : Ref sig .tc := ⟨.hbm, 405, rfl⟩
abbrev main_v270 : Ref sig .tc := ⟨.hbm, 406, rfl⟩
abbrev main_v271 : Ref sig .tc := ⟨.hbm, 407, rfl⟩
abbrev main_v272 : Ref sig .tc := ⟨.hbm, 408, rfl⟩
abbrev main_v273 : Ref sig .tc := ⟨.hbm, 409, rfl⟩
abbrev main_call36_v0 : Ref sig .tc := ⟨.hbm, 410, rfl⟩
abbrev main_call36_v1 : Ref sig .tc := ⟨.hbm, 411, rfl⟩
abbrev main_v274 : Ref sig .tc := ⟨.hbm, 412, rfl⟩
abbrev main_call37_v0 : Ref sig .tc := ⟨.hbm, 413, rfl⟩
abbrev main_call37_v1 : Ref sig .tc := ⟨.hbm, 414, rfl⟩
abbrev main_v275 : Ref sig .tc := ⟨.hbm, 415, rfl⟩
abbrev main_v276 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_v280 : Ref sig .tc := ⟨.hbm, 420, rfl⟩
abbrev main_call38_v0 : Ref sig .tc := ⟨.hbm, 421, rfl⟩
abbrev main_call38_v1 : Ref sig .tc := ⟨.hbm, 422, rfl⟩
abbrev main_v281 : Ref sig .tc := ⟨.hbm, 423, rfl⟩
abbrev main_call39_v0 : Ref sig .tc := ⟨.hbm, 424, rfl⟩
abbrev main_call39_v1 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_call40_v0 : Ref sig .tc := ⟨.hbm, 432, rfl⟩
abbrev main_call40_v1 : Ref sig .tc := ⟨.hbm, 433, rfl⟩
abbrev main_v288 : Ref sig .tc := ⟨.hbm, 434, rfl⟩
abbrev main_call41_v0 : Ref sig .tc := ⟨.hbm, 435, rfl⟩
abbrev main_call41_v1 : Ref sig .tc := ⟨.hbm, 436, rfl⟩
abbrev main_v289 : Ref sig .tc := ⟨.hbm, 437, rfl⟩
abbrev main_v290 : Ref sig .tc := ⟨.hbm, 438, rfl⟩
abbrev main_v291 : Ref sig .tc := ⟨.hbm, 439, rfl⟩
abbrev main_v292 : Ref sig .tc := ⟨.hbm, 440, rfl⟩
abbrev main_v293 : Ref sig .tc := ⟨.hbm, 441, rfl⟩
abbrev main_v294 : Ref sig .tc := ⟨.hbm, 442, rfl⟩
abbrev main_call42_v0 : Ref sig .tc := ⟨.hbm, 443, rfl⟩
abbrev main_call42_v1 : Ref sig .tc := ⟨.hbm, 444, rfl⟩
abbrev main_v295 : Ref sig .tc := ⟨.hbm, 445, rfl⟩
abbrev main_call43_v0 : Ref sig .tc := ⟨.hbm, 446, rfl⟩
abbrev main_call43_v1 : Ref sig .tc := ⟨.hbm, 447, rfl⟩
abbrev main_v296 : Ref sig .tc := ⟨.hbm, 448, rfl⟩
abbrev main_v297 : Ref sig .tc := ⟨.hbm, 449, rfl⟩
abbrev main_v298 : Ref sig .tc := ⟨.hbm, 450, rfl⟩
abbrev main_v299 : Ref sig .tc := ⟨.hbm, 451, rfl⟩
abbrev main_v300 : Ref sig .tc := ⟨.hbm, 452, rfl⟩
abbrev main_v301 : Ref sig .tc := ⟨.hbm, 453, rfl⟩
abbrev main_cst_59 : Ref sig .tc := ⟨.hbm, 454, rfl⟩
abbrev main_v302 : Ref sig .tc := ⟨.hbm, 455, rfl⟩
abbrev main_v303 : Ref sig .tc := ⟨.hbm, 456, rfl⟩
abbrev main_v304 : Ref sig .tc := ⟨.hbm, 457, rfl⟩
abbrev main_v305 : Ref sig .tc := ⟨.hbm, 458, rfl⟩
abbrev main_cst_60 : Ref sig .tc := ⟨.hbm, 459, rfl⟩
abbrev main_v306 : Ref sig .tc := ⟨.hbm, 460, rfl⟩
abbrev main_v307 : Ref sig .tc := ⟨.hbm, 461, rfl⟩
abbrev main_v308 : Ref sig .tc := ⟨.hbm, 462, rfl⟩
abbrev main_cst_61 : Ref sig .tc := ⟨.hbm, 463, rfl⟩
abbrev main_v309 : Ref sig .tc := ⟨.hbm, 464, rfl⟩
abbrev main_v310 : Ref sig .tc := ⟨.hbm, 465, rfl⟩
abbrev main_v311 : Ref sig .tc := ⟨.hbm, 466, rfl⟩
abbrev main_v312 : Ref sig .tc := ⟨.hbm, 467, rfl⟩
abbrev main_v313 : Ref sig .tc := ⟨.hbm, 468, rfl⟩
abbrev main_v314 : Ref sig .tc := ⟨.hbm, 469, rfl⟩
abbrev main_v315 : Ref sig .tc := ⟨.hbm, 470, rfl⟩
abbrev main_v316 : Ref sig .tc := ⟨.hbm, 471, rfl⟩
abbrev main_cst_62 : Ref sig .tc := ⟨.hbm, 472, rfl⟩
abbrev main_v317 : Ref sig .tc := ⟨.hbm, 473, rfl⟩
abbrev main_v318 : Ref sig .tc := ⟨.hbm, 474, rfl⟩
abbrev main_cst_63 : Ref sig .tc := ⟨.hbm, 475, rfl⟩
abbrev main_v319 : Ref sig .tc := ⟨.hbm, 476, rfl⟩
abbrev main_cst_64 : Ref sig .tc := ⟨.hbm, 477, rfl⟩
abbrev main_v320 : Ref sig .tc := ⟨.hbm, 478, rfl⟩
abbrev main_v321 : Ref sig .tc := ⟨.hbm, 479, rfl⟩
abbrev main_cst_65 : Ref sig .tc := ⟨.hbm, 480, rfl⟩
abbrev main_v322 : Ref sig .tc := ⟨.hbm, 481, rfl⟩
abbrev main_c : Ref sig .tc := ⟨.hbm, 482, rfl⟩
abbrev main_c_66 : Ref sig .tc := ⟨.hbm, 483, rfl⟩
abbrev main_v323_0 : Ref sig .tc := ⟨.hbm, 484, rfl⟩
abbrev main_v323_1 : Ref sig .tc := ⟨.hbm, 485, rfl⟩
abbrev main_v323_2 : Ref sig .tc := ⟨.hbm, 486, rfl⟩
abbrev main_v323_3 : Ref sig .tc := ⟨.hbm, 487, rfl⟩
abbrev main_v323_4 : Ref sig .tc := ⟨.hbm, 488, rfl⟩
abbrev main_v323_5 : Ref sig .tc := ⟨.hbm, 489, rfl⟩
abbrev main_v323_6 : Ref sig .tc := ⟨.hbm, 490, rfl⟩
abbrev main_v323_7 : Ref sig .tc := ⟨.hbm, 491, rfl⟩
abbrev main_while0c_c_74 : Ref sig .tc := ⟨.hbm, 492, rfl⟩
abbrev main_while0c_v325 : Ref sig .tc := ⟨.hbm, 493, rfl⟩
abbrev main_while0b_c_74 : Ref sig .tc := ⟨.hbm, 494, rfl⟩
abbrev main_while0b_v325 : Ref sig .tc := ⟨.hbm, 495, rfl⟩
abbrev main_while0b_v326 : Ref sig .tc := ⟨.hbm, 496, rfl⟩
abbrev main_while0b_cst_75 : Ref sig .tc := ⟨.hbm, 497, rfl⟩
abbrev main_while0b_v327 : Ref sig .tc := ⟨.hbm, 498, rfl⟩
abbrev main_while0b_v328 : Ref sig .tc := ⟨.hbm, 499, rfl⟩
abbrev main_while0b_v329 : Ref sig .tc := ⟨.hbm, 500, rfl⟩
abbrev main_while0b_v330 : Ref sig .tc := ⟨.hbm, 501, rfl⟩
abbrev main_while0b_v331 : Ref sig .tc := ⟨.hbm, 502, rfl⟩
abbrev main_while0b_v332 : Ref sig .tc := ⟨.hbm, 503, rfl⟩
abbrev main_while0b_v333 : Ref sig .tc := ⟨.hbm, 504, rfl⟩
abbrev main_while0b_v334 : Ref sig .tc := ⟨.hbm, 505, rfl⟩
abbrev main_while0b_cst_76 : Ref sig .tc := ⟨.hbm, 506, rfl⟩
abbrev main_while0b_v335 : Ref sig .tc := ⟨.hbm, 507, rfl⟩
abbrev main_while0b_cst_77 : Ref sig .tc := ⟨.hbm, 508, rfl⟩
abbrev main_while0b_v336 : Ref sig .tc := ⟨.hbm, 509, rfl⟩
abbrev main_while0b_v337 : Ref sig .tc := ⟨.hbm, 510, rfl⟩
abbrev main_while0b_v338 : Ref sig .tc := ⟨.hbm, 511, rfl⟩
abbrev main_while0b_cst_78 : Ref sig .tc := ⟨.hbm, 512, rfl⟩
abbrev main_while0b_v339 : Ref sig .tc := ⟨.hbm, 513, rfl⟩
abbrev main_while0b_cst_79 : Ref sig .tc := ⟨.hbm, 514, rfl⟩
abbrev main_while0b_v340 : Ref sig .tc := ⟨.hbm, 515, rfl⟩
abbrev main_while0b_v341 : Ref sig .tc := ⟨.hbm, 516, rfl⟩
abbrev main_while0b_v342 : Ref sig .tc := ⟨.hbm, 517, rfl⟩
abbrev main_while0b_cst_80 : Ref sig .tc := ⟨.hbm, 518, rfl⟩
abbrev main_while0b_v343 : Ref sig .tc := ⟨.hbm, 519, rfl⟩
abbrev main_while0b_cst_81 : Ref sig .tc := ⟨.hbm, 520, rfl⟩
abbrev main_while0b_v344 : Ref sig .tc := ⟨.hbm, 521, rfl⟩
abbrev main_while0b_v345 : Ref sig .tc := ⟨.hbm, 522, rfl⟩
abbrev main_while0b_v346 : Ref sig .tc := ⟨.hbm, 523, rfl⟩
abbrev main_while0b_cst_82 : Ref sig .tc := ⟨.hbm, 524, rfl⟩
abbrev main_while0b_v347 : Ref sig .tc := ⟨.hbm, 525, rfl⟩
abbrev main_while0b_cst_83 : Ref sig .tc := ⟨.hbm, 526, rfl⟩
abbrev main_while0b_v348 : Ref sig .tc := ⟨.hbm, 527, rfl⟩
abbrev main_while0b_v349 : Ref sig .tc := ⟨.hbm, 528, rfl⟩
abbrev main_while0b_v350 : Ref sig .tc := ⟨.hbm, 529, rfl⟩
abbrev main_while0b_cst_84 : Ref sig .tc := ⟨.hbm, 530, rfl⟩
abbrev main_while0b_v351 : Ref sig .tc := ⟨.hbm, 531, rfl⟩
abbrev main_while0b_cst_85 : Ref sig .tc := ⟨.hbm, 532, rfl⟩
abbrev main_while0b_v352 : Ref sig .tc := ⟨.hbm, 533, rfl⟩
abbrev main_while0b_v353 : Ref sig .tc := ⟨.hbm, 534, rfl⟩
abbrev main_while0b_v354 : Ref sig .tc := ⟨.hbm, 535, rfl⟩
abbrev main_while0b_cst_86 : Ref sig .tc := ⟨.hbm, 536, rfl⟩
abbrev main_while0b_v355 : Ref sig .tc := ⟨.hbm, 537, rfl⟩
abbrev main_while0b_v356 : Ref sig .tc := ⟨.hbm, 538, rfl⟩
abbrev main_while0b_v357 : Ref sig .tc := ⟨.hbm, 539, rfl⟩
abbrev main_while0b_v358 : Ref sig .tc := ⟨.hbm, 540, rfl⟩
abbrev main_while0b_cst_87 : Ref sig .tc := ⟨.hbm, 541, rfl⟩
abbrev main_while0b_v359 : Ref sig .tc := ⟨.hbm, 542, rfl⟩
abbrev main_while0b_v360 : Ref sig .tc := ⟨.hbm, 543, rfl⟩
abbrev main_while0b_v361 : Ref sig .tc := ⟨.hbm, 544, rfl⟩
abbrev main_while0b_v362 : Ref sig .tc := ⟨.hbm, 545, rfl⟩
abbrev main_while0b_cst_88 : Ref sig .tc := ⟨.hbm, 546, rfl⟩
abbrev main_while0b_v363 : Ref sig .tc := ⟨.hbm, 547, rfl⟩
abbrev main_while0b_cst_89 : Ref sig .tc := ⟨.hbm, 548, rfl⟩
abbrev main_while0b_v364 : Ref sig .tc := ⟨.hbm, 549, rfl⟩
abbrev main_while0b_v365 : Ref sig .tc := ⟨.hbm, 550, rfl⟩
abbrev main_while0b_v366 : Ref sig .tc := ⟨.hbm, 551, rfl⟩
abbrev main_while0b_cst_90 : Ref sig .tc := ⟨.hbm, 552, rfl⟩
abbrev main_while0b_v367 : Ref sig .tc := ⟨.hbm, 553, rfl⟩
abbrev main_while0b_cst_91 : Ref sig .tc := ⟨.hbm, 554, rfl⟩
abbrev main_while0b_v368 : Ref sig .tc := ⟨.hbm, 555, rfl⟩
abbrev main_while0b_v369 : Ref sig .tc := ⟨.hbm, 556, rfl⟩
abbrev main_while0b_v370 : Ref sig .tc := ⟨.hbm, 557, rfl⟩
abbrev main_while0b_cst_92 : Ref sig .tc := ⟨.hbm, 558, rfl⟩
abbrev main_while0b_v371 : Ref sig .tc := ⟨.hbm, 559, rfl⟩
abbrev main_while0b_cst_93 : Ref sig .tc := ⟨.hbm, 560, rfl⟩
abbrev main_while0b_v372 : Ref sig .tc := ⟨.hbm, 561, rfl⟩
abbrev main_while0b_v373 : Ref sig .tc := ⟨.hbm, 562, rfl⟩
abbrev main_while0b_v374 : Ref sig .tc := ⟨.hbm, 563, rfl⟩
abbrev main_while0b_cst_94 : Ref sig .tc := ⟨.hbm, 564, rfl⟩
abbrev main_while0b_v375 : Ref sig .tc := ⟨.hbm, 565, rfl⟩
abbrev main_while0b_v376 : Ref sig .tc := ⟨.hbm, 566, rfl⟩
abbrev main_while0b_v377 : Ref sig .tc := ⟨.hbm, 567, rfl⟩
abbrev main_while0b_v378 : Ref sig .tc := ⟨.hbm, 568, rfl⟩
abbrev main_while0b_cst_95 : Ref sig .tc := ⟨.hbm, 569, rfl⟩
abbrev main_while0b_v379 : Ref sig .tc := ⟨.hbm, 570, rfl⟩
abbrev main_while0b_v380 : Ref sig .tc := ⟨.hbm, 571, rfl⟩
abbrev main_while0b_v381 : Ref sig .tc := ⟨.hbm, 572, rfl⟩
abbrev main_while0b_v382 : Ref sig .tc := ⟨.hbm, 573, rfl⟩
abbrev main_while0b_cst_96 : Ref sig .tc := ⟨.hbm, 574, rfl⟩
abbrev main_while0b_v383 : Ref sig .tc := ⟨.hbm, 575, rfl⟩
abbrev main_while0b_cst_97 : Ref sig .tc := ⟨.hbm, 576, rfl⟩
abbrev main_while0b_v384 : Ref sig .tc := ⟨.hbm, 577, rfl⟩
abbrev main_while0b_v385 : Ref sig .tc := ⟨.hbm, 578, rfl⟩
abbrev main_while0b_v386 : Ref sig .tc := ⟨.hbm, 579, rfl⟩
abbrev main_while0b_cst_98 : Ref sig .tc := ⟨.hbm, 580, rfl⟩
abbrev main_while0b_v387 : Ref sig .tc := ⟨.hbm, 581, rfl⟩
abbrev main_while0b_cst_99 : Ref sig .tc := ⟨.hbm, 582, rfl⟩
abbrev main_while0b_v388 : Ref sig .tc := ⟨.hbm, 583, rfl⟩
abbrev main_while0b_v389 : Ref sig .tc := ⟨.hbm, 584, rfl⟩
abbrev main_while0b_v390 : Ref sig .tc := ⟨.hbm, 585, rfl⟩
abbrev main_while0b_cst_100 : Ref sig .tc := ⟨.hbm, 586, rfl⟩
abbrev main_while0b_v391 : Ref sig .tc := ⟨.hbm, 587, rfl⟩
abbrev main_while0b_cst_101 : Ref sig .tc := ⟨.hbm, 588, rfl⟩
abbrev main_while0b_v392 : Ref sig .tc := ⟨.hbm, 589, rfl⟩
abbrev main_while0b_cst_102 : Ref sig .tc := ⟨.hbm, 590, rfl⟩
abbrev main_while0b_v393 : Ref sig .tc := ⟨.hbm, 591, rfl⟩
abbrev main_while0b_call44_v0 : Ref sig .tc := ⟨.hbm, 592, rfl⟩
abbrev main_while0b_call44_v1 : Ref sig .tc := ⟨.hbm, 593, rfl⟩
abbrev main_while0b_v394 : Ref sig .tc := ⟨.hbm, 594, rfl⟩
abbrev main_while0b_call45_v0 : Ref sig .tc := ⟨.hbm, 595, rfl⟩
abbrev main_while0b_call45_v1 : Ref sig .tc := ⟨.hbm, 596, rfl⟩
abbrev main_while0b_v395 : Ref sig .tc := ⟨.hbm, 597, rfl⟩
abbrev main_while0b_v396 : Ref sig .tc := ⟨.hbm, 598, rfl⟩
abbrev main_while0b_v397 : Ref sig .tc := ⟨.hbm, 599, rfl⟩
abbrev main_while0b_v398 : Ref sig .tc := ⟨.hbm, 600, rfl⟩
abbrev main_while0b_v399 : Ref sig .tc := ⟨.hbm, 601, rfl⟩
abbrev main_while0b_cst_103 : Ref sig .tc := ⟨.hbm, 602, rfl⟩
abbrev main_while0b_v400 : Ref sig .tc := ⟨.hbm, 603, rfl⟩
abbrev main_while0b_call46_v0 : Ref sig .tc := ⟨.hbm, 604, rfl⟩
abbrev main_while0b_call46_v1 : Ref sig .tc := ⟨.hbm, 605, rfl⟩
abbrev main_while0b_v401 : Ref sig .tc := ⟨.hbm, 606, rfl⟩
abbrev main_while0b_call47_v0 : Ref sig .tc := ⟨.hbm, 607, rfl⟩
abbrev main_while0b_call47_v1 : Ref sig .tc := ⟨.hbm, 608, rfl⟩
abbrev main_while0b_v402 : Ref sig .tc := ⟨.hbm, 609, rfl⟩
abbrev main_while0b_v403 : Ref sig .tc := ⟨.hbm, 610, rfl⟩
abbrev main_while0b_v404 : Ref sig .tc := ⟨.hbm, 611, rfl⟩
abbrev main_while0b_v405 : Ref sig .tc := ⟨.hbm, 612, rfl⟩
abbrev main_while0b_v406 : Ref sig .tc := ⟨.hbm, 613, rfl⟩
abbrev main_while0b_v407 : Ref sig .tc := ⟨.hbm, 614, rfl⟩
abbrev main_while0b_call48_v0 : Ref sig .tc := ⟨.hbm, 615, rfl⟩
abbrev main_while0b_call48_v1 : Ref sig .tc := ⟨.hbm, 616, rfl⟩
abbrev main_while0b_v408 : Ref sig .tc := ⟨.hbm, 617, rfl⟩
abbrev main_while0b_call49_v0 : Ref sig .tc := ⟨.hbm, 618, rfl⟩
abbrev main_while0b_call49_v1 : Ref sig .tc := ⟨.hbm, 619, rfl⟩
abbrev main_while0b_v409 : Ref sig .tc := ⟨.hbm, 620, rfl⟩
abbrev main_while0b_v410 : Ref sig .tc := ⟨.hbm, 621, rfl⟩
abbrev main_while0b_v411 : Ref sig .tc := ⟨.hbm, 622, rfl⟩
abbrev main_while0b_v412 : Ref sig .tc := ⟨.hbm, 623, rfl⟩
abbrev main_while0b_v413 : Ref sig .tc := ⟨.hbm, 624, rfl⟩
abbrev main_while0b_v414 : Ref sig .tc := ⟨.hbm, 625, rfl⟩
abbrev main_while0b_call50_v0 : Ref sig .tc := ⟨.hbm, 626, rfl⟩
abbrev main_while0b_call50_v1 : Ref sig .tc := ⟨.hbm, 627, rfl⟩
abbrev main_while0b_v415 : Ref sig .tc := ⟨.hbm, 628, rfl⟩
abbrev main_while0b_call51_v0 : Ref sig .tc := ⟨.hbm, 629, rfl⟩
abbrev main_while0b_call51_v1 : Ref sig .tc := ⟨.hbm, 630, rfl⟩
abbrev main_while0b_v416 : Ref sig .tc := ⟨.hbm, 631, rfl⟩
abbrev main_while0b_v417 : Ref sig .tc := ⟨.hbm, 632, rfl⟩
abbrev main_while0b_v418 : Ref sig .tc := ⟨.hbm, 633, rfl⟩
abbrev main_while0b_v419 : Ref sig .tc := ⟨.hbm, 634, rfl⟩
abbrev main_while0b_v420 : Ref sig .tc := ⟨.hbm, 635, rfl⟩
abbrev main_while0b_v421 : Ref sig .tc := ⟨.hbm, 636, rfl⟩
abbrev main_while0b_call52_v0 : Ref sig .tc := ⟨.hbm, 637, rfl⟩
abbrev main_while0b_call52_v1 : Ref sig .tc := ⟨.hbm, 638, rfl⟩
abbrev main_while0b_v422 : Ref sig .tc := ⟨.hbm, 639, rfl⟩
abbrev main_while0b_call53_v0 : Ref sig .tc := ⟨.hbm, 640, rfl⟩
abbrev main_while0b_call53_v1 : Ref sig .tc := ⟨.hbm, 641, rfl⟩
abbrev main_while0b_v423 : Ref sig .tc := ⟨.hbm, 642, rfl⟩
abbrev main_while0b_v424 : Ref sig .tc := ⟨.hbm, 643, rfl⟩
abbrev main_while0b_v425 : Ref sig .tc := ⟨.hbm, 644, rfl⟩
abbrev main_while0b_v426 : Ref sig .tc := ⟨.hbm, 645, rfl⟩
abbrev main_while0b_v427 : Ref sig .tc := ⟨.hbm, 646, rfl⟩
abbrev main_while0b_v428 : Ref sig .tc := ⟨.hbm, 647, rfl⟩
abbrev main_while0b_call54_v0 : Ref sig .tc := ⟨.hbm, 648, rfl⟩
abbrev main_while0b_call54_v1 : Ref sig .tc := ⟨.hbm, 649, rfl⟩
abbrev main_while0b_v429 : Ref sig .tc := ⟨.hbm, 650, rfl⟩
abbrev main_while0b_call55_v0 : Ref sig .tc := ⟨.hbm, 651, rfl⟩
abbrev main_while0b_call55_v1 : Ref sig .tc := ⟨.hbm, 652, rfl⟩
abbrev main_while0b_v430 : Ref sig .tc := ⟨.hbm, 653, rfl⟩
abbrev main_while0b_v431 : Ref sig .tc := ⟨.hbm, 654, rfl⟩
abbrev main_while0b_v432 : Ref sig .tc := ⟨.hbm, 655, rfl⟩
abbrev main_while0b_v433 : Ref sig .tc := ⟨.hbm, 656, rfl⟩
abbrev main_while0b_v434 : Ref sig .tc := ⟨.hbm, 657, rfl⟩
abbrev main_while0b_v435 : Ref sig .tc := ⟨.hbm, 658, rfl⟩
abbrev main_while0b_call56_v0 : Ref sig .tc := ⟨.hbm, 659, rfl⟩
abbrev main_while0b_call56_v1 : Ref sig .tc := ⟨.hbm, 660, rfl⟩
abbrev main_while0b_v436 : Ref sig .tc := ⟨.hbm, 661, rfl⟩
abbrev main_while0b_call57_v0 : Ref sig .tc := ⟨.hbm, 662, rfl⟩
abbrev main_while0b_call57_v1 : Ref sig .tc := ⟨.hbm, 663, rfl⟩
abbrev main_while0b_v437 : Ref sig .tc := ⟨.hbm, 664, rfl⟩
abbrev main_while0b_v438 : Ref sig .tc := ⟨.hbm, 665, rfl⟩
abbrev main_while0b_v439 : Ref sig .tc := ⟨.hbm, 666, rfl⟩
abbrev main_while0b_v440 : Ref sig .tc := ⟨.hbm, 667, rfl⟩
abbrev main_while0b_v441 : Ref sig .tc := ⟨.hbm, 668, rfl⟩
abbrev main_while0b_v442 : Ref sig .tc := ⟨.hbm, 669, rfl⟩
abbrev main_while0b_call58_v0 : Ref sig .tc := ⟨.hbm, 670, rfl⟩
abbrev main_while0b_call58_v1 : Ref sig .tc := ⟨.hbm, 671, rfl⟩
abbrev main_while0b_v443 : Ref sig .tc := ⟨.hbm, 672, rfl⟩
abbrev main_while0b_call59_v0 : Ref sig .tc := ⟨.hbm, 673, rfl⟩
abbrev main_while0b_call59_v1 : Ref sig .tc := ⟨.hbm, 674, rfl⟩
abbrev main_while0b_v444 : Ref sig .tc := ⟨.hbm, 675, rfl⟩
abbrev main_while0b_v445 : Ref sig .tc := ⟨.hbm, 676, rfl⟩
abbrev main_while0b_v446 : Ref sig .tc := ⟨.hbm, 677, rfl⟩
abbrev main_while0b_v447 : Ref sig .tc := ⟨.hbm, 678, rfl⟩
abbrev main_while0b_v448 : Ref sig .tc := ⟨.hbm, 679, rfl⟩
abbrev main_while0b_v449 : Ref sig .tc := ⟨.hbm, 680, rfl⟩
abbrev main_while0b_call60_v0 : Ref sig .tc := ⟨.hbm, 681, rfl⟩
abbrev main_while0b_call60_v1 : Ref sig .tc := ⟨.hbm, 682, rfl⟩
abbrev main_while0b_v450 : Ref sig .tc := ⟨.hbm, 683, rfl⟩
abbrev main_while0b_call61_v0 : Ref sig .tc := ⟨.hbm, 684, rfl⟩
abbrev main_while0b_call61_v1 : Ref sig .tc := ⟨.hbm, 685, rfl⟩
abbrev main_while0b_v451 : Ref sig .tc := ⟨.hbm, 686, rfl⟩
abbrev main_while0b_v452 : Ref sig .tc := ⟨.hbm, 687, rfl⟩
abbrev main_while0b_v453 : Ref sig .tc := ⟨.hbm, 688, rfl⟩
abbrev main_while0b_v454 : Ref sig .tc := ⟨.hbm, 689, rfl⟩
abbrev main_while0b_v455 : Ref sig .tc := ⟨.hbm, 690, rfl⟩
abbrev main_while0b_v456 : Ref sig .tc := ⟨.hbm, 691, rfl⟩
abbrev main_while0b_call62_v0 : Ref sig .tc := ⟨.hbm, 692, rfl⟩
abbrev main_while0b_call62_v1 : Ref sig .tc := ⟨.hbm, 693, rfl⟩
abbrev main_while0b_v457 : Ref sig .tc := ⟨.hbm, 694, rfl⟩
abbrev main_while0b_call63_v0 : Ref sig .tc := ⟨.hbm, 695, rfl⟩
abbrev main_while0b_call63_v1 : Ref sig .tc := ⟨.hbm, 696, rfl⟩
abbrev main_while0b_v458 : Ref sig .tc := ⟨.hbm, 697, rfl⟩
abbrev main_while0b_v459 : Ref sig .tc := ⟨.hbm, 698, rfl⟩
abbrev main_while0b_v460 : Ref sig .tc := ⟨.hbm, 699, rfl⟩
abbrev main_while0b_v461 : Ref sig .tc := ⟨.hbm, 700, rfl⟩
abbrev main_while0b_v462 : Ref sig .tc := ⟨.hbm, 701, rfl⟩
abbrev main_while0b_v463 : Ref sig .tc := ⟨.hbm, 702, rfl⟩
abbrev main_while0b_call64_v0 : Ref sig .tc := ⟨.hbm, 703, rfl⟩
abbrev main_while0b_call64_v1 : Ref sig .tc := ⟨.hbm, 704, rfl⟩
abbrev main_while0b_v464 : Ref sig .tc := ⟨.hbm, 705, rfl⟩
abbrev main_while0b_call65_v0 : Ref sig .tc := ⟨.hbm, 706, rfl⟩
abbrev main_while0b_call65_v1 : Ref sig .tc := ⟨.hbm, 707, rfl⟩
abbrev main_while0b_v465 : Ref sig .tc := ⟨.hbm, 708, rfl⟩
abbrev main_while0b_v466 : Ref sig .tc := ⟨.hbm, 709, rfl⟩
abbrev main_while0b_v467 : Ref sig .tc := ⟨.hbm, 710, rfl⟩
abbrev main_while0b_v468 : Ref sig .tc := ⟨.hbm, 711, rfl⟩
abbrev main_while0b_v469 : Ref sig .tc := ⟨.hbm, 712, rfl⟩
abbrev main_while0b_v470 : Ref sig .tc := ⟨.hbm, 713, rfl⟩
abbrev main_while0b_cst_104 : Ref sig .tc := ⟨.hbm, 714, rfl⟩
abbrev main_while0b_v471 : Ref sig .tc := ⟨.hbm, 715, rfl⟩
abbrev main_while0b_v472 : Ref sig .tc := ⟨.hbm, 716, rfl⟩
abbrev main_while0b_v473 : Ref sig .tc := ⟨.hbm, 717, rfl⟩
abbrev main_while0b_v474 : Ref sig .tc := ⟨.hbm, 718, rfl⟩
abbrev main_while0b_v475 : Ref sig .tc := ⟨.hbm, 719, rfl⟩
abbrev main_while0b_v476 : Ref sig .tc := ⟨.hbm, 720, rfl⟩
abbrev main_while0b_cst_105 : Ref sig .tc := ⟨.hbm, 721, rfl⟩
abbrev main_while0b_v477 : Ref sig .tc := ⟨.hbm, 722, rfl⟩
abbrev main_while0b_cst_106 : Ref sig .tc := ⟨.hbm, 723, rfl⟩
abbrev main_while0b_v478 : Ref sig .tc := ⟨.hbm, 724, rfl⟩
abbrev main_while0b_v479 : Ref sig .tc := ⟨.hbm, 725, rfl⟩
abbrev main_while0b_v480 : Ref sig .tc := ⟨.hbm, 726, rfl⟩
abbrev main_while0b_cst_107 : Ref sig .tc := ⟨.hbm, 727, rfl⟩
abbrev main_while0b_v481 : Ref sig .tc := ⟨.hbm, 728, rfl⟩
abbrev main_while0b_cst_108 : Ref sig .tc := ⟨.hbm, 729, rfl⟩
abbrev main_while0b_v482 : Ref sig .tc := ⟨.hbm, 730, rfl⟩
abbrev main_while0b_v483 : Ref sig .tc := ⟨.hbm, 731, rfl⟩
abbrev main_while0b_v484 : Ref sig .tc := ⟨.hbm, 732, rfl⟩
abbrev main_while0b_cst_109 : Ref sig .tc := ⟨.hbm, 733, rfl⟩
abbrev main_while0b_v485 : Ref sig .tc := ⟨.hbm, 734, rfl⟩
abbrev main_while0b_cst_110 : Ref sig .tc := ⟨.hbm, 735, rfl⟩
abbrev main_while0b_v486 : Ref sig .tc := ⟨.hbm, 736, rfl⟩
abbrev main_while0b_v487 : Ref sig .tc := ⟨.hbm, 737, rfl⟩
abbrev main_while0b_v488 : Ref sig .tc := ⟨.hbm, 738, rfl⟩
abbrev main_while0b_cst_111 : Ref sig .tc := ⟨.hbm, 739, rfl⟩
abbrev main_while0b_v489 : Ref sig .tc := ⟨.hbm, 740, rfl⟩
abbrev main_while0b_cst_112 : Ref sig .tc := ⟨.hbm, 741, rfl⟩
abbrev main_while0b_v490 : Ref sig .tc := ⟨.hbm, 742, rfl⟩
abbrev main_while0b_v491 : Ref sig .tc := ⟨.hbm, 743, rfl⟩
abbrev main_while0b_v492 : Ref sig .tc := ⟨.hbm, 744, rfl⟩
abbrev main_while0b_cst_113 : Ref sig .tc := ⟨.hbm, 745, rfl⟩
abbrev main_while0b_v493 : Ref sig .tc := ⟨.hbm, 746, rfl⟩
abbrev main_while0b_cst_114 : Ref sig .tc := ⟨.hbm, 747, rfl⟩
abbrev main_while0b_v494 : Ref sig .tc := ⟨.hbm, 748, rfl⟩
abbrev main_while0b_v495 : Ref sig .tc := ⟨.hbm, 749, rfl⟩
abbrev main_while0b_v496 : Ref sig .tc := ⟨.hbm, 750, rfl⟩
abbrev main_while0b_cst_115 : Ref sig .tc := ⟨.hbm, 751, rfl⟩
abbrev main_while0b_v497 : Ref sig .tc := ⟨.hbm, 752, rfl⟩
abbrev main_while0b_v498 : Ref sig .tc := ⟨.hbm, 753, rfl⟩
abbrev main_while0b_v499 : Ref sig .tc := ⟨.hbm, 754, rfl⟩
abbrev main_while0b_v500 : Ref sig .tc := ⟨.hbm, 755, rfl⟩
abbrev main_while0b_cst_116 : Ref sig .tc := ⟨.hbm, 756, rfl⟩
abbrev main_while0b_v501 : Ref sig .tc := ⟨.hbm, 757, rfl⟩
abbrev main_while0b_v502 : Ref sig .tc := ⟨.hbm, 758, rfl⟩
abbrev main_while0b_v503 : Ref sig .tc := ⟨.hbm, 759, rfl⟩
abbrev main_while0b_v504 : Ref sig .tc := ⟨.hbm, 760, rfl⟩
abbrev main_while0b_cst_117 : Ref sig .tc := ⟨.hbm, 761, rfl⟩
abbrev main_while0b_v505 : Ref sig .tc := ⟨.hbm, 762, rfl⟩
abbrev main_while0b_cst_118 : Ref sig .tc := ⟨.hbm, 763, rfl⟩
abbrev main_while0b_v506 : Ref sig .tc := ⟨.hbm, 764, rfl⟩
abbrev main_while0b_v507 : Ref sig .tc := ⟨.hbm, 765, rfl⟩
abbrev main_while0b_v508 : Ref sig .tc := ⟨.hbm, 766, rfl⟩
abbrev main_while0b_cst_119 : Ref sig .tc := ⟨.hbm, 767, rfl⟩
abbrev main_while0b_v509 : Ref sig .tc := ⟨.hbm, 768, rfl⟩
abbrev main_while0b_cst_120 : Ref sig .tc := ⟨.hbm, 769, rfl⟩
abbrev main_while0b_v510 : Ref sig .tc := ⟨.hbm, 770, rfl⟩
abbrev main_while0b_v511 : Ref sig .tc := ⟨.hbm, 771, rfl⟩
abbrev main_while0b_v512 : Ref sig .tc := ⟨.hbm, 772, rfl⟩
abbrev main_while0b_cst_121 : Ref sig .tc := ⟨.hbm, 773, rfl⟩
abbrev main_while0b_v513 : Ref sig .tc := ⟨.hbm, 774, rfl⟩
abbrev main_while0b_cst_122 : Ref sig .tc := ⟨.hbm, 775, rfl⟩
abbrev main_while0b_v514 : Ref sig .tc := ⟨.hbm, 776, rfl⟩
abbrev main_while0b_v515 : Ref sig .tc := ⟨.hbm, 777, rfl⟩
abbrev main_while0b_v516 : Ref sig .tc := ⟨.hbm, 778, rfl⟩
abbrev main_while0b_cst_123 : Ref sig .tc := ⟨.hbm, 779, rfl⟩
abbrev main_while0b_v517 : Ref sig .tc := ⟨.hbm, 780, rfl⟩
abbrev main_while0b_v518 : Ref sig .tc := ⟨.hbm, 781, rfl⟩
abbrev main_while0b_v519 : Ref sig .tc := ⟨.hbm, 782, rfl⟩
abbrev main_while0b_v520 : Ref sig .tc := ⟨.hbm, 783, rfl⟩
abbrev main_while0b_cst_124 : Ref sig .tc := ⟨.hbm, 784, rfl⟩
abbrev main_while0b_v521 : Ref sig .tc := ⟨.hbm, 785, rfl⟩
abbrev main_while0b_v522 : Ref sig .tc := ⟨.hbm, 786, rfl⟩
abbrev main_while0b_v523 : Ref sig .tc := ⟨.hbm, 787, rfl⟩
abbrev main_while0b_v524 : Ref sig .tc := ⟨.hbm, 788, rfl⟩
abbrev main_while0b_cst_125 : Ref sig .tc := ⟨.hbm, 789, rfl⟩
abbrev main_while0b_v525 : Ref sig .tc := ⟨.hbm, 790, rfl⟩
abbrev main_while0b_cst_126 : Ref sig .tc := ⟨.hbm, 791, rfl⟩
abbrev main_while0b_v526 : Ref sig .tc := ⟨.hbm, 792, rfl⟩
abbrev main_while0b_v527 : Ref sig .tc := ⟨.hbm, 793, rfl⟩
abbrev main_while0b_v528 : Ref sig .tc := ⟨.hbm, 794, rfl⟩
abbrev main_while0b_cst_127 : Ref sig .tc := ⟨.hbm, 795, rfl⟩
abbrev main_while0b_v529 : Ref sig .tc := ⟨.hbm, 796, rfl⟩
abbrev main_while0b_cst_128 : Ref sig .tc := ⟨.hbm, 797, rfl⟩
abbrev main_while0b_v530 : Ref sig .tc := ⟨.hbm, 798, rfl⟩
abbrev main_while0b_v531 : Ref sig .tc := ⟨.hbm, 799, rfl⟩
abbrev main_while0b_v532 : Ref sig .tc := ⟨.hbm, 800, rfl⟩
abbrev main_while0b_cst_129 : Ref sig .tc := ⟨.hbm, 801, rfl⟩
abbrev main_while0b_v533 : Ref sig .tc := ⟨.hbm, 802, rfl⟩
abbrev main_while0b_cst_130 : Ref sig .tc := ⟨.hbm, 803, rfl⟩
abbrev main_while0b_v534 : Ref sig .tc := ⟨.hbm, 804, rfl⟩
abbrev main_while0b_cst_131 : Ref sig .tc := ⟨.hbm, 805, rfl⟩
abbrev main_while0b_v535 : Ref sig .tc := ⟨.hbm, 806, rfl⟩
abbrev main_while0b_call66_v0 : Ref sig .tc := ⟨.hbm, 807, rfl⟩
abbrev main_while0b_call66_v1 : Ref sig .tc := ⟨.hbm, 808, rfl⟩
abbrev main_while0b_v536 : Ref sig .tc := ⟨.hbm, 809, rfl⟩
abbrev main_while0b_call67_v0 : Ref sig .tc := ⟨.hbm, 810, rfl⟩
abbrev main_while0b_call67_v1 : Ref sig .tc := ⟨.hbm, 811, rfl⟩
abbrev main_while0b_v537 : Ref sig .tc := ⟨.hbm, 812, rfl⟩
abbrev main_while0b_v538 : Ref sig .tc := ⟨.hbm, 813, rfl⟩
abbrev main_while0b_v539 : Ref sig .tc := ⟨.hbm, 814, rfl⟩
abbrev main_while0b_v540 : Ref sig .tc := ⟨.hbm, 815, rfl⟩
abbrev main_while0b_v541 : Ref sig .tc := ⟨.hbm, 816, rfl⟩
abbrev main_while0b_cst_132 : Ref sig .tc := ⟨.hbm, 817, rfl⟩
abbrev main_while0b_v542 : Ref sig .tc := ⟨.hbm, 818, rfl⟩
abbrev main_while0b_call68_v0 : Ref sig .tc := ⟨.hbm, 819, rfl⟩
abbrev main_while0b_call68_v1 : Ref sig .tc := ⟨.hbm, 820, rfl⟩
abbrev main_while0b_v543 : Ref sig .tc := ⟨.hbm, 821, rfl⟩
abbrev main_while0b_call69_v0 : Ref sig .tc := ⟨.hbm, 822, rfl⟩
abbrev main_while0b_call69_v1 : Ref sig .tc := ⟨.hbm, 823, rfl⟩
abbrev main_while0b_v544 : Ref sig .tc := ⟨.hbm, 824, rfl⟩
abbrev main_while0b_v545 : Ref sig .tc := ⟨.hbm, 825, rfl⟩
abbrev main_while0b_v546 : Ref sig .tc := ⟨.hbm, 826, rfl⟩
abbrev main_while0b_v547 : Ref sig .tc := ⟨.hbm, 827, rfl⟩
abbrev main_while0b_v548 : Ref sig .tc := ⟨.hbm, 828, rfl⟩
abbrev main_while0b_v549 : Ref sig .tc := ⟨.hbm, 829, rfl⟩
abbrev main_while0b_call70_v0 : Ref sig .tc := ⟨.hbm, 830, rfl⟩
abbrev main_while0b_call70_v1 : Ref sig .tc := ⟨.hbm, 831, rfl⟩
abbrev main_while0b_v550 : Ref sig .tc := ⟨.hbm, 832, rfl⟩
abbrev main_while0b_call71_v0 : Ref sig .tc := ⟨.hbm, 833, rfl⟩
abbrev main_while0b_call71_v1 : Ref sig .tc := ⟨.hbm, 834, rfl⟩
abbrev main_while0b_v551 : Ref sig .tc := ⟨.hbm, 835, rfl⟩
abbrev main_while0b_v552 : Ref sig .tc := ⟨.hbm, 836, rfl⟩
abbrev main_while0b_v553 : Ref sig .tc := ⟨.hbm, 837, rfl⟩
abbrev main_while0b_v554 : Ref sig .tc := ⟨.hbm, 838, rfl⟩
abbrev main_while0b_v555 : Ref sig .tc := ⟨.hbm, 839, rfl⟩
abbrev main_while0b_v556 : Ref sig .tc := ⟨.hbm, 840, rfl⟩
abbrev main_while0b_call72_v0 : Ref sig .tc := ⟨.hbm, 841, rfl⟩
abbrev main_while0b_call72_v1 : Ref sig .tc := ⟨.hbm, 842, rfl⟩
abbrev main_while0b_v557 : Ref sig .tc := ⟨.hbm, 843, rfl⟩
abbrev main_while0b_call73_v0 : Ref sig .tc := ⟨.hbm, 844, rfl⟩
abbrev main_while0b_call73_v1 : Ref sig .tc := ⟨.hbm, 845, rfl⟩
abbrev main_while0b_v558 : Ref sig .tc := ⟨.hbm, 846, rfl⟩
abbrev main_while0b_v559 : Ref sig .tc := ⟨.hbm, 847, rfl⟩
abbrev main_while0b_v560 : Ref sig .tc := ⟨.hbm, 848, rfl⟩
abbrev main_while0b_v561 : Ref sig .tc := ⟨.hbm, 849, rfl⟩
abbrev main_while0b_v562 : Ref sig .tc := ⟨.hbm, 850, rfl⟩
abbrev main_while0b_v563 : Ref sig .tc := ⟨.hbm, 851, rfl⟩
abbrev main_while0b_call74_v0 : Ref sig .tc := ⟨.hbm, 852, rfl⟩
abbrev main_while0b_call74_v1 : Ref sig .tc := ⟨.hbm, 853, rfl⟩
abbrev main_while0b_v564 : Ref sig .tc := ⟨.hbm, 854, rfl⟩
abbrev main_while0b_call75_v0 : Ref sig .tc := ⟨.hbm, 855, rfl⟩
abbrev main_while0b_call75_v1 : Ref sig .tc := ⟨.hbm, 856, rfl⟩
abbrev main_while0b_v565 : Ref sig .tc := ⟨.hbm, 857, rfl⟩
abbrev main_while0b_v566 : Ref sig .tc := ⟨.hbm, 858, rfl⟩
abbrev main_while0b_v567 : Ref sig .tc := ⟨.hbm, 859, rfl⟩
abbrev main_while0b_v568 : Ref sig .tc := ⟨.hbm, 860, rfl⟩
abbrev main_while0b_v569 : Ref sig .tc := ⟨.hbm, 861, rfl⟩
abbrev main_while0b_v570 : Ref sig .tc := ⟨.hbm, 862, rfl⟩
abbrev main_while0b_call76_v0 : Ref sig .tc := ⟨.hbm, 863, rfl⟩
abbrev main_while0b_call76_v1 : Ref sig .tc := ⟨.hbm, 864, rfl⟩
abbrev main_while0b_v571 : Ref sig .tc := ⟨.hbm, 865, rfl⟩
abbrev main_while0b_call77_v0 : Ref sig .tc := ⟨.hbm, 866, rfl⟩
abbrev main_while0b_call77_v1 : Ref sig .tc := ⟨.hbm, 867, rfl⟩
abbrev main_while0b_v572 : Ref sig .tc := ⟨.hbm, 868, rfl⟩
abbrev main_while0b_v573 : Ref sig .tc := ⟨.hbm, 869, rfl⟩
abbrev main_while0b_v574 : Ref sig .tc := ⟨.hbm, 870, rfl⟩
abbrev main_while0b_v575 : Ref sig .tc := ⟨.hbm, 871, rfl⟩
abbrev main_while0b_v576 : Ref sig .tc := ⟨.hbm, 872, rfl⟩
abbrev main_while0b_v577 : Ref sig .tc := ⟨.hbm, 873, rfl⟩
abbrev main_while0b_call78_v0 : Ref sig .tc := ⟨.hbm, 874, rfl⟩
abbrev main_while0b_call78_v1 : Ref sig .tc := ⟨.hbm, 875, rfl⟩
abbrev main_while0b_v578 : Ref sig .tc := ⟨.hbm, 876, rfl⟩
abbrev main_while0b_call79_v0 : Ref sig .tc := ⟨.hbm, 877, rfl⟩
abbrev main_while0b_call79_v1 : Ref sig .tc := ⟨.hbm, 878, rfl⟩
abbrev main_while0b_v579 : Ref sig .tc := ⟨.hbm, 879, rfl⟩
abbrev main_while0b_v580 : Ref sig .tc := ⟨.hbm, 880, rfl⟩
abbrev main_while0b_v581 : Ref sig .tc := ⟨.hbm, 881, rfl⟩
abbrev main_while0b_v582 : Ref sig .tc := ⟨.hbm, 882, rfl⟩
abbrev main_while0b_v583 : Ref sig .tc := ⟨.hbm, 883, rfl⟩
abbrev main_while0b_v584 : Ref sig .tc := ⟨.hbm, 884, rfl⟩
abbrev main_while0b_call80_v0 : Ref sig .tc := ⟨.hbm, 885, rfl⟩
abbrev main_while0b_call80_v1 : Ref sig .tc := ⟨.hbm, 886, rfl⟩
abbrev main_while0b_v585 : Ref sig .tc := ⟨.hbm, 887, rfl⟩
abbrev main_while0b_call81_v0 : Ref sig .tc := ⟨.hbm, 888, rfl⟩
abbrev main_while0b_call81_v1 : Ref sig .tc := ⟨.hbm, 889, rfl⟩
abbrev main_while0b_v586 : Ref sig .tc := ⟨.hbm, 890, rfl⟩
abbrev main_while0b_v587 : Ref sig .tc := ⟨.hbm, 891, rfl⟩
abbrev main_while0b_v588 : Ref sig .tc := ⟨.hbm, 892, rfl⟩
abbrev main_while0b_v589 : Ref sig .tc := ⟨.hbm, 893, rfl⟩
abbrev main_while0b_v590 : Ref sig .tc := ⟨.hbm, 894, rfl⟩
abbrev main_while0b_v591 : Ref sig .tc := ⟨.hbm, 895, rfl⟩
abbrev main_while0b_call82_v0 : Ref sig .tc := ⟨.hbm, 896, rfl⟩
abbrev main_while0b_call82_v1 : Ref sig .tc := ⟨.hbm, 897, rfl⟩
abbrev main_while0b_v592 : Ref sig .tc := ⟨.hbm, 898, rfl⟩
abbrev main_while0b_call83_v0 : Ref sig .tc := ⟨.hbm, 899, rfl⟩
abbrev main_while0b_call83_v1 : Ref sig .tc := ⟨.hbm, 900, rfl⟩
abbrev main_while0b_v593 : Ref sig .tc := ⟨.hbm, 901, rfl⟩
abbrev main_while0b_v594 : Ref sig .tc := ⟨.hbm, 902, rfl⟩
abbrev main_while0b_v595 : Ref sig .tc := ⟨.hbm, 903, rfl⟩
abbrev main_while0b_v596 : Ref sig .tc := ⟨.hbm, 904, rfl⟩
abbrev main_while0b_v597 : Ref sig .tc := ⟨.hbm, 905, rfl⟩
abbrev main_while0b_v598 : Ref sig .tc := ⟨.hbm, 906, rfl⟩
abbrev main_while0b_call84_v0 : Ref sig .tc := ⟨.hbm, 907, rfl⟩
abbrev main_while0b_call84_v1 : Ref sig .tc := ⟨.hbm, 908, rfl⟩
abbrev main_while0b_v599 : Ref sig .tc := ⟨.hbm, 909, rfl⟩
abbrev main_while0b_call85_v0 : Ref sig .tc := ⟨.hbm, 910, rfl⟩
abbrev main_while0b_call85_v1 : Ref sig .tc := ⟨.hbm, 911, rfl⟩
abbrev main_while0b_v600 : Ref sig .tc := ⟨.hbm, 912, rfl⟩
abbrev main_while0b_v601 : Ref sig .tc := ⟨.hbm, 913, rfl⟩
abbrev main_while0b_v602 : Ref sig .tc := ⟨.hbm, 914, rfl⟩
abbrev main_while0b_v603 : Ref sig .tc := ⟨.hbm, 915, rfl⟩
abbrev main_while0b_v604 : Ref sig .tc := ⟨.hbm, 916, rfl⟩
abbrev main_while0b_v605 : Ref sig .tc := ⟨.hbm, 917, rfl⟩
abbrev main_while0b_call86_v0 : Ref sig .tc := ⟨.hbm, 918, rfl⟩
abbrev main_while0b_call86_v1 : Ref sig .tc := ⟨.hbm, 919, rfl⟩
abbrev main_while0b_v606 : Ref sig .tc := ⟨.hbm, 920, rfl⟩
abbrev main_while0b_call87_v0 : Ref sig .tc := ⟨.hbm, 921, rfl⟩
abbrev main_while0b_call87_v1 : Ref sig .tc := ⟨.hbm, 922, rfl⟩
abbrev main_while0b_v607 : Ref sig .tc := ⟨.hbm, 923, rfl⟩
abbrev main_while0b_v608 : Ref sig .tc := ⟨.hbm, 924, rfl⟩
abbrev main_while0b_v609 : Ref sig .tc := ⟨.hbm, 925, rfl⟩
abbrev main_while0b_v610 : Ref sig .tc := ⟨.hbm, 926, rfl⟩
abbrev main_while0b_v611 : Ref sig .tc := ⟨.hbm, 927, rfl⟩
abbrev main_while0b_v612 : Ref sig .tc := ⟨.hbm, 928, rfl⟩
abbrev main_while0b_cst_133 : Ref sig .tc := ⟨.hbm, 929, rfl⟩
abbrev main_while0b_v613 : Ref sig .tc := ⟨.hbm, 930, rfl⟩
abbrev main_while0b_v614 : Ref sig .tc := ⟨.hbm, 931, rfl⟩
abbrev main_while0b_v615 : Ref sig .tc := ⟨.hbm, 932, rfl⟩
abbrev main_while0b_v616 : Ref sig .tc := ⟨.hbm, 933, rfl⟩
abbrev main_while0b_cst_134 : Ref sig .tc := ⟨.hbm, 934, rfl⟩
abbrev main_while0b_v617 : Ref sig .tc := ⟨.hbm, 935, rfl⟩
abbrev main_while0b_v618 : Ref sig .tc := ⟨.hbm, 936, rfl⟩
abbrev main_while0b_v619 : Ref sig .tc := ⟨.hbm, 937, rfl⟩
abbrev main_while0b_cst_135 : Ref sig .tc := ⟨.hbm, 938, rfl⟩
abbrev main_while0b_v620 : Ref sig .tc := ⟨.hbm, 939, rfl⟩
abbrev main_while0b_v621 : Ref sig .tc := ⟨.hbm, 940, rfl⟩
abbrev main_while0b_v622 : Ref sig .tc := ⟨.hbm, 941, rfl⟩
abbrev main_while0b_v623 : Ref sig .tc := ⟨.hbm, 942, rfl⟩
abbrev main_while0b_v624 : Ref sig .tc := ⟨.hbm, 943, rfl⟩
abbrev main_while0b_v625 : Ref sig .tc := ⟨.hbm, 944, rfl⟩
abbrev main_while0b_v626 : Ref sig .tc := ⟨.hbm, 945, rfl⟩
abbrev main_while0b_cst_136 : Ref sig .tc := ⟨.hbm, 946, rfl⟩
abbrev main_while0b_v627 : Ref sig .tc := ⟨.hbm, 947, rfl⟩
abbrev main_while0b_cst_137 : Ref sig .tc := ⟨.hbm, 948, rfl⟩
abbrev main_while0b_v628 : Ref sig .tc := ⟨.hbm, 949, rfl⟩
abbrev main_while0b_v629 : Ref sig .tc := ⟨.hbm, 950, rfl⟩
abbrev main_while0b_cst_138 : Ref sig .tc := ⟨.hbm, 951, rfl⟩
abbrev main_while0b_call88_v0 : Ref sig .tc := ⟨.hbm, 952, rfl⟩
abbrev main_while0b_v630 : Ref sig .tc := ⟨.hbm, 953, rfl⟩
abbrev main_while0b_v631 : Ref sig .tc := ⟨.hbm, 954, rfl⟩
abbrev main_while0b_v632 : Ref sig .tc := ⟨.hbm, 955, rfl⟩
abbrev main_while0b_v633 : Ref sig .tc := ⟨.hbm, 956, rfl⟩
abbrev main_while0b_v634 : Ref sig .tc := ⟨.hbm, 957, rfl⟩
abbrev main_while0b_v635 : Ref sig .tc := ⟨.hbm, 958, rfl⟩
abbrev main_while0b_v636 : Ref sig .tc := ⟨.hbm, 959, rfl⟩
abbrev main_while0b_v637 : Ref sig .tc := ⟨.hbm, 960, rfl⟩
abbrev main_while0b_cst_139 : Ref sig .tc := ⟨.hbm, 961, rfl⟩
abbrev main_while0b_v638 : Ref sig .tc := ⟨.hbm, 962, rfl⟩
abbrev main_while0b_cst_140 : Ref sig .tc := ⟨.hbm, 963, rfl⟩
abbrev main_while0b_v639 : Ref sig .tc := ⟨.hbm, 964, rfl⟩
abbrev main_while0b_v640 : Ref sig .tc := ⟨.hbm, 965, rfl⟩
abbrev main_while0b_cst_141 : Ref sig .tc := ⟨.hbm, 966, rfl⟩
abbrev main_while0b_call89_v0 : Ref sig .tc := ⟨.hbm, 967, rfl⟩
abbrev main_while0b_v641 : Ref sig .tc := ⟨.hbm, 968, rfl⟩
abbrev main_while0b_v642 : Ref sig .tc := ⟨.hbm, 969, rfl⟩
abbrev main_while0b_v643 : Ref sig .tc := ⟨.hbm, 970, rfl⟩
abbrev main_while0b_v644 : Ref sig .tc := ⟨.hbm, 971, rfl⟩
abbrev main_while0b_c_142 : Ref sig .tc := ⟨.hbm, 972, rfl⟩
abbrev main_while0b_v645 : Ref sig .tc := ⟨.hbm, 973, rfl⟩
abbrev main_v324 : Ref sig .tc := ⟨.hbm, 974, rfl⟩

abbrev nD : Nat := 1
abbrev τ : Topo := Topo.v7x

variable {F : FTy → Type} [FloatOps F]

abbrev main_while0_count : Scf.Loop 32 := ⟨0#32, 20#32, 1#32⟩
-- ==== Proof.Hand.Blocks.lean ====
/- Arrays of 2048 rows taken a block of 256 rows at a time: a block read out of an array, an array put together from its
   blocks, and the array half way through being overwritten block by block. These are what a row loop reads and writes. -/
module

public import Idealize.ShloMosaic.Lib.WritesUnit
public import Idealize.ShloMosaic.Lib.VecWindow

@[expose] public section

namespace Cert.Proof.Blocks
open Idealize.ShloMosaic

/-- The shape of a whole array, and of a block of its rows. -/
abbrev SA : Shape := ⟨2, ![2048, 768]⟩
abbrev ST : Shape := ⟨2, ![256, 768]⟩

/-- An index of the whole array from its row and column, and an index of a block. -/
def ixA (i : Fin 2048) (j : Fin 768) : SA.Idx := Fin.cons i (Fin.cons j finZeroElim)
def ixT (i : Fin 256) (j : Fin 768) : ST.Idx := Fin.cons i (Fin.cons j finZeroElim)

variable {α : Type}

/-- Where row `y 0` of block `k` lies in the whole array. -/
def pos (k : ℕ) (y : ST.Idx) : SA.Idx := ixA ⟨(256 * k + (y 0).val) % 2048, Nat.mod_lt _ (by decide)⟩ ⟨(y 1).val, (y 1).isLt⟩

/-- Where an index of the whole array lies in its block. -/
def loc (i : SA.Idx) : ST.Idx := ixT ⟨(i 0).val % 256, Nat.mod_lt _ (by decide)⟩ ⟨(i 1).val, (i 1).isLt⟩

/-- Block `k` of an array. -/
def blk (f : SA.Idx → α) (k : ℕ) : ST.Idx → α := fun y => f (pos k y)

/-- The array with the given blocks. -/
def unblk (P : ℕ → ST.Idx → α) : SA.Idx → α := fun i => P ((i 0).val / 256) (loc i)

/-- The array whose first `k` blocks are those of `new`, the others those of `old`. -/
def mix (k : ℕ) (new old : SA.Idx → α) : SA.Idx → α := fun i => if (i 0).val < 256 * k then new i else old i

theorem idxA_ext {i j : SA.Idx} (h0 : (i 0).val = (j 0).val) (h1 : (i 1).val = (j 1).val) : i = j :=
  funext fun a => Fin.ext (by revert a; exact Fin.forall_fin_two.mpr ⟨h0, h1⟩)

theorem idxT_ext {i j : ST.Idx} (h0 : (i 0).val = (j 0).val) (h1 : (i 1).val = (j 1).val) : i = j :=
  funext fun a => Fin.ext (by revert a; exact Fin.forall_fin_two.mpr ⟨h0, h1⟩)

theorem pos_zero (k : ℕ) (hk : k < 8) (y : ST.Idx) : (pos k y 0).val = 256 * k + (y 0).val := by
  have h : (y 0).val < 256 := (y 0).isLt
  show (256 * k + (y 0).val) % 2048 = _
  exact Nat.mod_eq_of_lt (by omega)

theorem pos_one (k : ℕ) (y : ST.Idx) : (pos k y 1).val = (y 1).val := rfl

theorem loc_pos (k : ℕ) (hk : k < 8) (y : ST.Idx) : loc (pos k y) = y := by
  have h : (y 0).val < 256 := (y 0).isLt
  refine idxT_ext ?_ rfl
  show (pos k y 0).val % 256 = _
  rw [pos_zero k hk]; omega

theorem pos_loc (i : SA.Idx) : pos ((i 0).val / 256) (loc i) = i := by
  have h : (i 0).val < 2048 := (i 0).isLt
  refine idxA_ext ?_ rfl
  rw [pos_zero _ (by omega)]
  show 256 * ((i 0).val / 256) + (i 0).val % 256 = _
  omega

/-- The blocks of the array put together from blocks. -/
theorem blk_unblk (P : ℕ → ST.Idx → α) (k : ℕ) (hk : k < 8) : blk (unblk P) k = P k := by
  funext y
  have h : (y 0).val < 256 := (y 0).isLt
  show P ((pos k y 0).val / 256) (loc (pos k y)) = _
  rw [loc_pos k hk, pos_zero k hk, show (256 * k + (y 0).val) / 256 = k by omega]

/-- An array put together from its own blocks. -/
theorem unblk_blk (f : SA.Idx → α) : unblk (blk f) = f := funext fun i => congrArg f (pos_loc i)

theorem mix_zero (new old : SA.Idx → α) : mix 0 new old = old := by
  funext i; exact if_neg (Nat.not_lt_zero _)

theorem mix_eight (new old : SA.Idx → α) : mix 8 new old = new := by
  funext i; exact if_pos (i 0).isLt

/-- The next block is still the old array's. -/
theorem blk_mix (k : ℕ) (hk : k < 8) (new old : SA.Idx → α) : blk (mix k new old) k = blk old k := by
  funext y
  refine if_neg ?_
  rw [pos_zero k hk]; omega

/-! ## A load and a store of one block -/

section Mem
variable {sig : RefSig} {κ : Kind} {sp : Space} {e : EltTy} {Val : EltTy → Type}

/-- A load of rows `[256 k, 256 k + 256)` reads block `k`. -/
theorem load_blk (v : View sig κ sp SA e) (f : v.ty.Contents Val) (off : Fin 2 → ℕ) (k : ℕ) (hk : k < 8) (hoff : off = ![256 * k, 0])
    (inb : ∀ a : Fin 2, off a + ST.size a ≤ SA.size a) :
    v.readAt Val (Rect.unit (s := SA) off ST.size inb).toLoadRect f = blk (v.read Val f) k := by
  subst hoff
  funext y
  refine congrArg (v.read Val f) (idxA_ext ?_ ?_)
  · rw [pos_zero k hk]
    show 256 * k + 1 * (y 0).val = _
    omega
  · show 0 + 1 * (y 1).val = (y 1).val
    omega

/-- A store of block `k` of `unblk P` over an array overwritten up to block `k` leaves it overwritten up to block `k + 1`. -/
theorem store_mix (v : View sig κ sp SA e) (f : v.ty.Contents Val) (off : Fin 2 → ℕ) (k : ℕ) (hk : k < 8) (hoff : off = ![256 * k, 0])
    (inb : ∀ a : Fin 2, off a + ST.size a ≤ SA.size a) (w : (Rect.unit (s := SA) off ST.size inb).shape.Idx → Val e)
    (P : ℕ → ST.Idx → Val e) (old : SA.Idx → Val e) (hf : v.read Val f = mix k (unblk P) old) (hw : w = P k) :
    v.read Val (v.writes Val f [(⟨Rect.unit (s := SA) off ST.size inb, w⟩ : View.Piece Val SA e)]) = mix (k + 1) (unblk P) old := by
  funext i
  by_cases h : 256 * k ≤ (i 0).val ∧ (i 0).val < 256 * k + 256
  · rw [View.read_writes_cons_rows_of_mem v f inb w [] i (loc i) hoff
      (by show (i 0).val = 256 * k + (i 0).val % 256; omega) rfl, hw]
    show _ = if (i 0).val < 256 * (k + 1) then unblk P i else old i
    rw [if_pos (by omega)]
    show _ = P ((i 0).val / 256) (loc i)
    rw [show (i 0).val / 256 = k by omega]
  · rw [View.read_writes_cons_rows_of_not_mem v f inb w [] i hoff (W := 256) rfl (by omega)]
    show v.read Val f i = _
    rw [hf]
    show (if (i 0).val < 256 * k then unblk P i else old i) = if (i 0).val < 256 * (k + 1) then unblk P i else old i
    by_cases h' : (i 0).val < 256 * k
    · rw [if_pos h', if_pos (by omega)]
    · rw [if_neg h', if_neg (by omega)]

/-- The same for a buffer the view reads whole: the contents after the store, named. -/
theorem put_mix (v : View sig κ sp SA e) (hv : Function.Injective (v.read Val)) (f g : v.ty.Contents Val) (off : Fin 2 → ℕ) (k : ℕ) (hk : k < 8)
    (hoff : off = ![256 * k, 0]) (inb : ∀ a : Fin 2, off a + ST.size a ≤ SA.size a) (w : (Rect.unit (s := SA) off ST.size inb).shape.Idx → Val e)
    (P : ℕ → ST.Idx → Val e) (old : SA.Idx → Val e) (hf : v.read Val f = mix k (unblk P) old) (hg : v.read Val g = mix (k + 1) (unblk P) old)
    (hw : w = P k) :
    v.writes Val f [(⟨Rect.unit (s := SA) off ST.size inb, w⟩ : View.Piece Val SA e)] = g :=
  hv ((store_mix v f off k hk hoff inb w P old hf hw).trans hg.symm)

/-- A load of block `k` of an array overwritten up to block `k` reads the old array's block. -/
theorem load_mix (v : View sig κ sp SA e) (f : v.ty.Contents Val) (off : Fin 2 → ℕ) (k : ℕ) (hk : k < 8) (hoff : off = ![256 * k, 0])
    (inb : ∀ a : Fin 2, off a + ST.size a ≤ SA.size a) (new old : SA.Idx → Val e) (hf : v.read Val f = mix k new old) :
    v.readAt Val (Rect.unit (s := SA) off ST.size inb).toLoadRect f = blk old k := by
  rw [load_blk v f off k hk hoff inb, hf, blk_mix k hk]

/-- A view of a whole buffer reads different contents differently. -/
theorem whole_inj (b : Ref sig κ) : Function.Injective ((Memref.whole b).view.read Val) := fun _ _ h => h

/-- A view of a whole buffer reads its contents. -/
theorem whole_read (b : Ref sig κ) (f : b.ty.Contents Val) : (Memref.whole b).view.read Val f = f := rfl

end Mem

end Cert.Proof.Blocks
-- ==== Proof.Hand.Model.lean ====
/- What the conjugate-gradient kernel computes, as functions on arrays of 2048 × 768 numbers. Each of the kernel's row
   loops becomes a function that builds an array block by block, or a running sum over the eight blocks. -/
module

public import proofs.«01_k».proof.Proof.Hand.Blocks
public import proofs.«01_k».proof.Proof.Gen.KernelIdeal.Skeleton

@[expose] public section
noncomputable section

namespace Cert.Proof.Model
open Cert.KernelIdeal Cert.KernelIdeal.Gen
open Idealize.ShloMosaic
open Cert.Proof.Blocks

variable {F : FTy → Type} [FloatOps F]

/-- An array of the kernel's, and its weights. -/
abbrev Arr (F : FTy → Type) : Type := SA.Idx → F .f32
abbrev Tile (F : FTy → Type) : Type := ST.Idx → F .f32
abbrev Wt (F : FTy → Type) : Type := Vec F S512x256 .bf16

/-- The float zero every loop's sum starts at. -/
abbrev z0 : F .f32 := Scalar.ofBits .f32 0x00000000#32

/-- The array of zeros the first loop writes. -/
def zeroArr : Arr F := unblk fun _ => k1_pay4 (F := F)

/-- The sum of squares of the right-hand side over the first `k` blocks. -/
def normSum (r0 r1 : Arr F) : ℕ → F .f32
  | 0 => z0
  | k + 1 => k1_pay8 (normSum r0 r1 k) (blk r0 k) (blk r1 k)

/-- The next search direction, real and imaginary part. -/
def newP0 (beta : F .f32) (p0 r0 : Arr F) : Arr F := unblk fun k => k1_pay27 beta (blk p0 k) (blk r0 k)
def newP1 (beta : F .f32) (p1 r1 : Arr F) : Arr F := unblk fun k => k1_pay28 beta (blk p1 k) (blk r1 k)

/-- The iterate moved along the previous direction. -/
def newX0 (ap : F .f32) (p0 x0 : Arr F) : Arr F := unblk fun k => k1_pay23 ap (blk p0 k) (blk x0 k)
def newX1 (ap : F .f32) (p1 x1 : Arr F) : Arr F := unblk fun k => k1_pay24 ap (blk p1 k) (blk x1 k)

/-- One block of the operator's product with the new direction: its real part, its imaginary part, and what the block adds to
    the running sum of direction times product. -/
def prodTile0 (w0 w1 : Wt F) (beta : F .f32) (p0 r0 p1 r1 : Tile F) : Tile F :=
  k1_pay11 w0 w1 (k1_pay25 beta p0 r0) (k1_pay33 (k1_pay26 beta p1 r1)) (k1_pay34 (k1_pay26 beta p1 r1))
    (k1_pay35 (k1_pay1 w0) (k1_pay2 w1) (k1_pay26 beta p1 r1)) (k1_pay36 (k1_pay26 beta p1 r1)) (k1_pay37 (k1_pay26 beta p1 r1))
def prodTile1 (w0 w1 : Wt F) (beta : F .f32) (p0 r0 p1 r1 : Tile F) : Tile F :=
  k1_pay12 (k1_pay26 beta p1 r1) (k1_pay31 (k1_pay1 w0) (k1_pay2 w1) (k1_pay29 beta p0 r0) (k1_pay30 beta p0 r0))
def prodSumTile (w0 w1 : Wt F) (beta acc : F .f32) (p0 r0 p1 r1 : Tile F) : F .f32 :=
  k1_pay13 w0 w1 acc (k1_pay25 beta p0 r0) (k1_pay26 beta p1 r1)
    (k1_pay31 (k1_pay1 w0) (k1_pay2 w1) (k1_pay29 beta p0 r0) (k1_pay30 beta p0 r0)) (k1_pay33 (k1_pay26 beta p1 r1)) (k1_pay34 (k1_pay26 beta p1 r1))
    (k1_pay35 (k1_pay1 w0) (k1_pay2 w1) (k1_pay26 beta p1 r1)) (k1_pay36 (k1_pay26 beta p1 r1)) (k1_pay37 (k1_pay26 beta p1 r1))

def prod0 (w0 w1 : Wt F) (beta : F .f32) (p0 r0 p1 r1 : Arr F) : Arr F :=
  unblk fun k => prodTile0 w0 w1 beta (blk p0 k) (blk r0 k) (blk p1 k) (blk r1 k)
def prod1 (w0 w1 : Wt F) (beta : F .f32) (p0 r0 p1 r1 : Arr F) : Arr F :=
  unblk fun k => prodTile1 w0 w1 beta (blk p0 k) (blk r0 k) (blk p1 k) (blk r1 k)
def prodSum (w0 w1 : Wt F) (beta : F .f32) (p0 r0 p1 r1 : Arr F) : ℕ → F .f32
  | 0 => z0
  | k + 1 => prodSumTile w0 w1 beta (prodSum w0 w1 beta p0 r0 p1 r1 k) (blk p0 k) (blk r0 k) (blk p1 k) (blk r1 k)

/-- The residual after a step, and its sum of squares over the first `k` blocks. -/
def newR0 (b rs den : F .f32) (r0 q0 : Arr F) : Arr F := unblk fun k => k1_pay17 b rs den (blk r0 k) (blk q0 k)
def newR1 (b rs den : F .f32) (r1 q1 : Arr F) : Arr F := unblk fun k => k1_pay18 b rs den (blk r1 k) (blk q1 k)
def resSum (b rs den : F .f32) (r0 q0 r1 q1 : Arr F) : ℕ → F .f32
  | 0 => z0
  | k + 1 => k1_pay19 b rs den (resSum b rs den r0 q0 r1 q1 k) (blk r0 k) (blk q0 k) (blk r1 k) (blk q1 k)

/-- The last move of the iterate. -/
def lastX0 (a : F .f32) (p0 x0 : Arr F) : Arr F := unblk fun k => k1_pay21 a (blk x0 k) (blk p0 k)
def lastX1 (a : F .f32) (p1 x1 : Arr F) : Arr F := unblk fun k => k1_pay22 a (blk x1 k) (blk p1 k)

/-- What the outer loop carries: residual, iterate, direction, and the three scalars. -/
structure St (F : FTy → Type) : Type where
  r0 : Arr F
  r1 : Arr F
  x0 : Arr F
  x1 : Arr F
  p0 : Arr F
  p1 : Arr F
  rs : F .f32
  beta : F .f32
  ap : F .f32

/-- The denominator of the step length at a state. -/
def St.den (w0 w1 : Wt F) (s : St F) : F .f32 := prodSum w0 w1 s.beta s.p0 s.r0 s.p1 s.r1 8
/-- The new sum of squares. -/
def St.rs' (w0 w1 : Wt F) (b : F .f32) (s : St F) : F .f32 :=
  resSum b s.rs (s.den w0 w1) s.r0 (prod0 w0 w1 s.beta s.p0 s.r0 s.p1 s.r1) s.r1 (prod1 w0 w1 s.beta s.p0 s.r0 s.p1 s.r1) 8

/-- One iteration; `b` is the sum of squares of the right-hand side. -/
def St.next (w0 w1 : Wt F) (b : F .f32) (s : St F) : St F where
  r0 := newR0 b s.rs (s.den w0 w1) s.r0 (prod0 w0 w1 s.beta s.p0 s.r0 s.p1 s.r1)
  r1 := newR1 b s.rs (s.den w0 w1) s.r1 (prod1 w0 w1 s.beta s.p0 s.r0 s.p1 s.r1)
  x0 := newX0 s.ap s.p0 s.x0
  x1 := newX1 s.ap s.p1 s.x1
  p0 := newP0 s.beta s.p0 s.r0
  p1 := newP1 s.beta s.p1 s.r1
  rs := s.rs' w0 w1 b
  beta := k1_pay20 b s.rs (s.rs' w0 w1 b)
  ap := k1_pay14 b s.rs (s.den w0 w1)

/-- The state before the first iteration, from the right-hand side. -/
def St.init (r0 r1 : Arr F) : St F where
  r0 := r0
  r1 := r1
  x0 := zeroArr
  x1 := zeroArr
  p0 := zeroArr
  p1 := zeroArr
  rs := normSum r0 r1 8
  beta := z0
  ap := z0

/-- The state after `n` iterations from the right-hand side. -/
def St.run (w0 w1 : Wt F) (r0 r1 : Arr F) : ℕ → St F
  | 0 => St.init r0 r1
  | n + 1 => St.next w0 w1 (normSum r0 r1 8) (St.run w0 w1 r0 r1 n)

/-- The kernel's two results from the right-hand side. -/
def out0 (w0 w1 : Wt F) (r0 r1 : Arr F) : Arr F := lastX0 (St.run w0 w1 r0 r1 20).ap (St.run w0 w1 r0 r1 20).p0 (St.run w0 w1 r0 r1 20).x0
def out1 (w0 w1 : Wt F) (r0 r1 : Arr F) : Arr F := lastX1 (St.run w0 w1 r0 r1 20).ap (St.run w0 w1 r0 r1 20).p1 (St.run w0 w1 r0 r1 20).x1

/-! ## The right-hand side -/

/-- One block of the right-hand side from one block of each wave function, the coefficients and the weights: its real part … -/
def rhsTile0 (a b : Tile F) (s : Vec F S1x768 .f32) (hi lo : Wt F) : Tile F :=
  k0_pay1 (k0_pay8 a b s) (k0_pay10 hi) (k0_pay11 lo) (k0_pay22 (k0_pay9 a b s) (k0_pay10 hi) (k0_pay11 lo))
    (k0_pay23 (k0_pay9 a b s) (k0_pay10 hi) (k0_pay11 lo)) (k0_pay24 (k0_pay9 a b s)) (k0_pay25 (k0_pay9 a b s)) (k0_pay26 (k0_pay9 a b s) (k0_pay10 hi))
/-- … and its imaginary part. -/
def rhsTile1 (a b : Tile F) (s : Vec F S1x768 .f32) (hi lo : Wt F) : Tile F :=
  k0_pay2 (k0_pay9 a b s) (k0_pay18 (k0_pay10 hi) (k0_pay11 lo) (k0_pay13 a b s) (k0_pay14 a b s) (k0_pay15 a b s) (k0_pay16 a b s) (k0_pay17 a b s hi)
    (constant S256x256 .f32 0x00000000#32))

/-- The right-hand side, block by block. -/
def rhs0 (a b : Arr F) (s : Vec F S1x768 .f32) (hi lo : Wt F) : Arr F := unblk fun k => rhsTile0 (blk a k) (blk b k) s hi lo
def rhs1 (a b : Arr F) (s : Vec F S1x768 .f32) (hi lo : Wt F) : Arr F := unblk fun k => rhsTile1 (blk a k) (blk b k) s hi lo

end Cert.Proof.Model
end
-- ==== Proof.Hand.CG.lean ====
/- The loops of the conjugate-gradient kernel, one trip of each, and the whole kernel: from the right-hand side in two arrays
   it leaves the two arrays `Model.out0` and `Model.out1`. -/
module

public import proofs.«01_k».proof.Proof.Hand.Model
public import proofs.«01_k».proof.Proof.Gen.KernelIdeal.Launch
public import Idealize.ShloMosaic.Lib.Pipeline.Regions
public import Idealize.ShloMosaic.Lib.Tactic

@[expose] public section
noncomputable section

namespace Cert.Proof.CG
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Blocks Cert.Proof.Model

variable {F : FTy → Type} [FloatOps F]

/-- The resources: the buffers' contents and the transfers' counters. -/
abbrev UU (nD : Nat) (τ : Topo) : Type := UR sig nD τ × Counters
local notation "𝕄" => MT nD τ sig Unit (Elt F) ℕ (UU nD τ) ℕ

/-- Buffer `b` of chip `c` holds `f`. -/
abbrev pt (c : Dev nD) (b : Ref sig .tc) (f : b.ty.Contents (Elt F)) : sProp 𝕄 :=
  (Memref.whole b).view.loc (c : Thread nD τ) ↦{fullShare} f

section Trips
variable (M0 : Memref sig .tc .vmem S512x256 .bf16) (h0 : M0.IsWhole) (M1 : Memref sig .tc .vmem S512x256 .bf16) (h1 : M1.IsWhole)

/-! ## The first loop: clear the iterate and the direction, sum the squares of the right-hand side -/

/-- The loop's body at the kernel's buffers. -/
abbrev T1 : Fin k1_t1_loop.trips → F .f32 → Prog (TpuEff nD τ sig (Elt F) Λ₀ .tc) (F .f32) :=
  k1_t1_body M0 h0 M1 h1
    (Memref.whole main_v143_0) (Memref.isWhole_whole _) (Memref.whole main_v143_1) (Memref.isWhole_whole _) (Memref.whole main_v144_0) (Memref.isWhole_whole _) (Memref.whole main_v144_1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
    cc1_scratch8 cc1_scratch9

/-- Before trip `k`: the first `k` blocks are cleared, the sum is over the first `k` blocks. -/
def inv1 (c : Dev nD) (r0 r1 x0 x1 p0 p1 : Arr F) (k : ℕ) (a : F .f32) : sProp 𝕄 :=
  iprop(pt c cc1_scratch0 r0 ∗ pt c cc1_scratch1 r1 ∗ pt c cc1_scratch2 (mix k zeroArr x0) ∗ pt c cc1_scratch3 (mix k zeroArr x1)
    ∗ pt c cc1_scratch6 (mix k zeroArr p0) ∗ pt c cc1_scratch7 (mix k zeroArr p1) ∗ ⌜a = normSum r0 r1 k⌝)

theorem trips1 (k : Fin k1_t1_loop.trips) : k.val < 8 := lt_of_lt_of_le k.isLt k1_t1_abs.2.1

/-- One trip of the first loop. -/
theorem trip1 (c : Dev nD) (k : Fin k1_t1_loop.trips) (acc : F .f32) (r0 r1 x0 x1 p0 p1 : Arr F) :
    inv1 c r0 r1 x0 x1 p0 p1 k acc
      ⊢ wp frame (wpE (defs₀ (F := F)) Variants.none c none) Set.univ (T1 M0 h0 M1 h1 k acc) (fun a => inv1 c r0 r1 x0 x1 p0 p1 (k + 1) a) := by
  have hk := trips1 k
  unfold T1 k1_t1_body inv1
  iintro ⟨H0, H1, H2, H3, H6, H7, %ha⟩
  subst ha
  sl_exec
  sl_step
  isplitl [H0]; · iexact H0
  isplitl [H1]; · iexact H1
  isplitl [H2]
  · rw [put_mix (Val := Elt F) (Memref.whole cc1_scratch2).view (whole_inj cc1_scratch2) (mix k zeroArr x0) (mix (k + 1) zeroArr x0) (k1_off1 k) k
      (hk) (k1_off1_eq k) _ (k1_pay4 (F := F)) (fun _ => k1_pay4 (F := F)) x0 (whole_read cc1_scratch2 _) (whole_read cc1_scratch2 _) rfl]
    iexact H2
  isplitl [H3]
  · rw [put_mix (Val := Elt F) (Memref.whole cc1_scratch3).view (whole_inj cc1_scratch3) (mix k zeroArr x1) (mix (k + 1) zeroArr x1) (k1_off1 k) k
      (hk) (k1_off1_eq k) _ (k1_pay5 (F := F)) (fun _ => k1_pay4 (F := F)) x1 (whole_read cc1_scratch3 _) (whole_read cc1_scratch3 _) rfl]
    iexact H3
  isplitl [H6]
  · rw [put_mix (Val := Elt F) (Memref.whole cc1_scratch6).view (whole_inj cc1_scratch6) (mix k zeroArr p0) (mix (k + 1) zeroArr p0) (k1_off1 k) k
      (hk) (k1_off1_eq k) _ (k1_pay6 (F := F)) (fun _ => k1_pay4 (F := F)) p0 (whole_read cc1_scratch6 _) (whole_read cc1_scratch6 _) rfl]
    iexact H6
  isplitl [H7]
  · rw [put_mix (Val := Elt F) (Memref.whole cc1_scratch7).view (whole_inj cc1_scratch7) (mix k zeroArr p1) (mix (k + 1) zeroArr p1) (k1_off1 k) k
      (hk) (k1_off1_eq k) _ (k1_pay7 (F := F)) (fun _ => k1_pay4 (F := F)) p1 (whole_read cc1_scratch7 _) (whole_read cc1_scratch7 _) rfl]
    iexact H7
  ipureintro
  rw [load_blk _ _ (k1_off1 k) k hk (k1_off1_eq k), load_blk _ _ (k1_off1 k) k hk (k1_off1_eq k)]
  rfl

/-! ## The inner loop with the operator's product -/

/-- The loop's body at the kernel's buffers. -/
abbrev T3 (w0 w1 : Wt F) (beta ap : F .f32) : Fin k1_t3_loop.trips → F .f32 → Prog (TpuEff nD τ sig (Elt F) Λ₀ .tc) (F .f32) :=
  k1_t3_body M0 h0 M1 h1
    (Memref.whole main_v143_0) (Memref.isWhole_whole _) (Memref.whole main_v143_1) (Memref.isWhole_whole _) (Memref.whole main_v144_0) (Memref.isWhole_whole _) (Memref.whole main_v144_1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
    cc1_scratch8 cc1_scratch9 w0 w1 beta ap

/-- Before trip `k`: the first `k` blocks of the iterate, the direction and the product are the new ones, the sum is over the first
    `k` blocks. -/
def inv3 (c : Dev nD) (w0 w1 : Wt F) (beta ap : F .f32) (r0 r1 x0 x1 q0 q1 p0 p1 : Arr F) (k : ℕ) (a : F .f32) : sProp 𝕄 :=
  iprop(pt c cc1_scratch0 r0 ∗ pt c cc1_scratch1 r1 ∗ pt c cc1_scratch2 (mix k (newX0 ap p0 x0) x0) ∗ pt c cc1_scratch3 (mix k (newX1 ap p1 x1) x1)
    ∗ pt c cc1_scratch4 (mix k (prod0 w0 w1 beta p0 r0 p1 r1) q0) ∗ pt c cc1_scratch5 (mix k (prod1 w0 w1 beta p0 r0 p1 r1) q1)
    ∗ pt c cc1_scratch6 (mix k (newP0 beta p0 r0) p0) ∗ pt c cc1_scratch7 (mix k (newP1 beta p1 r1) p1)
    ∗ ⌜a = prodSum w0 w1 beta p0 r0 p1 r1 k⌝)

theorem trips3 (k : Fin k1_t3_loop.trips) : k.val < 8 := lt_of_lt_of_le k.isLt k1_t3_abs.2.1

/-- One trip of the loop with the product. -/
theorem trip3 (c : Dev nD) (w0 w1 : Wt F) (beta ap : F .f32) (k : Fin k1_t3_loop.trips) (acc : F .f32) (r0 r1 x0 x1 q0 q1 p0 p1 : Arr F) :
    inv3 c w0 w1 beta ap r0 r1 x0 x1 q0 q1 p0 p1 k acc
      ⊢ wp frame (wpE (defs₀ (F := F)) Variants.none c none) Set.univ (T3 M0 h0 M1 h1 w0 w1 beta ap k acc)
          (fun a => inv3 c w0 w1 beta ap r0 r1 x0 x1 q0 q1 p0 p1 (k + 1) a) := by
  have hk := trips3 k
  unfold T3 k1_t3_body inv3
  rw [k1_part1_eq_skeleton, k1_part2_eq_skeleton]
  unfold k1_part1_skel k1_part2_skel
  iintro ⟨H0, H1, H2, H3, H4, H5, H6, H7, %ha⟩
  subst ha
  sl_exec
  sl_step
  have l (v : View sig .tc .vmem S2048x768 .f32) (f : v.ty.Contents (Elt F)) (g : Arr F) (h : v.read (Elt F) f = g) :
      v.readAt (Elt F) (Rect.unit (s := S2048x768) (k1_off2 k) S256x768.size (k1_off2_inb k)).toLoadRect f = blk g k :=
    (load_blk v f (k1_off2 k) k hk (k1_off2_eq k) (k1_off2_inb k)).trans (congrArg (fun a => blk a k) h)
  have m (v : View sig .tc .vmem S2048x768 .f32) (f : v.ty.Contents (Elt F)) (new old : Arr F) (h : v.read (Elt F) f = mix k new old) :
      v.readAt (Elt F) (Rect.unit (s := S2048x768) (k1_off2 k) S256x768.size (k1_off2_inb k)).toLoadRect f = blk old k :=
    load_mix v f (k1_off2 k) k hk (k1_off2_eq k) (k1_off2_inb k) new old h
  rw [l (Memref.whole cc1_scratch0).view r0 r0 (whole_read cc1_scratch0 _),
    l (Memref.whole cc1_scratch1).view r1 r1 (whole_read cc1_scratch1 _),
    m (Memref.whole cc1_scratch2).view (mix k (newX0 ap p0 x0) x0) (newX0 ap p0 x0) x0 (whole_read cc1_scratch2 _),
    m (Memref.whole cc1_scratch3).view (mix k (newX1 ap p1 x1) x1) (newX1 ap p1 x1) x1 (whole_read cc1_scratch3 _),
    m (Memref.whole cc1_scratch6).view (mix k (newP0 beta p0 r0) p0) (newP0 beta p0 r0) p0 (whole_read cc1_scratch6 _),
    m (Memref.whole cc1_scratch7).view (mix k (newP1 beta p1 r1) p1) (newP1 beta p1 r1) p1 (whole_read cc1_scratch7 _)]
  isplitl [H0]; · iexact H0
  isplitl [H1]; · iexact H1
  isplitl [H2]
  · rw [put_mix (Val := Elt F) (Memref.whole cc1_scratch2).view (whole_inj cc1_scratch2) (mix k (newX0 ap p0 x0) x0) (mix (k + 1) (newX0 ap p0 x0) x0) (k1_off2 k) k hk
      (k1_off2_eq k) (k1_off2_inb k) (k1_pay23 ap (blk p0 k) (blk x0 k)) (fun j => k1_pay23 ap (blk p0 j) (blk x0 j)) x0 (whole_read cc1_scratch2 _) (whole_read cc1_scratch2 _) rfl]
    iexact H2
  isplitl [H3]
  · rw [put_mix (Val := Elt F) (Memref.whole cc1_scratch3).view (whole_inj cc1_scratch3) (mix k (newX1 ap p1 x1) x1) (mix (k + 1) (newX1 ap p1 x1) x1) (k1_off2 k) k hk
      (k1_off2_eq k) (k1_off2_inb k) (k1_pay24 ap (blk p1 k) (blk x1 k)) (fun j => k1_pay24 ap (blk p1 j) (blk x1 j)) x1 (whole_read cc1_scratch3 _) (whole_read cc1_scratch3 _) rfl]
    iexact H3
  isplitl [H4]
  · rw [put_mix (Val := Elt F) (Memref.whole cc1_scratch4).view (whole_inj cc1_scratch4) (mix k (prod0 w0 w1 beta p0 r0 p1 r1) q0) (mix (k + 1) (prod0 w0 w1 beta p0 r0 p1 r1) q0) (k1_off2 k) k hk
      (k1_off2_eq k) (k1_off2_inb k)
      (k1_pay11 w0 w1 (k1_pay25 beta (blk p0 k) (blk r0 k)) (k1_pay33 (k1_pay26 beta (blk p1 k) (blk r1 k))) (k1_pay34 (k1_pay26 beta (blk p1 k) (blk r1 k)))
        (k1_pay35 (k1_pay1 w0) (k1_pay2 w1) (k1_pay26 beta (blk p1 k) (blk r1 k))) (k1_pay36 (k1_pay26 beta (blk p1 k) (blk r1 k)))
        (k1_pay37 (k1_pay26 beta (blk p1 k) (blk r1 k))))
      (fun j => prodTile0 w0 w1 beta (blk p0 j) (blk r0 j) (blk p1 j) (blk r1 j)) q0 (whole_read cc1_scratch4 _) (whole_read cc1_scratch4 _) rfl]
    iexact H4
  isplitl [H5]
  · rw [put_mix (Val := Elt F) (Memref.whole cc1_scratch5).view (whole_inj cc1_scratch5) (mix k (prod1 w0 w1 beta p0 r0 p1 r1) q1) (mix (k + 1) (prod1 w0 w1 beta p0 r0 p1 r1) q1) (k1_off2 k) k hk
      (k1_off2_eq k) (k1_off2_inb k)
      (k1_pay12 (k1_pay26 beta (blk p1 k) (blk r1 k)) (k1_pay31 (k1_pay1 w0) (k1_pay2 w1) (k1_pay29 beta (blk p0 k) (blk r0 k))
        (k1_pay30 beta (blk p0 k) (blk r0 k))))
      (fun j => prodTile1 w0 w1 beta (blk p0 j) (blk r0 j) (blk p1 j) (blk r1 j)) q1 (whole_read cc1_scratch5 _) (whole_read cc1_scratch5 _) rfl]
    iexact H5
  isplitl [H6]
  · rw [put_mix (Val := Elt F) (Memref.whole cc1_scratch6).view (whole_inj cc1_scratch6) (mix k (newP0 beta p0 r0) p0) (mix (k + 1) (newP0 beta p0 r0) p0) (k1_off2 k) k hk
      (k1_off2_eq k) (k1_off2_inb k) (k1_pay27 beta (blk p0 k) (blk r0 k)) (fun j => k1_pay27 beta (blk p0 j) (blk r0 j)) p0 (whole_read cc1_scratch6 _) (whole_read cc1_scratch6 _) rfl]
    iexact H6
  isplitl [H7]
  · rw [put_mix (Val := Elt F) (Memref.whole cc1_scratch7).view (whole_inj cc1_scratch7) (mix k (newP1 beta p1 r1) p1) (mix (k + 1) (newP1 beta p1 r1) p1) (k1_off2 k) k hk
      (k1_off2_eq k) (k1_off2_inb k) (k1_pay28 beta (blk p1 k) (blk r1 k)) (fun j => k1_pay28 beta (blk p1 j) (blk r1 j)) p1 (whole_read cc1_scratch7 _) (whole_read cc1_scratch7 _) rfl]
    iexact H7
  ipureintro
  rfl

/-! ## The inner loop that updates the residual -/

/-- The loop's body at the kernel's buffers. -/
abbrev T4 (b rs den : F .f32) : Fin k1_t4_loop.trips → F .f32 → Prog (TpuEff nD τ sig (Elt F) Λ₀ .tc) (F .f32) :=
  k1_t4_body M0 h0 M1 h1
    (Memref.whole main_v143_0) (Memref.isWhole_whole _) (Memref.whole main_v143_1) (Memref.isWhole_whole _) (Memref.whole main_v144_0) (Memref.isWhole_whole _) (Memref.whole main_v144_1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
    cc1_scratch8 cc1_scratch9 b rs den

/-- Before trip `k`: the first `k` blocks of the residual are the new ones, the sum is over the first `k` blocks. -/
def inv4 (c : Dev nD) (b rs den : F .f32) (r0 r1 q0 q1 : Arr F) (k : ℕ) (a : F .f32) : sProp 𝕄 :=
  iprop(pt c cc1_scratch0 (mix k (newR0 b rs den r0 q0) r0) ∗ pt c cc1_scratch1 (mix k (newR1 b rs den r1 q1) r1)
    ∗ pt c cc1_scratch4 q0 ∗ pt c cc1_scratch5 q1 ∗ ⌜a = resSum b rs den r0 q0 r1 q1 k⌝)

theorem trips4 (k : Fin k1_t4_loop.trips) : k.val < 8 := lt_of_lt_of_le k.isLt k1_t4_abs.2.1

/-- One trip of the residual's loop. -/
theorem trip4 (c : Dev nD) (b rs den : F .f32) (k : Fin k1_t4_loop.trips) (acc : F .f32) (r0 r1 q0 q1 : Arr F) :
    inv4 c b rs den r0 r1 q0 q1 k acc
      ⊢ wp frame (wpE (defs₀ (F := F)) Variants.none c none) Set.univ (T4 M0 h0 M1 h1 b rs den k acc)
          (fun a => inv4 c b rs den r0 r1 q0 q1 (k + 1) a) := by
  have hk := trips4 k
  unfold T4 k1_t4_body inv4
  iintro ⟨H0, H1, H4, H5, %ha⟩
  subst ha
  sl_exec
  sl_step
  have l (v : View sig .tc .vmem S2048x768 .f32) (f : v.ty.Contents (Elt F)) (g : Arr F) (h : v.read (Elt F) f = g) :
      v.readAt (Elt F) (Rect.unit (s := S2048x768) (k1_off3 k) S256x768.size (k1_off3_inb k)).toLoadRect f = blk g k :=
    (load_blk v f (k1_off3 k) k hk (k1_off3_eq k) (k1_off3_inb k)).trans (congrArg (fun a => blk a k) h)
  have m (v : View sig .tc .vmem S2048x768 .f32) (f : v.ty.Contents (Elt F)) (new old : Arr F) (h : v.read (Elt F) f = mix k new old) :
      v.readAt (Elt F) (Rect.unit (s := S2048x768) (k1_off3 k) S256x768.size (k1_off3_inb k)).toLoadRect f = blk old k :=
    load_mix v f (k1_off3 k) k hk (k1_off3_eq k) (k1_off3_inb k) new old h
  rw [m (Memref.whole cc1_scratch0).view (mix k (newR0 b rs den r0 q0) r0) (newR0 b rs den r0 q0) r0 (whole_read cc1_scratch0 _),
    m (Memref.whole cc1_scratch1).view (mix k (newR1 b rs den r1 q1) r1) (newR1 b rs den r1 q1) r1 (whole_read cc1_scratch1 _),
    l (Memref.whole cc1_scratch4).view q0 q0 (whole_read cc1_scratch4 _),
    l (Memref.whole cc1_scratch5).view q1 q1 (whole_read cc1_scratch5 _)]
  isplitl [H0]
  · rw [put_mix (Val := Elt F) (Memref.whole cc1_scratch0).view (whole_inj cc1_scratch0) (mix k (newR0 b rs den r0 q0) r0) (mix (k + 1) (newR0 b rs den r0 q0) r0) (k1_off3 k) k hk
      (k1_off3_eq k) (k1_off3_inb k) (k1_pay17 b rs den (blk r0 k) (blk q0 k)) (fun j => k1_pay17 b rs den (blk r0 j) (blk q0 j)) r0 (whole_read cc1_scratch0 _) (whole_read cc1_scratch0 _) rfl]
    iexact H0
  isplitl [H1]
  · rw [put_mix (Val := Elt F) (Memref.whole cc1_scratch1).view (whole_inj cc1_scratch1) (mix k (newR1 b rs den r1 q1) r1) (mix (k + 1) (newR1 b rs den r1 q1) r1) (k1_off3 k) k hk
      (k1_off3_eq k) (k1_off3_inb k) (k1_pay18 b rs den (blk r1 k) (blk q1 k)) (fun j => k1_pay18 b rs den (blk r1 j) (blk q1 j)) r1 (whole_read cc1_scratch1 _) (whole_read cc1_scratch1 _) rfl]
    iexact H1
  isplitl [H4]; · iexact H4
  isplitl [H5]; · iexact H5
  ipureintro
  rfl

/-! ## The last loop: the last move of the iterate -/

/-- The loop's body at the kernel's buffers. -/
abbrev T5 (ap : F .f32) : Fin k1_t5_loop.trips → Unit → Prog (TpuEff nD τ sig (Elt F) Λ₀ .tc) Unit :=
  k1_t5_body M0 h0 M1 h1
    (Memref.whole main_v143_0) (Memref.isWhole_whole _) (Memref.whole main_v143_1) (Memref.isWhole_whole _) (Memref.whole main_v144_0) (Memref.isWhole_whole _) (Memref.whole main_v144_1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
    cc1_scratch8 cc1_scratch9 ap

/-- Before trip `k`: the first `k` blocks of the iterate are moved. -/
def inv5 (c : Dev nD) (ap : F .f32) (x0 x1 p0 p1 : Arr F) (k : ℕ) : sProp 𝕄 :=
  iprop(pt c cc1_scratch2 (mix k (lastX0 ap p0 x0) x0) ∗ pt c cc1_scratch3 (mix k (lastX1 ap p1 x1) x1)
    ∗ pt c cc1_scratch6 p0 ∗ pt c cc1_scratch7 p1)

theorem trips5 (k : Fin k1_t5_loop.trips) : k.val < 8 := lt_of_lt_of_le k.isLt k1_t5_abs.2.1

/-- One trip of the last loop. -/
theorem trip5 (c : Dev nD) (ap : F .f32) (k : Fin k1_t5_loop.trips) (acc : Unit) (x0 x1 p0 p1 : Arr F) :
    inv5 c ap x0 x1 p0 p1 k
      ⊢ wp frame (wpE (defs₀ (F := F)) Variants.none c none) Set.univ (T5 M0 h0 M1 h1 ap k acc) (fun _ => inv5 c ap x0 x1 p0 p1 (k + 1)) := by
  have hk := trips5 k
  unfold T5 k1_t5_body inv5
  iintro ⟨H2, H3, H6, H7⟩
  sl_exec
  sl_step
  have l (v : View sig .tc .vmem S2048x768 .f32) (f : v.ty.Contents (Elt F)) (g : Arr F) (h : v.read (Elt F) f = g) :
      v.readAt (Elt F) (Rect.unit (s := S2048x768) (k1_off4 k) S256x768.size (k1_off4_inb k)).toLoadRect f = blk g k :=
    (load_blk v f (k1_off4 k) k hk (k1_off4_eq k) (k1_off4_inb k)).trans (congrArg (fun a => blk a k) h)
  have m (v : View sig .tc .vmem S2048x768 .f32) (f : v.ty.Contents (Elt F)) (new old : Arr F) (h : v.read (Elt F) f = mix k new old) :
      v.readAt (Elt F) (Rect.unit (s := S2048x768) (k1_off4 k) S256x768.size (k1_off4_inb k)).toLoadRect f = blk old k :=
    load_mix v f (k1_off4 k) k hk (k1_off4_eq k) (k1_off4_inb k) new old h
  rw [m (Memref.whole cc1_scratch2).view (mix k (lastX0 ap p0 x0) x0) (lastX0 ap p0 x0) x0 (whole_read cc1_scratch2 _),
    m (Memref.whole cc1_scratch3).view (mix k (lastX1 ap p1 x1) x1) (lastX1 ap p1 x1) x1 (whole_read cc1_scratch3 _),
    l (Memref.whole cc1_scratch6).view p0 p0 (whole_read cc1_scratch6 _),
    l (Memref.whole cc1_scratch7).view p1 p1 (whole_read cc1_scratch7 _)]
  isplitl [H2]
  · rw [put_mix (Val := Elt F) (Memref.whole cc1_scratch2).view (whole_inj cc1_scratch2) (mix k (lastX0 ap p0 x0) x0) (mix (k + 1) (lastX0 ap p0 x0) x0) (k1_off4 k) k hk
      (k1_off4_eq k) (k1_off4_inb k) (k1_pay21 ap (blk x0 k) (blk p0 k)) (fun j => k1_pay21 ap (blk x0 j) (blk p0 j)) x0 (whole_read cc1_scratch2 _) (whole_read cc1_scratch2 _) rfl]
    iexact H2
  isplitl [H3]
  · rw [put_mix (Val := Elt F) (Memref.whole cc1_scratch3).view (whole_inj cc1_scratch3) (mix k (lastX1 ap p1 x1) x1) (mix (k + 1) (lastX1 ap p1 x1) x1) (k1_off4 k) k hk
      (k1_off4_eq k) (k1_off4_inb k) (k1_pay22 ap (blk x1 k) (blk p1 k)) (fun j => k1_pay22 ap (blk x1 j) (blk p1 j)) x1 (whole_read cc1_scratch3 _) (whole_read cc1_scratch3 _) rfl]
    iexact H3
  isplitl [H6]; · iexact H6
  iexact H7

/-! ## The outer loop: twenty iterations -/

/-- The loop's body at the kernel's buffers. -/
abbrev T2 (w0 w1 : Wt F) (b : F .f32) : Fin k1_t2_loop.trips → F .f32 × F .f32 × F .f32 → Prog (TpuEff nD τ sig (Elt F) Λ₀ .tc) (F .f32 × F .f32 × F .f32) :=
  k1_t2_body M0 h0 M1 h1
    (Memref.whole main_v143_0) (Memref.isWhole_whole _) (Memref.whole main_v143_1) (Memref.isWhole_whole _) (Memref.whole main_v144_0) (Memref.isWhole_whole _) (Memref.whole main_v144_1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
    cc1_scratch8 cc1_scratch9 w0 w1 b

/-- The buffers and the carried numbers hold a state of the iteration; the product's two buffers hold anything. -/
def holds (c : Dev nD) (s : St F) (a : F .f32 × F .f32 × F .f32) : sProp 𝕄 :=
  iprop(pt c cc1_scratch0 s.r0 ∗ pt c cc1_scratch1 s.r1 ∗ pt c cc1_scratch2 s.x0 ∗ pt c cc1_scratch3 s.x1
    ∗ (∃ q, pt c cc1_scratch4 q) ∗ (∃ q, pt c cc1_scratch5 q) ∗ pt c cc1_scratch6 s.p0 ∗ pt c cc1_scratch7 s.p1
    ∗ ⌜a = (s.rs, s.beta, s.ap)⌝)

theorem count1 : Scf.trips k1_t1_loop.lb k1_t1_loop.ub k1_t1_loop.st = 8 := rfl
theorem count2 : Scf.trips k1_t2_loop.lb k1_t2_loop.ub k1_t2_loop.st = 20 := rfl
theorem count3 : Scf.trips k1_t3_loop.lb k1_t3_loop.ub k1_t3_loop.st = 8 := rfl
theorem count4 : Scf.trips k1_t4_loop.lb k1_t4_loop.ub k1_t4_loop.st = 8 := rfl
theorem count5 : Scf.trips k1_t5_loop.lb k1_t5_loop.ub k1_t5_loop.st = 8 := rfl

/-- One iteration takes a state to the next. -/
theorem trip2 (c : Dev nD) (w0 w1 : Wt F) (b : F .f32) (k : Fin k1_t2_loop.trips) (acc : F .f32 × F .f32 × F .f32) (s : St F) :
    holds c s acc
      ⊢ wp frame (wpE (defs₀ (F := F)) Variants.none c none) Set.univ (T2 M0 h0 M1 h1 w0 w1 b k acc) (fun a => holds c (s.next w0 w1 b) a) := by
  unfold T2 k1_t2_body holds
  iintro ⟨H0, H1, H2, H3, ⟨%q0, H4⟩, ⟨%q1, H5⟩, H6, H7, %ha⟩
  subst ha
  sl_exec
  sl_for (inv3 c w0 w1 s.beta s.ap s.r0 s.r1 s.x0 s.x1 q0 q1 s.p0 s.p1) $$ [H0 H1 H2 H3 H4 H5 H6 H7]
  case region =>
    intro k a
    exact trip3 M0 h0 M1 h1 c w0 w1 s.beta s.ap k a s.r0 s.r1 s.x0 s.x1 q0 q1 s.p0 s.p1
  · unfold inv3
    simp only [mix_zero]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    ipureintro
    rfl
  iintro %a HI
  unfold inv3
  rw [count3]
  simp only [mix_eight]
  icases HI with ⟨H0, H1, H2, H3, H4, H5, H6, H7, %ha⟩
  subst ha
  sl_exec
  sl_for (inv4 c b s.rs (s.den w0 w1) s.r0 s.r1 (prod0 w0 w1 s.beta s.p0 s.r0 s.p1 s.r1) (prod1 w0 w1 s.beta s.p0 s.r0 s.p1 s.r1)) $$ [H0 H1 H4 H5]
  case region =>
    intro k a
    exact trip4 M0 h0 M1 h1 c b s.rs (s.den w0 w1) k a s.r0 s.r1 _ _
  · unfold inv4
    simp only [mix_zero]
    isplitl [H0]; · iexact H0
    isplitl [H1]; · iexact H1
    isplitl [H4]; · iexact H4
    isplitl [H5]; · iexact H5
    ipureintro
    rfl
  iintro %a HI
  unfold inv4
  rw [count4]
  simp only [mix_eight]
  icases HI with ⟨H0, H1, H4, H5, %ha⟩
  subst ha
  sl_exec
  sl_step
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  ipureintro
  rfl

/-! ## The whole kernel -/

/-- A memref's buffer held at `f`. -/
abbrev ptM (c : Dev nD) (M : Memref sig .tc .vmem S512x256 .bf16) (f : Buf (Elt F) (M.view.loc (c : Thread nD τ))) : sProp 𝕄 :=
  M.view.loc (c : Thread nD τ) ↦{fullShare} f

/-- The two transfer semaphores at zero. -/
abbrev sems0 (c : Dev nD) : sProp 𝕄 :=
  iprop(semVal ((c : Thread nD τ), SemLoc.dma 13) 0 ∗ semVal ((c : Thread nD τ), SemLoc.dma 14) 0)

/-- The scratch buffers at anything. -/
abbrev scratch (c : Dev nD) : sProp 𝕄 :=
  iprop((∃ f, pt c cc1_scratch0 f) ∗ (∃ f, pt c cc1_scratch1 f) ∗ (∃ f, pt c cc1_scratch2 f) ∗ (∃ f, pt c cc1_scratch3 f)
    ∗ (∃ f, pt c cc1_scratch4 f) ∗ (∃ f, pt c cc1_scratch5 f) ∗ (∃ f, pt c cc1_scratch6 f) ∗ (∃ f, pt c cc1_scratch7 f))

set_option maxHeartbeats 1600000 in
/-- From the weights in their two buffers and the right-hand side in its two arrays, the kernel runs to its return and leaves the
    solution's two parts in the result arrays, everything else as it was or at something. -/
theorem kernelRun (c : Dev nD) (f0 : Buf (Elt F) (M0.view.loc (c : Thread nD τ))) (f1 : Buf (Elt F) (M1.view.loc (c : Thread nD τ)))
    (r0 r1 y0 y1 : Arr F) (W : Waits sig Unit) (Q : PUnit → sProp 𝕄) :
    iprop(ptM c M0 f0 ∗ ptM c M1 f1
      ∗ pt c main_v143_0 r0 ∗ pt c main_v143_1 r1 ∗ pt c main_v144_0 y0 ∗ pt c main_v144_1 y1 ∗ scratch c ∗ sems0 c ∗ owes (c : Thread nD τ) 0 W
      ∗ (iprop(ptM c M0 f0 ∗ ptM c M1 f1
            ∗ pt c main_v143_0 r0 ∗ pt c main_v143_1 r1
            ∗ pt c main_v144_0 (out0 (M0.view.read (Elt F) f0) (M1.view.read (Elt F) f1) r0 r1)
            ∗ pt c main_v144_1 (out1 (M0.view.read (Elt F) f0) (M1.view.read (Elt F) f1) r0 r1) ∗ scratch c ∗ sems0 c
            ∗ ∃ W, owes (c : Thread nD τ) 0 W) -∗ Q ⟨⟩))
    ⊢ wp frame (wpE (defs₀ (F := F)) Variants.none c none) Set.univ
        (cc1__cg_kernel M0 h0 M1 h1
          (Memref.whole main_v143_0) (Memref.isWhole_whole _) (Memref.whole main_v143_1) (Memref.isWhole_whole _) (Memref.whole main_v144_0) (Memref.isWhole_whole _) (Memref.whole main_v144_1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
          cc1_scratch8 cc1_scratch9) Q := by
  rw [cc1__cg_kernel_eq_skeleton]
  unfold cc1__cg_kernel_skel
  iintro ⟨HW0, HW1, HR0, HR1, HY0, HY1, ⟨⟨%s0, H0⟩, ⟨%s1, H1⟩, ⟨%x0, H2⟩, ⟨%x1, H3⟩, ⟨%q0, H4⟩, ⟨%q1, H5⟩, ⟨%p0, H6⟩, ⟨%p1, H7⟩⟩, ⟨Hd0, Hd1⟩, HO, Hk⟩
  sl_exec!
  rw [show (Memref.whole cc1_scratch0).view.write (Elt F) s0 (kernelRun.sl.dma0 r0) Finset.univ = r0 from
      View.write_whole_univ cc1_scratch0 s0 r0,
    show (Memref.whole cc1_scratch1).view.write (Elt F) s1 (kernelRun.sl.dma0_1 r1) Finset.univ = r1 from
      View.write_whole_univ cc1_scratch1 s1 r1, View.readAt_full, View.readAt_full]
  sl_for (inv1 c r0 r1 x0 x1 p0 p1) $$ [H0 H1 H2 H3 H6 H7]
  case region =>
    intro k a
    exact trip1 M0 h0 M1 h1 c k a r0 r1 x0 x1 p0 p1
  · unfold inv1
    simp only [mix_zero]
    isplitl [H0]; · iexact H0
    isplitl [H1]; · iexact H1
    isplitl [H2]; · iexact H2
    isplitl [H3]; · iexact H3
    isplitl [H6]; · iexact H6
    isplitl [H7]; · iexact H7
    ipureintro
    rfl
  iintro %a HI
  unfold inv1
  rw [count1]
  simp only [mix_eight]
  icases HI with ⟨H0, H1, H2, H3, H6, H7, %ha⟩
  subst ha
  sl_exec
  sl_for (fun k a => holds c (St.run (M0.view.read (Elt F) f0) (M1.view.read (Elt F) f1) r0 r1 k) a) $$ [H0 H1 H2 H3 H4 H5 H6 H7]
  case region =>
    intro k a
    exact trip2 M0 h0 M1 h1 c _ _ _ k a _
  · unfold holds
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    ipureintro
    rfl
  iintro %a HI
  rw [count2]
  unfold holds
  icases HI with ⟨H0, H1, H2, H3, ⟨%q0', H4⟩, ⟨%q1', H5⟩, H6, H7, %ha⟩
  subst ha
  sl_exec
  sl_for (fun k (_ : Unit) => inv5 c (St.run (M0.view.read (Elt F) f0) (M1.view.read (Elt F) f1) r0 r1 20).ap
    (St.run (M0.view.read (Elt F) f0) (M1.view.read (Elt F) f1) r0 r1 20).x0 (St.run (M0.view.read (Elt F) f0) (M1.view.read (Elt F) f1) r0 r1 20).x1
    (St.run (M0.view.read (Elt F) f0) (M1.view.read (Elt F) f1) r0 r1 20).p0 (St.run (M0.view.read (Elt F) f0) (M1.view.read (Elt F) f1) r0 r1 20).p1 k)
    $$ [H2 H3 H6 H7]
  case region =>
    intro k a
    exact trip5 M0 h0 M1 h1 c _ k a _ _ _ _
  · unfold inv5
    simp only [mix_zero]
    isplitl [H2]; · iexact H2
    isplitl [H3]; · iexact H3
    isplitl [H6]; · iexact H6
    iexact H7
  iintro %a HI
  unfold inv5
  rw [count5]
  simp only [mix_eight]
  icases HI with ⟨H2, H3, H6, H7⟩
  sl_exec!
  sl_step
  rw [show (Memref.whole main_v144_0).view.write (Elt F) y0 (kernelRun.sl.dma0_2 M0 M1 c f0 f1 r0 r1) Finset.univ
      = out0 (M0.view.read (Elt F) f0) (M1.view.read (Elt F) f1) r0 r1 from (View.write_whole_univ main_v144_0 y0 (kernelRun.sl.dma0_2 M0 M1 c f0 f1 r0 r1)).trans (by delta kernelRun.sl.dma0_2; unfold out0; generalize St.run (View.read (Elt F) M0.view f0) (View.read (Elt F) M1.view f1) r0 r1 20 = s; rfl),
    show (Memref.whole main_v144_1).view.write (Elt F) y1 (kernelRun.sl.dma0_3 M0 M1 c f0 f1 r0 r1) Finset.univ
      = out1 (M0.view.read (Elt F) f0) (M1.view.read (Elt F) f1) r0 r1 from (View.write_whole_univ main_v144_1 y1 (kernelRun.sl.dma0_3 M0 M1 c f0 f1 r0 r1)).trans (by delta kernelRun.sl.dma0_3; unfold out1; generalize St.run (View.read (Elt F) M0.view f0) (View.read (Elt F) M1.view f1) r0 r1 20 = s; rfl)]
  iapply Hk
  isplitl [HW0]; · iexact HW0
  isplitl [HW1]; · iexact HW1
  isplitl [HR0]; · iexact HR0
  isplitl [HR1]; · iexact HR1
  isplitl [HY0]; · iexact HY0
  isplitl [HY1]; · iexact HY1
  isplitl [H0 H1 H2 H3 H4 H5 H6 H7]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  isplitl [Hd0 Hd1]
  · isplitl [Hd0]; · iexact Hd0
    iexact Hd1
  iexists _; iexact HO

end Trips

end Cert.Proof.CG
end
-- ==== Proof.Hand.RHS.lean ====
/- The first kernel, which computes the right-hand side: one grid point of it, and the whole grid. -/
module

public import proofs.«01_k».proof.Proof.Hand.CG
public import proofs.«01_k».proof.Proof.Gen.KernelIdeal.Points

@[expose] public section
noncomputable section

namespace Cert.Proof.RHS
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Blocks Cert.Proof.Model Cert.Proof.CG

variable {F : FTy → Type} [FloatOps F]
local notation "𝕄" => MT nD τ sig Unit (Elt F) ℕ (UU nD τ) ℕ

/-- Memref `M` of chip `c` holds `f`. -/
abbrev ptV {s : Shape} {e : EltTy} (c : Dev nD) (M : Memref sig .tc .vmem s e) (f : Buf (Elt F) (M.view.loc (c : Thread nD τ))) : sProp 𝕄 :=
  M.view.loc (c : Thread nD τ) ↦{fullShare} f

/-- Memref `M` of chip `c` holds contents that read as `X`. -/
abbrev ptR {s : Shape} {e : EltTy} (c : Dev nD) (M : Memref sig .tc .vmem s e) (X : s.Idx → Elt F e) : sProp 𝕄 :=
  iprop(∃ f : Buf (Elt F) (M.view.loc (c : Thread nD τ)), ⌜M.view.read (Elt F) f = X⌝ ∗ ptV c M f)

/-- One grid point: the two output blocks end up holding `rhsTile0` and `rhsTile1` of the input blocks, which keep what they hold. -/
theorem rhsRun (i : grid0.Coords) (M1 : Memref sig .tc .vmem S256x768 .f32) (h1 : M1.IsWhole) (M2 : Memref sig .tc .vmem S256x768 .f32) (h2 : M2.IsWhole)
    (M3 : Memref sig .tc .vmem S1x768 .f32) (h3 : M3.IsWhole) (M4 : Memref sig .tc .vmem S512x256 .bf16) (h4 : M4.IsWhole)
    (M5 : Memref sig .tc .vmem S512x256 .bf16) (h5 : M5.IsWhole) (M6 : Memref sig .tc .vmem S256x768 .f32) (h6 : M6.IsWhole)
    (M7 : Memref sig .tc .vmem S256x768 .f32) (h7 : M7.IsWhole) (c : Dev nD)
    (f1 f2 f3 f4 f5 f6 f7) (Q : PUnit → sProp 𝕄) :
    iprop(ptV c M1 f1 ∗ ptV c M2 f2 ∗ ptV c M3 f3 ∗ ptV c M4 f4 ∗ ptV c M5 f5 ∗ ptV c M6 f6 ∗ ptV c M7 f7
      ∗ ((ptV c M1 f1 ∗ ptV c M2 f2 ∗ ptV c M3 f3 ∗ ptV c M4 f4 ∗ ptV c M5 f5
          ∗ ptR c M6 (rhsTile0 (M1.view.read (Elt F) f1) (M2.view.read (Elt F) f2) (M3.view.read (Elt F) f3) (M4.view.read (Elt F) f4) (M5.view.read (Elt F) f5))
          ∗ ptR c M7 (rhsTile1 (M1.view.read (Elt F) f1) (M2.view.read (Elt F) f2) (M3.view.read (Elt F) f3) (M4.view.read (Elt F) f4) (M5.view.read (Elt F) f5)))
        -∗ Q ⟨⟩))
    ⊢ wp frame (wpE (defs₀ (F := F)) Variants.none c none) Set.univ
        (cc0__rhs_kernel i M1 h1 M2 h2 M3 h3 M4 h4 M5 h5 M6 h6 M7 h7) Q := by
  rw [cc0__rhs_kernel_eq_skeleton]
  unfold cc0__rhs_kernel_skel
  rw [k0_part1_eq_skeleton, k0_part2_eq_skeleton]
  unfold k0_part1_skel k0_part2_skel
  iintro ⟨H1, H2, H3, H4, H5, H6, H7, Hk⟩
  sl_exec!
  sl_step
  have e1 : M1.view.readAt (Elt F) (Rect.unit (s := S256x768) ![0, 0] S256x768.size inb_S256x768_S256x768_0_0).toLoadRect f1 = M1.view.read (Elt F) f1 := View.readAt_full ..
  have e2 : M2.view.readAt (Elt F) (Rect.unit (s := S256x768) ![0, 0] S256x768.size inb_S256x768_S256x768_0_0).toLoadRect f2 = M2.view.read (Elt F) f2 := View.readAt_full ..
  have e3 : M3.view.readAt (Elt F) (Rect.unit (s := S1x768) ![0, 0] S1x768.size inb_S1x768_S1x768_0_0).toLoadRect f3 = M3.view.read (Elt F) f3 := View.readAt_full ..
  have e4 : M4.view.readAt (Elt F) (Rect.unit (s := S512x256) ![0, 0] S512x256.size inb_S512x256_S512x256_0_0).toLoadRect f4 = M4.view.read (Elt F) f4 := View.readAt_full ..
  have e5 : M5.view.readAt (Elt F) (Rect.unit (s := S512x256) ![0, 0] S512x256.size inb_S512x256_S512x256_0_0).toLoadRect f5 = M5.view.read (Elt F) f5 := View.readAt_full ..
  iapply Hk
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    delta rhsRun.sl.H6_1
    refine (View.read_writes_full M6.view _ _ _ _).trans ?_
    rw [e1, e2, e3, e4, e5]
    rfl
  · iexists _; isplitr; swap; · iexact H7
    ipureintro
    delta rhsRun.sl.H7_1
    refine (View.read_writes_full M7.view _ _ _ _).trans ?_
    rw [e1, e2, e3, e4, e5]
    rfl

/-! ## The grid -/

variable (V : Valuation τ sig (Elt F))

/-- What a window's block holds at a grid point, read off the buffers the kernel starts from. -/
abbrev blkOf (c : Dev nD) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The proof data: the inputs' blocks stay, the outputs' blocks become the right-hand side's. -/
def dat0 (c : Dev nD) : Pipeline.Dat τ (Elt F) Unit ℕ (UU nD τ) ℕ cfg0 c where
  A w := V (Proc.devRef .tc (Pipeline.arrRef spec0 w))
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => rhsTile0 (blkOf V c 0 t) (blkOf V c 1 t) (blkOf V c 2 t) (blkOf V c 3 t) (blkOf V c 4 t)
    | ⟨6, _⟩ => rhsTile1 (blkOf V c 0 t) (blkOf V c 1 t) (blkOf V c 2 t) (blkOf V c 3 t) (blkOf V c 4 t)
  Φ _ := Pipeline.scopedRest (Ix := Unit) (Name := ℕ) (U := UU nD τ) (Lvl := ℕ) (Val := Elt F) spec0 c
  q _ := fullShare
  owed _ := 0

theorem before0 (c : Dev nD) (t : Fin cfg0.N) (d) : (dat0 V c).before 0 t d = blkOf V c 0 t :=
  (dat0 V c).before_in_eq_fetched 0 rfl (fun _ => rfl) (fun _ _ _ => rfl) (fun _ => rfl) t d
theorem before1 (c : Dev nD) (t : Fin cfg0.N) (d) : (dat0 V c).before 1 t d = blkOf V c 1 t :=
  (dat0 V c).before_in_eq_fetched 1 rfl (fun _ => rfl) (fun _ _ _ => rfl) (fun _ => rfl) t d
theorem before2 (c : Dev nD) (t : Fin cfg0.N) (d) : (dat0 V c).before 2 t d = blkOf V c 2 t :=
  (dat0 V c).before_in_eq_fetched 2 rfl (fun _ => rfl) (fun _ _ _ => rfl) (fun _ => rfl) t d
theorem before3 (c : Dev nD) (t : Fin cfg0.N) (d) : (dat0 V c).before 3 t d = blkOf V c 3 t :=
  (dat0 V c).before_in_eq_fetched 3 rfl (fun _ => rfl) (fun _ _ _ => rfl) (fun _ => rfl) t d
theorem before4 (c : Dev nD) (t : Fin cfg0.N) (d) : (dat0 V c).before 4 t d = blkOf V c 4 t :=
  (dat0 V c).before_in_eq_fetched 4 rfl (fun _ => rfl) (fun _ _ _ => rfl) (fun _ => rfl) t d

/-- A staging buffer is a whole buffer. -/
theorem hst0 (t : Fin cfg0.N) (w : Fin cfg0.W) : ((cfg0.win w).stage (cfg0.slots t w)).IsWhole := stage_whole0 w _

omit [FloatOps F] in
/-- Owning a whole buffer at what it reads as. -/
theorem owns_eq {s : Shape} {e : EltTy} (c : Dev nD) {M : Memref sig .tc .vmem s e} (h : M.IsWhole) (X : s.Idx → Elt F e) :
    (owns (c : Thread nD τ) M fullShare X : sProp 𝕄) = ptR c M X := by
  unfold owns; rw [h.set_eq_univ]

/-- The body's obligation at every grid point. -/
theorem body0 (c : Dev nD) : Pipeline.BodyObligation (dat0 V c) (defs₀ (F := F)) Variants.none () Set.univ := fun t => by
  rw [bigSep_W0, bigSep_W0]
  rw [show (dat0 V c).Φ t.castSucc = (dat0 V c).Φ t.succ from rfl]
  unfold Pipeline.Dat.owesAt Pipeline.owesWithin
  rw [show (dat0 V c).owed t.castSucc = 0 from rfl, show (dat0 V c).owed t.succ = 0 from rfl]
  simp only [show ∀ (w : Fin cfg0.W) i, cfg0.idle w i = false from fun _ _ => rfl, owns_eq _ (hst0 t 0), owns_eq _ (hst0 t 1), owns_eq _ (hst0 t 2),
    owns_eq _ (hst0 t 3), owns_eq _ (hst0 t 4), owns_eq _ (hst0 t 5), owns_eq _ (hst0 t 6), before0, before1, before2, before3, before4]
  iintro ⟨HΦ, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  iapply (rhsRun (grid0.coords t) (st0_0 t) (hst0 t 0) (st0_1 t) (hst0 t 1) (st0_2 t) (hst0 t 2) (st0_3 t) (hst0 t 3) (st0_4 t) (hst0 t 4) (st0_5 t) (hst0 t 5)
    (st0_6 t) (hst0 t 6) c f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [e0, e1, e2, e3, e4]
  iintro ⟨H0, H1, H2, H3, H4, H5, H6⟩
  isplitl [HΦ]; · iexact HΦ
  isplitl [HO]
  · iexists W
    isplitr; · ipureintro; exact hW
    iexact HO
  isplitl [H0]
  · iexists f0
    isplitr; · ipureintro; exact e0
    iexact H0
  isplitl [H1]
  · iexists f1
    isplitr; · ipureintro; exact e1
    iexact H1
  isplitl [H2]
  · iexists f2
    isplitr; · ipureintro; exact e2
    iexact H2
  isplitl [H3]
  · iexists f3
    isplitr; · ipureintro; exact e3
    iexact H3
  isplitl [H4]
  · iexists f4
    isplitr; · ipureintro; exact e4
    iexact H4
  isplitl [H5]; · iexact H5
  iexact H6

end Cert.Proof.RHS
end
-- ==== Proof.Hand.RHSArr.lean ====
/- The right-hand side's two result arrays, whole, from the blocks its eight grid points write. -/
module

public import proofs.«01_k».proof.Proof.Hand.RHS
public import Idealize.ShloMosaic.Lib.Pipeline.ValueKit.Geometry

@[expose] public section
noncomputable section

namespace Cert.Proof.RHS
open Cert.KernelIdeal Cert.KernelIdeal.Gen
open Idealize.ShloMosaic Idealize.ShloMosaic.TcCoe Idealize.ShloMosaic.Tactic
open Idealize.SL Idealize.SL.RA Idealize.SL.BI
open Cert.Proof.Blocks Cert.Proof.Model Cert.Proof.CG

variable {F : FTy → Type} [FloatOps F]
variable (V : Valuation τ sig (Elt F))

theorem idx0_0 : ∀ t : Fin cfg0.N, win0_0.index t = ![t.val, 0] := by decide +kernel
theorem idx0_1 : ∀ t : Fin cfg0.N, win0_1.index t = ![t.val, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![t.val, 0] := by decide +kernel
theorem idx0_6 : ∀ t : Fin cfg0.N, win0_6.index t = ![t.val, 0] := by decide +kernel

/-- The grid has eight points. -/
theorem lt8 (t : Fin cfg0.N) : t.val < 8 := lt_of_lt_of_le t.isLt (by decide +kernel)

theorem blkOf0 (c : Dev nD) (t : Fin cfg0.N) : blkOf V c 0 t = blk (V main_v0) t.val := by
  funext y
  refine congrArg (V main_v0) (idxA_ext ?_ ?_)
  · blk_simp
    rw [pos_zero _ (lt8 t), idx0_0 t]
    show t.val * 256 + _ = 256 * t.val + _
    omega
  · blk_simp
    rw [idx0_0 t]
    exact Nat.zero_add _

theorem blkOf1 (c : Dev nD) (t : Fin cfg0.N) : blkOf V c 1 t = blk (V main_v1) t.val := by
  funext y
  refine congrArg (V main_v1) (idxA_ext ?_ ?_)
  · blk_simp
    rw [pos_zero _ (lt8 t), idx0_1 t]
    show t.val * 256 + _ = 256 * t.val + _
    omega
  · blk_simp
    rw [idx0_1 t]
    exact Nat.zero_add _

theorem blkOf2 (c : Dev nD) (t : Fin cfg0.N) : blkOf V c 2 t = V main_v142 := by
  funext y
  refine congrArg (V main_v142) (funext fun a => Fin.ext ?_)
  revert a
  refine Fin.forall_fin_two.mpr ⟨?_, ?_⟩
  · blk_simp
    rw [idx0_2 t]
    first | exact Nat.zero_add _ | (idx_bounds y; show (0:ℕ) = _; omega)
  · blk_simp
    rw [idx0_2 t]
    exact Nat.zero_add _

theorem blkOf3 (c : Dev nD) (t : Fin cfg0.N) : blkOf V c 3 t = V main_v138 := by
  funext y
  refine congrArg (V main_v138) (funext fun a => Fin.ext ?_)
  revert a
  refine Fin.forall_fin_two.mpr ⟨?_, ?_⟩
  · blk_simp
    rw [idx0_3 t]
    first | exact Nat.zero_add _ | (idx_bounds y; show (0:ℕ) = _; omega)
  · blk_simp
    rw [idx0_3 t]
    exact Nat.zero_add _

theorem blkOf4 (c : Dev nD) (t : Fin cfg0.N) : blkOf V c 4 t = V main_v141 := by
  funext y
  refine congrArg (V main_v141) (funext fun a => Fin.ext ?_)
  revert a
  refine Fin.forall_fin_two.mpr ⟨?_, ?_⟩
  · blk_simp
    rw [idx0_4 t]
    first | exact Nat.zero_add _ | (idx_bounds y; show (0:ℕ) = _; omega)
  · blk_simp
    rw [idx0_4 t]
    exact Nat.zero_add _

/-- What window 5's array holds at the end. -/
theorem arr5 (c : Dev nD) : (dat0 V c).arrAt 5 cfg0.N = rhs0 (V main_v0) (V main_v1) (V main_v142) (V main_v138) (V main_v141) := by
  refine (dat0 V c).arrAt_eq_of_covers 5 _ (by decide +kernel) fun t hf y => ?_
  blk_simp
  have hy : (win0_5.blk t).view.emb y = pos t.val y := by
    refine idxA_ext ?_ ?_
    · blk_simp
      rw [pos_zero _ (lt8 t), idx0_5 t]
      show t.val * 256 + _ = 256 * t.val + _
      omega
    · blk_simp
      rw [idx0_5 t]
      exact Nat.zero_add _
  rw [hy]
  show rhsTile0 (blkOf V c 0 t) (blkOf V c 1 t) (blkOf V c 2 t) (blkOf V c 3 t) (blkOf V c 4 t) y = blk (rhs0 (V main_v0) (V main_v1) (V main_v142) (V main_v138) (V main_v141)) t.val y
  rw [blkOf0, blkOf1, blkOf2, blkOf3, blkOf4]
  exact (congrFun (blk_unblk (fun k => rhsTile0 (blk (V main_v0) k) (blk (V main_v1) k) (V main_v142) (V main_v138) (V main_v141)) t.val (lt8 t)) y).symm

/-- What window 6's array holds at the end. -/
theorem arr6 (c : Dev nD) : (dat0 V c).arrAt 6 cfg0.N = rhs1 (V main_v0) (V main_v1) (V main_v142) (V main_v138) (V main_v141) := by
  refine (dat0 V c).arrAt_eq_of_covers 6 _ (by decide +kernel) fun t hf y => ?_
  blk_simp
  have hy : (win0_6.blk t).view.emb y = pos t.val y := by
    refine idxA_ext ?_ ?_
    · blk_simp
      rw [pos_zero _ (lt8 t), idx0_6 t]
      show t.val * 256 + _ = 256 * t.val + _
      omega
    · blk_simp
      rw [idx0_6 t]
      exact Nat.zero_add _
  rw [hy]
  show rhsTile1 (blkOf V c 0 t) (blkOf V c 1 t) (blkOf V c 2 t) (blkOf V c 3 t) (blkOf V c 4 t) y = blk (rhs1 (V main_v0) (V main_v1) (V main_v142) (V main_v138) (V main_v141)) t.val y
  rw [blkOf0, blkOf1, blkOf2, blkOf3, blkOf4]
  exact (congrFun (blk_unblk (fun k => rhsTile1 (blk (V main_v0) k) (blk (V main_v1) k) (V main_v142) (V main_v138) (V main_v141)) t.val (lt8 t)) y).symm

end Cert.Proof.RHS
end
-- ==== Proof.Hand.Run.lean ====
/- The program's run: the two kernels' records over the pipeline library, and the launch. At any float values, from any memory
   with zero counters, the run ends with the arguments as launched and the result at the contents the last host operations make of
   `Model.out0` and `Model.out1`. -/
module

public import proofs.«01_k».proof.Proof.Hand.RHSArr
public import proofs.«01_k».proof.Proof.Gen.KernelIdeal.Regions
public import Idealize.ShloMosaic.Lib.Pipeline.RegionArraysS
public import Idealize.ShloMosaic.Lib.Pipeline.RegionArraysD

@[expose] public section
noncomputable section

namespace Cert.Proof.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Blocks Cert.Proof.Model Cert.Proof.CG Cert.Proof.RHS

variable {F : FTy → Type} [FloatOps F]
local notation "𝕄" => MT nD τ sig Unit (Elt F) ℕ (UU nD τ) ℕ

/-! ## The second kernel's record -/

section Dat1
variable (V : Valuation τ sig (Elt F))

/-- The solution's two parts, from the buffers the second kernel starts from. -/
abbrev sol0 : Arr F := out0 (V main_v138) (V main_v141) (V main_v143_0) (V main_v143_1)
abbrev sol1 : Arr F := out1 (V main_v138) (V main_v141) (V main_v143_0) (V main_v143_1)

/-- The buffers after the second kernel. -/
def after1 : Valuation τ sig (Elt F) :=
  Function.update (Function.update V main_v144_0 (sol0 V)) main_v144_1 (sol1 V)

/-- The transfer semaphores of the second kernel. -/
abbrev osem : Fin 2 → SemLoc sig := ![SemLoc.dma 13, SemLoc.dma 14]

/-- What a weight window's block holds. -/
abbrev wOf (c : Dev nD) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The invariant at the two ends of the one point: the four arrays the kernel addresses itself, the result arrays at `y0`, `y1`. -/
def inv (c : Dev nD) (y0 y1 : Arr F) : sProp 𝕄 :=
  iprop(Pipeline.scopedRest (Ix := Unit) (Name := ℕ) (U := UU nD τ) (Lvl := ℕ) (Val := Elt F) spec1 c ∗ (∃ r, prngReg c r) ∗ sems0 c
    ∗ pt c main_v143_0 (V main_v143_0) ∗ pt c main_v143_1 (V main_v143_1) ∗ pt c main_v144_0 y0 ∗ pt c main_v144_1 y1)

/-- The proof data of the second kernel. -/
def dat1 (c : Dev nD) : Pipeline.Dat τ (Elt F) Unit ℕ (UU nD τ) ℕ cfg1 c where
  A w := V (Proc.devRef .tc (Pipeline.arrRef spec1 w))
  after w t := match w with
    | ⟨0, _⟩ => wOf V c 0 t
    | ⟨1, _⟩ => wOf V c 1 t
  Φ t := if t.val = 0 then inv V c (V main_v144_0) (V main_v144_1) else inv V c (sol0 V) (sol1 V)
  q _ := fullShare
  owed _ := 0

theorem before1_0 (c : Dev nD) (t : Fin cfg1.N) (d) : (dat1 V c).before 0 t d = wOf V c 0 t :=
  (dat1 V c).before_in_eq_fetched 0 rfl (fun _ => rfl) (fun _ _ _ => rfl) (fun _ => rfl) t d
theorem before1_1 (c : Dev nD) (t : Fin cfg1.N) (d) : (dat1 V c).before 1 t d = wOf V c 1 t :=
  (dat1 V c).before_in_eq_fetched 1 rfl (fun _ => rfl) (fun _ _ _ => rfl) (fun _ => rfl) t d

theorem hst1 (t : Fin cfg1.N) (w : Fin cfg1.W) : ((cfg1.win w).stage (cfg1.slots t w)).IsWhole := stage_whole1 w _

theorem idx1_0 : ∀ t : Fin cfg1.N, win1_0.index t = ![0, 0] := by decide +kernel
theorem idx1_1 : ∀ t : Fin cfg1.N, win1_1.index t = ![0, 0] := by decide +kernel

/-- A weight window's block is the whole array. -/
theorem wOf0 (c : Dev nD) (t : Fin cfg1.N) : wOf V c 0 t = V main_v138 := by
  funext y
  refine congrArg (V main_v138) (funext fun a => Fin.ext ?_)
  revert a
  refine Fin.forall_fin_two.mpr ⟨?_, ?_⟩ <;> blk_simp <;> rw [idx1_0 t] <;> exact Nat.zero_add _
theorem wOf1 (c : Dev nD) (t : Fin cfg1.N) : wOf V c 1 t = V main_v141 := by
  funext y
  refine congrArg (V main_v141) (funext fun a => Fin.ext ?_)
  revert a
  refine Fin.forall_fin_two.mpr ⟨?_, ?_⟩ <;> blk_simp <;> rw [idx1_1 t] <;> exact Nat.zero_add _

set_option maxHeartbeats 1000000 in
/-- The body's obligation at the one point. -/
theorem body1 (c : Dev nD) : Pipeline.BodyObligation (dat1 V c) (defs₀ (F := F)) Variants.none () Set.univ := fun t => by
  obtain rfl := fin_N1 t
  rw [bigSep_W1, bigSep_W1]
  rw [show (dat1 V c).Φ t1_0.castSucc = inv V c (V main_v144_0) (V main_v144_1) from rfl,
    show (dat1 V c).Φ t1_0.succ = inv V c (sol0 V) (sol1 V) from rfl]
  unfold Pipeline.Dat.owesAt Pipeline.owesWithin inv
  rw [show (dat1 V c).owed t1_0.castSucc = 0 from rfl, show (dat1 V c).owed t1_0.succ = 0 from rfl, scopedRest1_eq]
  simp only [show ∀ (w : Fin cfg1.W) i, cfg1.idle w i = false from fun _ _ => rfl, owns_eq _ (hst1 t1_0 0), owns_eq _ (hst1 t1_0 1), before1_0, before1_1]
  iintro ⟨⟨⟨K0, K1, K2, K3, K4, K5, K6, K7, K8, K9, K10, S0, S1, S2, S3, S4, S5, S6, S7⟩, HP, HS, R0, R1, Y0, Y1⟩, ⟨%W, %hW, HO⟩, ⟨%d0, %f0, %e0, H0⟩, ⟨%d1, %f1, %e1, H1⟩⟩
  iapply (kernelRun (st1_0 t1_0) (hst1 t1_0 0) (st1_1 t1_0) (hst1 t1_0 1) c f0 f1 (V main_v143_0) (V main_v143_1) (V main_v144_0) (V main_v144_1) W)
  isplitl [H0]; · iexact H0
  isplitl [H1]; · iexact H1
  isplitl [R0]; · iexact R0
  isplitl [R1]; · iexact R1
  isplitl [Y0]; · iexact Y0
  isplitl [Y1]; · iexact Y1
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [HS]; · iexact HS
  isplitl [HO]; · iexact HO
  rw [e0, e1, wOf0, wOf1]
  iintro ⟨H0, H1, R0, R1, Y0, Y1, ⟨S0, S1, S2, S3, S4, S5, S6, S7⟩, HS, ⟨%W', HO⟩⟩
  isplitl [K0 K1 K2 K3 K4 K5 K6 K7 K8 K9 K10 S0 S1 S2 S3 S4 S5 S6 S7 HP HS R0 R1 Y0 Y1]
  · isplitl [K0 K1 K2 K3 K4 K5 K6 K7 K8 K9 K10 S0 S1 S2 S3 S4 S5 S6 S7]
    · isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [K8]; · iexact K8
      isplitl [K9]; · iexact K9
      isplitl [K10]; · iexact K10
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [HP]; · iexact HP
    isplitl [HS]; · iexact HS
    isplitl [R0]; · iexact R0
    isplitl [R1]; · iexact R1
    isplitl [Y0]; · iexact Y0
    iexact Y1
  isplitl [HO]
  · iexists W'
    isplitr; · ipureintro; exact fun _ _ => Or.inl trivial
    iexact HO
  isplitl [H0]
  · iexists f0
    isplitr; · ipureintro; exact e0
    iexact H0
  iexists f1
  isplitr; · ipureintro; exact e1
  iexact H1

end Dat1

/-! ## The two records -/

/-- No core owes another anything. The staging cells have the one index at level zero. -/
abbrev Lev : GSem nD τ sig → Finset Unit := fun g => if g.1.2 = .tc then {()} else ∅
abbrev lev : GSem nD τ sig → Unit → ℕ := fun _ _ => 0

/-- The proof data of both kernels, from the buffers each starts from. -/
abbrev pdats (A B : Dev nD → Valuation τ sig (Elt F)) : (p : Fin 2) → (c : Dev nD) → Pipeline.Dat τ (Elt F) Unit ℕ (UU nD τ) ℕ (cfgs p) c
  | 0, c => dat0 (A c) c
  | 1, c => dat1 (B c) c
  | ⟨_ + 2, h⟩, _ => absurd h (Nat.not_lt.2 (Nat.le_add_left _ _))

/-- What a core owes another at every moment: nothing. -/
abbrev none : Dev nD → CellTallies nD τ sig Unit := fun _ => 0

theorem cut (p : Fin 2) : Pipeline.LevelCut (pcfgs (F := F)) adm () Lev lev p none (fun _ => 0) where
  hι _ _ _ := Finset.mem_singleton.mpr rfl
  hιb _ _ _ := le_refl _
  hD _ _ _ h := absurd h (Nat.lt_irrefl 0)

variable (A B : Dev nD → Valuation τ sig (Elt F))

set_option backward.isDefEq.respectTransparency.types false in
/-- The first kernel's record: entered from the buffers at `A`. -/
def rec0 : Pipeline.RegionSeg (pcfgs (F := F)) adm (pdats A B) () defs₀ Variants.none Lev lev 0 :=
  Pipeline.RegionSeg.ofHeldIn (pcfgs (F := F)) adm (pdats A B) () defs₀ Variants.none Lev lev 0 none (Pipeline.ucRefs τ sig)
    (fun _ => iprop(emp)) (fun _ => iprop(emp)) launch0.toP rfl (fun c => (body0 (A c) c).loose) (fun _ _ => rfl) (fun _ => rfl)
    (fun c => (dat0 (A c) c).share_full fun _ => rfl)
    (fun c => by
      show _ ⊢ Pipeline.scopedRest (Ix := Unit) (Name := ℕ) (U := UU nD τ) (Lvl := ℕ) (Val := Elt F) spec0 c
      iintro ⟨H, -⟩
      iexact H)
    (fun c => by
      show Pipeline.scopedRest (Ix := Unit) (Name := ℕ) (U := UU nD τ) (Lvl := ℕ) (Val := Elt F) spec0 c ⊢ _
      iintro H
      isplitl [H]; · iexact H
      iempintro)
    (fun _ => 0) (cut 0) (fun c => iprop(∃ r, prngReg c r)) A (fun _ _ => rfl)

theorem ownSemFacts : Pipeline.OwnSemFacts spec1 osem := by decide

/-- The arrays the second kernel reads, and those it writes. -/
abbrev HH : Finset (Ref sig .tc) := {main_v143_0, main_v143_1}
abbrev RR : Finset (Ref sig .tc) := {main_v144_0, main_v144_1}

theorem HH_eq (Φ : Ref sig .tc → sProp 𝕄) : bigSep HH Φ = iprop(Φ main_v143_0 ∗ Φ main_v143_1) :=
  bigSep_eq_bigSepL_of_eq [main_v143_0, main_v143_1] (by decide) (by decide) Φ
theorem RR_eq (Φ : Ref sig .tc → sProp 𝕄) : bigSep RR Φ = iprop(Φ main_v144_0 ∗ Φ main_v144_1) :=
  bigSep_eq_bigSepL_of_eq [main_v144_0, main_v144_1] (by decide) (by decide) Φ

theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

/-- What `after1` holds at the two result arrays, and at every other buffer. -/
theorem after1_0 (V : Valuation τ sig (Elt F)) : after1 V main_v144_0 = sol0 V := by
  unfold after1
  rw [Function.update_of_ne (StableHlo.devRef_ne_of_ne (by decide)), Function.update_self]
theorem after1_1 (V : Valuation τ sig (Elt F)) : after1 V main_v144_1 = sol1 V := by
  unfold after1
  rw [Function.update_self]
theorem after1_of (V : Valuation τ sig (Elt F)) (b : DevRef τ sig) (h0 : b ≠ Proc.devRef .tc main_v144_0) (h1 : b ≠ Proc.devRef .tc main_v144_1) :
    after1 V b = V b := by
  unfold after1
  rw [Function.update_of_ne h1, Function.update_of_ne h0]

theorem arr_sub0 : Pipeline.arrRefs (τ := τ) spec0 ⊆ Pipeline.ucRefs τ sig := Pipeline.arrRefs_sub_ucRefs spec0 (by decide)
theorem arr_sub1 : Pipeline.arrRefs (τ := τ) spec1 ⊆ Pipeline.ucRefs τ sig := Pipeline.arrRefs_sub_ucRefs spec1 (by decide)

/-- An array the second kernel addresses itself is no window's. -/
theorem not_arr1 (r : Ref sig .tc) (h : ∀ w, r ≠ Pipeline.arrRef spec1 w) : (Proc.devRef .tc r : DevRef τ sig) ∉ Pipeline.arrRefs (τ := τ) spec1 := fun hb => by
  obtain ⟨r', hr', e⟩ := Finset.mem_map.mp hb
  obtain ⟨w, -, rfl⟩ := Finset.mem_image.mp hr'
  exact h w (Proc.devRef_injective _ e).symm

theorem hbm_sub (H : Finset (Ref sig .tc)) (h : ∀ r ∈ H, (Proc.devRef .tc r : DevRef τ sig).isScoped = false) (h' : ∀ r ∈ H, ∀ w, r ≠ Pipeline.arrRef spec1 w) :
    Pipeline.hbmRefs (τ := τ) H ⊆ Pipeline.ucRefs τ sig \ Pipeline.arrRefs spec1 := fun b hb => by
  refine Finset.mem_sdiff.mpr ⟨Pipeline.hbmRefs_sub_ucRefs H h hb, ?_⟩
  obtain ⟨r, hr, rfl⟩ := Finset.mem_map.mp hb
  exact not_arr1 r (h' r hr)

theorem HH_sub : Pipeline.hbmRefs (τ := τ) HH ⊆ Pipeline.ucRefs τ sig \ Pipeline.arrRefs spec1 := hbm_sub HH (by decide) (by decide)
theorem RR_sub : Pipeline.hbmRefs (τ := τ) RR ⊆ (Pipeline.ucRefs τ sig \ Pipeline.arrRefs spec1) \ Pipeline.hbmRefs HH := fun b hb => by
  refine Finset.mem_sdiff.mpr ⟨hbm_sub RR (by decide) (by decide) hb, fun h => ?_⟩
  obtain ⟨r, hr, rfl⟩ := Finset.mem_map.mp hb
  obtain ⟨r', hr', e⟩ := Finset.mem_map.mp h
  have e' : r' = r := Proc.devRef_injective _ e
  subst e'
  exact (by decide : ∀ r ∈ HH, r ∉ RR) r' hr' hr

theorem after1_off (V : Valuation τ sig (Elt F)) (b : DevRef τ sig) (hb : b ∉ Pipeline.hbmRefs (τ := τ) RR) : after1 V b = V b :=
  after1_of V b (fun e => hb (Finset.mem_map.mpr ⟨main_v144_0, by decide, e.symm⟩)) (fun e => hb (Finset.mem_map.mpr ⟨main_v144_1, by decide, e.symm⟩))

/-- The second kernel's windows are inputs, and none of them is a result array. -/
theorem isIn1 : ∀ w : Fin cfg1.W, (cfg1.win w).isOut = false := by decide
theorem arr1_ne : ∀ w : Fin cfg1.W, Pipeline.arrRef spec1 w ≠ main_v144_0 ∧ Pipeline.arrRef spec1 w ≠ main_v144_1 := by decide

set_option backward.isDefEq.respectTransparency.types false in
/-- The second kernel's record: entered from the buffers at `B`, left at `after1 B`. -/
def rec1 : Pipeline.RegionSeg (pcfgs (F := F)) adm (pdats A B) () defs₀ Variants.none Lev lev 1 :=
  Pipeline.RegionSeg.ofHeldDW (pcfgs (F := F)) adm (pdats A B) () defs₀ Variants.none Lev lev 1 none () osem ownSemFacts HH RR
    (Pipeline.ucRefs τ sig \ Pipeline.arrRefs spec1) HH_sub RR_sub launch1.toP rfl (fun c => (body1 (B c) c).loose) (fun _ _ => rfl) (fun _ => rfl)
    (fun c => (dat1 (B c) c).share_full fun _ => rfl)
    (fun c => by
      iintro -
      iapply (Transfers.MayWaits.zero (c : Thread nD τ) ())
      iempintro)
    B (fun c => after1 (B c)) (fun c b hb => after1_off (B c) b (Finset.mem_sdiff.mp hb).2)
    (fun c => by
      show _ ⊢ inv (B c) c (B c main_v144_0) (B c main_v144_1)
      rw [HH_eq, RR_eq, ownSems0_eq]
      unfold inv
      iintro ⟨H, HP, HS, ⟨R0, R1⟩, ⟨Y0, Y1⟩, -⟩
      isplitl [H]; · iexact H
      isplitl [HP]; · iexact HP
      isplitl [HS]; · iexact HS
      isplitl [R0]; · iexact R0
      isplitl [R1]; · iexact R1
      isplitl [Y0]; · iexact Y0
      iexact Y1)
    (fun c => by
      show inv (B c) c (sol0 (B c)) (sol1 (B c)) ⊢ _
      rw [HH_eq, RR_eq, ownSems0_eq, after1_0, after1_1]
      unfold inv
      iintro ⟨H, HP, HS, R0, R1, Y0, Y1⟩
      isplitl [H]; · iexact H
      isplitl [HP]; · iexact HP
      isplitl [HS]; · iexact HS
      isplitl [R0 R1]
      · isplitl [R0]; · iexact R0
        iexact R1
      isplitl [Y0]; · iexact Y0
      iexact Y1)
    (fun _ => 0) (cut 1) (fun c => iprop(emp)) (fun _ _ => rfl)
    (fun c w => ((dat1 (B c) c).arrAt_in w (isIn1 w) _).trans
      (after1_of (B c) _ (StableHlo.devRef_ne_of_ne (arr1_ne w).1) (StableHlo.devRef_ne_of_ne (arr1_ne w).2)).symm)

/-! ## The launch -/

variable (m : (ℓ : Loc nD τ sig) → Buf (Elt F) ℓ) (ρ : Dev nD → PrngReg)

/-- The buffers when the second kernel starts. -/
def mid (c : Dev nD) : Valuation τ sig (Elt F) := Pipeline.afterRegion (dat0 (V3 m c) c) (V3 m c)

/-- What the kernels leave. -/
def outs : Outs (F := F) := fun J r c => if J = 4 then mid m c (Proc.devRef .tc r) else after1 (mid m c) (Proc.devRef .tc r)

theorem outs_4 (r : Ref sig .tc) (c : Dev nD) : outs m 4 r c = mid m c (Proc.devRef .tc r) := if_pos rfl
theorem outs_5 (r : Ref sig .tc) (c : Dev nD) : outs m 5 r c = after1 (mid m c) (Proc.devRef .tc r) := if_neg (by decide)

theorem mid_5 (c : Dev nD) : mid m c main_v143_0 = rhs0 (V3 m c main_v0) (V3 m c main_v1) (V3 m c main_v142) (V3 m c main_v138) (V3 m c main_v141) :=
  (Pipeline.afterRegion_arr (dat0 (V3 m c) c) (V3 m c) launch0.win.arr_inj 5).trans (arr5 (V3 m c) c)
theorem mid_6 (c : Dev nD) : mid m c main_v143_1 = rhs1 (V3 m c main_v0) (V3 m c main_v1) (V3 m c main_v142) (V3 m c main_v138) (V3 m c main_v141) :=
  (Pipeline.afterRegion_arr (dat0 (V3 m c) c) (V3 m c) launch0.win.arr_inj 6).trans (arr6 (V3 m c) c)
/-- The first kernel changes only its two results. -/
theorem mid_of (c : Dev nD) (r : Ref sig .tc) (h : r ∉ ([main_v143_0, main_v143_1] : List (Ref sig .tc))) : mid m c r = V3 m c r :=
  Pipeline.afterRegion_keeps (dat0 (V3 m c) c) (V3 m c) launch0.win.arr_inj (fun _ => rfl) r fun w e =>
    (by decide : ∀ w : Fin cfg0.W, Pipeline.arrRef spec0 w ∉ ([main_v143_0, main_v143_1] : List (Ref sig .tc)) → (cfg0.win w).isOut = false) w (e ▸ h)

theorem V5_0 (c : Dev nD) : V5 m (outs m) c main_v144_0 = sol0 (mid m c) := by
  unfold V5
  rw [Function.update_of_ne (StableHlo.devRef_ne_of_ne (by decide)), Function.update_self]
  exact (outs_5 m main_v144_0 c).trans (after1_0 (mid m c))
theorem V5_1 (c : Dev nD) : V5 m (outs m) c main_v144_1 = sol1 (mid m c) := by
  unfold V5
  rw [Function.update_self]
  exact (outs_5 m main_v144_1 c).trans (after1_1 (mid m c))

theorem held5 (c : Dev nD) : (StableHlo.held (c : Thread nD τ) (Pipeline.ucRefs τ sig) (V5 m (outs m) c) : sProp 𝕄)
    = StableHlo.held (c : Thread nD τ) (Pipeline.ucRefs τ sig) (after1 (mid m c)) :=
  StableHlo.held_congr _ fun b hb => by
    obtain ⟨r, -, rfl⟩ := Finset.mem_map.mp (Finset.mem_filter.mp hb).1
    by_cases h0 : r = main_v144_0
    · subst h0; exact (V5_0 m c).trans (after1_0 (mid m c)).symm
    by_cases h1 : r = main_v144_1
    · subst h1; exact (V5_1 m c).trans (after1_1 (mid m c)).symm
    have hne := after1_of (mid m c) (Proc.devRef .tc r) (StableHlo.devRef_ne_of_ne h0) (StableHlo.devRef_ne_of_ne h1)
    refine Eq.trans ?_ hne.symm
    by_cases h2 : r = main_v143_0
    · subst h2
      show V5 m (outs m) c main_v143_0 = mid m c main_v143_0
      unfold V5
      rw [Function.update_of_ne (StableHlo.devRef_ne_of_ne (by decide)), Function.update_of_ne (StableHlo.devRef_ne_of_ne (by decide)),
        Function.update_of_ne (StableHlo.devRef_ne_of_ne (by decide)), Function.update_self]
      exact (outs_5 m main_v143_0 c).trans hne
    by_cases h3 : r = main_v143_1
    · subst h3
      show V5 m (outs m) c main_v143_1 = mid m c main_v143_1
      unfold V5
      rw [Function.update_of_ne (StableHlo.devRef_ne_of_ne (by decide)), Function.update_of_ne (StableHlo.devRef_ne_of_ne (by decide)),
        Function.update_self]
      exact (outs_5 m main_v143_1 c).trans hne
    have h : r ∉ ([main_v143_0, main_v143_1] : List (Ref sig .tc)) := by simp [h2, h3]
    exact (V5_of m (outs m) c r (by simp [h0, h1, h2, h3])).trans ((V4_of m (outs m) c r h).trans (mid_of m c r h).symm)

/-- What rides beside the buffers: the generator's register, and what the core owes. -/
abbrev E : Fin 3 → Dev nD → sProp 𝕄 := fun _ c => iprop((∃ r, prngReg c r) ∗ ∃ W, owes (c : Thread nD τ) (0 : CellTallies nD τ sig Unit) W)

set_option backward.isDefEq.respectTransparency.types false in
theorem pre0 (c : Dev nD) : iprop(StableHlo.held (c : Thread nD τ) (Pipeline.ucRefs τ sig) (A c) ∗ E 0 c) ⊢ (rec0 A B).pre c := by
  show _ ⊢ iprop(StableHlo.held (c : Thread nD τ) (Pipeline.arrRefs spec0) (A c) ∗ emp
    ∗ (StableHlo.held (c : Thread nD τ) (Pipeline.ucRefs τ sig \ Pipeline.arrRefs spec0) (A c) ∗ (∃ r, prngReg c r)) ∗ ∃ Wd, owes (c : Thread nD τ) (none c) Wd)
  rw [StableHlo.held_sub_split (c : Thread nD τ) arr_sub0 (A c)]
  iintro ⟨⟨H, H'⟩, HP, HO⟩
  isplitl [H]; · iexact H
  isplitr; · iempintro
  isplitl [H' HP]
  · isplitl [H']; · iexact H'
    iexact HP
  iexact HO

set_option backward.isDefEq.respectTransparency.types false in
theorem post0 (c : Dev nD) : (rec0 A B).post c
    ⊢ iprop(StableHlo.held (c : Thread nD τ) (Pipeline.ucRefs τ sig) (Pipeline.afterRegion (dat0 (A c) c) (A c)) ∗ E 1 c) := by
  show iprop(StableHlo.held (c : Thread nD τ) (Pipeline.arrRefs spec0) (Pipeline.afterRegion (dat0 (A c) c) (A c)) ∗ emp
    ∗ (StableHlo.held (c : Thread nD τ) (Pipeline.ucRefs τ sig \ Pipeline.arrRefs spec0) (A c) ∗ (∃ r, prngReg c r)) ∗ ∃ Wd, owes (c : Thread nD τ) (none c) Wd) ⊢ _
  rw [StableHlo.held_sub_split (c : Thread nD τ) arr_sub0 (Pipeline.afterRegion (dat0 (A c) c) (A c)),
    StableHlo.held_congr (c : Thread nD τ) (S := Pipeline.ucRefs τ sig \ Pipeline.arrRefs spec0) (V := Pipeline.afterRegion (dat0 (A c) c) (A c)) (V' := A c)
      (Pipeline.afterRegion_off (dat0 (A c) c) (A c) (Pipeline.ucRefs τ sig))]
  iintro ⟨H, -, ⟨H', HP⟩, HO⟩
  isplitl [H H']
  · isplitl [H]; · iexact H
    iexact H'
  isplitl [HP]; · iexact HP
  iexact HO

set_option backward.isDefEq.respectTransparency.types false in
theorem pre1 (c : Dev nD) : iprop(StableHlo.held (c : Thread nD τ) (Pipeline.ucRefs τ sig) (B c) ∗ E 1 c) ⊢ (rec1 A B).pre c := by
  show _ ⊢ iprop(StableHlo.held (c : Thread nD τ) (Pipeline.arrRefs spec1) (B c) ∗ (∃ r, prngReg c r)
    ∗ (StableHlo.held (c : Thread nD τ) (Pipeline.ucRefs τ sig \ Pipeline.arrRefs spec1) (B c) ∗ emp) ∗ ∃ Wd, owes (c : Thread nD τ) (none c) Wd)
  rw [StableHlo.held_sub_split (c : Thread nD τ) arr_sub1 (B c)]
  iintro ⟨⟨H, H'⟩, HP, HO⟩
  isplitl [H]; · iexact H
  isplitl [HP]; · iexact HP
  isplitl [H']
  · isplitl [H']; · iexact H'
    iempintro
  iexact HO

set_option backward.isDefEq.respectTransparency.types false in
theorem post1 (c : Dev nD) : (rec1 A B).post c ⊢ iprop(StableHlo.held (c : Thread nD τ) (Pipeline.ucRefs τ sig) (after1 (B c)) ∗ E 2 c) := by
  show iprop(StableHlo.held (c : Thread nD τ) (Pipeline.arrRefs spec1) (after1 (B c)) ∗ (∃ r, prngReg c r)
    ∗ (StableHlo.held (c : Thread nD τ) (Pipeline.ucRefs τ sig \ Pipeline.arrRefs spec1) (after1 (B c)) ∗ emp) ∗ ∃ Wd, owes (c : Thread nD τ) (none c) Wd) ⊢ _
  rw [StableHlo.held_sub_split (c : Thread nD τ) arr_sub1 (after1 (B c))]
  iintro ⟨H, HP, ⟨H', -⟩, HO⟩
  isplitl [H H']
  · isplitl [H]; · iexact H
    iexact H'
  isplitl [HP]; · iexact HP
  iexact HO

/-- The two records at this launch. -/
abbrev R0 : Pipeline.RegionSeg (pcfgs (F := F)) adm (pdats (V3 m) (mid m)) () defs₀ Variants.none Lev lev 0 := rec0 (V3 m) (mid m)
abbrev R1 : Pipeline.RegionSeg (pcfgs (F := F)) adm (pdats (V3 m) (mid m)) () defs₀ Variants.none Lev lev 1 := rec1 (V3 m) (mid m)

/-- Where the library's tokens lie in the algebra. -/
abbrev EP : Emb (UR sig nD τ) 𝕄 := embL

/-- The launch's share of the algebra. -/
def u₀ : UU nD τ := (initOf (Pipeline.cells cfgs cellOf_inj) (Pipeline.launchToks cfgs cellOf_inj), 1)

theorem hu₀ : (ownU u₀ : sProp 𝕄) ⊢ |={Set.univ}=> iprop(BI.own (EP (initOf (Pipeline.cells cfgs cellOf_inj) (Pipeline.launchToks cfgs cellOf_inj))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- The run: every fair execution ends, with every argument as launched, every counter at zero, and the result at what the last host
    operations make of the buffers the kernels leave. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v148) = V6 m (outs m) c main_v148)
      ∧ r.2.sem = fun _ => 0) := by
  refine Pipeline.θ_run_regions_kit_dev_sems (pcfgs (F := F)) adm (pdats (V3 m) (mid m)) () cellOf_inj EP defs₀ Variants.none Lev lev m ρ main
    (segs m (outs m) Variants.none Lev lev E () (pdats (V3 m) (mid m)) (R0 m) (R1 m))
    (fun c Q => by
      rewrite [main_chain c, Pipeline.Seg.run_eq_chain,
        show (segs m (outs m) Variants.none Lev lev E () (pdats (V3 m) (mid m)) (R0 m) (R1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0)
    (fun g h => if_neg h) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, .rfl, .rfl, pre0 (V3 m) (mid m) c,
      (post0 (V3 m) (mid m) c).trans (pre1 (V3 m) (mid m) c),
      (post1 (V3 m) (mid m) c).trans (sep_mono (Entails.of_eq (held5 m c).symm) .rfl), sep_mono .rfl (by iintro ⟨-, H⟩; iexact H)⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v148) = V6 m (outs m) c main_v148)
    (hfin := fun c s' => ?_) (hQ := fun _ h hz => ⟨h, funext fun g => hz g (.inr (regions_no_unscoped g.2))⟩)
  · refine Pipeline.initEach Lev lev fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, HP, -⟩, -⟩
    imodintro
    isplitl [Hh]; · iexact Hh
    isplitl [HP]; · iexists _; iexact HP
    iexists ∅; iexact HO
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      have hb : ∀ r : Ref sig .tc, (Proc.devRef .tc r : DevRef τ sig).isScoped = false → s'.mem.mem ((c.tc : Thread nD τ).loc r) = V6 m (outs m) c r :=
        fun r hr => h (Proc.devRef .tc r) (Finset.mem_filter.mpr ⟨StableHlo.devRef_mem_tcRefs r, fun h' => Bool.false_ne_true (hr.symm.trans h')⟩)
      exact ⟨⟨(hb main_arg0 (by decide)).trans (V6_main_arg0 m (outs m) c), (hb main_arg1 (by decide)).trans (V6_main_arg1 m (outs m) c),
        (hb main_arg2 (by decide)).trans (V6_main_arg2 m (outs m) c), (hb main_arg3 (by decide)).trans (V6_main_arg3 m (outs m) c)⟩, hb main_v148 (by decide)⟩
    · iexact HSI

end Cert.Proof.Run
end
-- ==== Proof.Hand.Frames.lean ====
/- The three frame claims: each program ends, leaves its arguments as they were and every counter at zero. -/
module

public import proofs.«01_k».proof.Proof.Hand.Run
public import proofs.«01_k».proof.Proof.Gen.Kernel
public import proofs.«01_k».proof.Proof.Gen.ReferenceIdeal.Run
public import proofs.«01_k».proof.Defs
public import Idealize.ShloMosaic.Lib.Quiescent

@[expose] public section
noncomputable section

namespace Cert.Proof.Frames
open Idealize.ShloMosaic Idealize.ShloMosaic.TcCoe Idealize.SL.Sem

/-- The idealized kernel's frame, over any float values: the run's, its result left out. -/
abbrev FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    True → θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0)

/-- The idealized kernel has its frame over any float values. -/
theorem frameAt (F : FTy → Type) [FloatOps F] : FrameAt F := fun m g _ =>
  (θ_run (Cert.KernelIdeal.defs (F := F)) _ _).mono (fun _ h => ⟨fun c => ⟨(h.1 c).1.1, (h.1 c).1.2.1, (h.1 c).1.2.2.1, (h.1 c).1.2.2.2⟩, h.2⟩)
    (Cert.Proof.Run.run (F := F) m g)

/-- No operation is replaced between the kernel and its idealized form, so the kernel's own frame, over the float words, is
    word for word the idealized program's at those words. -/
theorem kernel_eq : Cert.quiescent_Kernel (hKernel := Cert.Kernel.Gen.facts) = FrameAt Bits := by
  unfold Cert.quiescent_Kernel
  chain_rfl

/-- The kernel's frame. -/
theorem kernel : Cert.quiescent_Kernel (hKernel := Cert.Kernel.Gen.facts) := kernel_eq.mpr (frameAt Bits)

/-- The idealized kernel's frame. -/
theorem kernelIdeal : Cert.quiescent_KernelIdeal (hKernelIdeal := Cert.KernelIdeal.Gen.facts) := frameAt Ideal

/-- The reference's frame: it has no counter at all. -/
theorem referenceIdeal : Cert.quiescent_ReferenceIdeal (hReferenceIdeal := Cert.ReferenceIdeal.Gen.facts) := fun m g _ =>
  (θ_run (Cert.ReferenceIdeal.defs (F := Ideal)) _ _).mono
    (fun r h => ⟨fun c => ⟨(h c).2.1, (h c).2.2.1, (h c).2.2.2.1, (h c).2.2.2.2⟩, sem_eq_zero_of_no_sems rfl r.2⟩)
    (Cert.ReferenceIdeal.Value.run (F := Ideal) m g)

end Cert.Proof.Frames
end
-- ==== Proof.Hand.ConjGrad.lean ====
/- The conjugate-gradient recurrence on extended reals, in the two orders the two programs run it: one moves the iterate and the
   direction at the end of a step, the other defers both moves to the next step. On finite data the two agree; where the
   right-hand side has an infinite entry, or is zero, both leave the iterate at zero. -/
module

public import Idealize.ShloMosaic.PureOps.Ideal
public import Mathlib.Data.EReal.Inv

@[expose] public section
noncomputable section

namespace Cert.Proof.ConjGrad

/-! ## Infinite values -/

/-- The value is one of the two infinities. -/
def Inf (x : EReal) : Prop := x = ⊤ ∨ x = ⊥

theorem not_inf {x : EReal} (h : ¬ Inf x) : ∃ r : ℝ, x = r := by
  induction x with
  | bot => exact absurd (Or.inr rfl) h
  | top => exact absurd (Or.inl rfl) h
  | coe r => exact ⟨r, rfl⟩

/-- A sum with an infinite summand is infinite. -/
theorem Inf.add_right {x : EReal} (h : Inf x) (y : EReal) : Inf (x + y) := by
  rcases h with rfl | rfl
  · induction y with
    | bot => exact Or.inr (by simp)
    | top => exact Or.inl (by simp)
    | coe r => exact Or.inl (by simp)
  · exact Or.inr (by simp)

theorem Inf.add_left {x : EReal} (h : Inf x) (y : EReal) : Inf (y + x) := add_comm x y ▸ h.add_right y

theorem Inf.neg {x : EReal} (h : Inf x) : Inf (-x) := by
  rcases h with rfl | rfl
  · exact Or.inr (by simp)
  · exact Or.inl (by simp)

theorem Inf.sub_right {x : EReal} (h : Inf x) (y : EReal) : Inf (x - y) := by
  rw [sub_eq_add_neg]; exact h.add_right _

theorem Inf.sub_left {x : EReal} (h : Inf x) (y : EReal) : Inf (y - x) := by
  rw [sub_eq_add_neg]; exact h.neg.add_left _

/-- A product of an infinite factor and a factor other than zero is infinite. -/
theorem Inf.mul_right {x y : EReal} (h : Inf x) (hy : y ≠ 0) : Inf (x * y) := by
  rcases lt_or_gt_of_ne hy with hy | hy
  · rcases h with rfl | rfl
    · exact Or.inr (EReal.top_mul_of_neg hy)
    · exact Or.inl (EReal.bot_mul_of_neg hy)
  · rcases h with rfl | rfl
    · exact Or.inl (EReal.top_mul_of_pos hy)
    · exact Or.inr (EReal.bot_mul_of_pos hy)

theorem Inf.mul_left {x y : EReal} (h : Inf x) (hy : y ≠ 0) : Inf (y * x) := mul_comm x y ▸ h.mul_right hy

theorem Inf.ne_zero {x : EReal} (h : Inf x) : x ≠ 0 := by
  rcases h with rfl | rfl
  · exact EReal.top_ne_zero
  · exact EReal.bot_ne_zero

/-- A finite sum with an infinite term is infinite. -/
theorem Inf.sum {ι : Type} [Fintype ι] {f : ι → EReal} {i : ι} (h : Inf (f i)) : Inf (∑ j, f j) := by
  classical
  rw [← Finset.add_sum_erase Finset.univ f (Finset.mem_univ i)]
  exact h.add_right _

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-! ## The recurrence -/

variable {J : Type} [Fintype J]

/-- The sum of the products of two families' entries. -/
def dot (p q : J → EReal) : EReal := ∑ j, p j * q j

/-- The rule for the two scalars of a step: the step length from the sum of squares and the denominator, and the weight of the old
    direction from the new and the old sum of squares. `Rule.Good` states what the programs' rule meets. -/
structure Rule : Type where
  al : EReal → EReal → EReal
  be : EReal → EReal → EReal

structure Rule.Good (s : Rule) : Prop where
  al_real : ∀ rs den : ℝ, 0 ≤ den → ∃ a : ℝ, s.al rs den = a
  be_real : ∀ rs' rs : ℝ, 0 ≤ rs → ∃ b : ℝ, s.be rs' rs = b
  al_inf : ∀ den, Inf den → s.al ⊤ den = 0
  be_inf : s.be ⊤ ⊤ = 0

/-- The state of the recurrence that moves iterate and direction at the end of a step. -/
structure Now (J : Type) : Type where
  x : J → EReal
  r : J → EReal
  p : J → EReal
  rs : EReal

variable (s : Rule) (A : (J → EReal) → J → EReal)

def Now.a (t : Now J) : EReal := s.al t.rs (dot t.p (A t.p))
def Now.r' (t : Now J) : J → EReal := fun j => t.r j - t.a s A * A t.p j
def Now.rs' (t : Now J) : EReal := dot (t.r' s A) (t.r' s A)
def Now.next (t : Now J) : Now J where
  x := fun j => t.x j + t.a s A * t.p j
  r := t.r' s A
  p := fun j => t.r' s A j + s.be (t.rs' s A) t.rs * t.p j
  rs := t.rs' s A

def Now.init (b : J → EReal) : Now J := ⟨fun _ => 0, b, b, dot b b⟩

def Now.run (b : J → EReal) : ℕ → Now J
  | 0 => Now.init b
  | n + 1 => (Now.run b n).next s A

/-- The state of the recurrence that defers both moves; `beta` and `ap` are the weights still to be applied. -/
structure Late (J : Type) : Type where
  x : J → EReal
  r : J → EReal
  p : J → EReal
  rs : EReal
  beta : EReal
  ap : EReal

def Late.p' (t : Late J) : J → EReal := fun j => t.r j + t.beta * t.p j
def Late.a (t : Late J) : EReal := s.al t.rs (dot t.p' (A t.p'))
def Late.r' (t : Late J) : J → EReal := fun j => t.r j - t.a s A * A t.p' j
def Late.rs' (t : Late J) : EReal := dot (t.r' s A) (t.r' s A)
def Late.next (t : Late J) : Late J where
  x := fun j => t.x j + t.ap * t.p j
  r := t.r' s A
  p := t.p'
  rs := t.rs' s A
  beta := s.be (t.rs' s A) t.rs
  ap := t.a s A

def Late.init (b : J → EReal) : Late J := ⟨fun _ => 0, b, fun _ => 0, dot b b, 0, 0⟩

def Late.run (b : J → EReal) : ℕ → Late J
  | 0 => Late.init b
  | n + 1 => (Late.run b n).next s A

/-- The iterate with the deferred move applied. -/
def Late.out (t : Late J) : J → EReal := fun j => t.x j + t.ap * t.p j

/-! ## Finite data -/

/-- A family of reals as a family of extended reals. -/
def up (f : J → ℝ) : J → EReal := fun j => (f j : EReal)

theorem dot_up (p q : J → ℝ) : dot (up p) (up q) = ((∑ j, p j * q j : ℝ) : EReal) := by
  rw [coe_sum]; exact Finset.sum_congr rfl fun j _ => (EReal.coe_mul _ _).symm

theorem axpy_up (p q : J → ℝ) (a : ℝ) : (fun j => up p j + (a : EReal) * up q j) = up fun j => p j + a * q j := by
  funext j; simp [up]

theorem axmy_up (p q : J → ℝ) (a : ℝ) : (fun j => up p j - (a : EReal) * up q j) = up fun j => p j - a * q j := by
  funext j; simp [up]

/-- How the two states correspond on finite data. -/
def Agree (l : Late J) (t : Now J) : Prop :=
  ∃ (r x p : J → ℝ) (rs beta ap : ℝ), 0 ≤ rs ∧ l.r = up r ∧ l.x = up x ∧ l.p = up p ∧ l.rs = rs ∧ l.beta = beta ∧ l.ap = ap ∧
    t.r = l.r ∧ t.rs = l.rs ∧ t.p = l.p' ∧ t.x = l.out

theorem agree_init (b : J → ℝ) : Agree (Late.init (up b)) (Now.init (up b)) := by
  refine ⟨b, fun _ => 0, fun _ => 0, ∑ j, b j * b j, 0, 0, Finset.sum_nonneg fun j _ => mul_self_nonneg _, rfl, ?_, ?_, dot_up b b,
    rfl, rfl, rfl, rfl, ?_, ?_⟩
  · funext j; simp [Late.init, up]
  · funext j; simp [Late.init, up]
  · funext j; simp [Late.init, Now.init, Late.p']
  · funext j; simp [Late.init, Now.init, Late.out]

theorem agree_next (hs : s.Good) (B : (J → EReal) → J → EReal) (M : (J → ℝ) → J → ℝ) (hA : ∀ u, A (up u) = up (M u)) (hB : ∀ u, B (up u) = up (M u))
    (hM : ∀ u, 0 ≤ ∑ j, u j * M u j) (l : Late J) (t : Now J) (h : Agree l t) : Agree (l.next s A) (t.next s B) := by
  obtain ⟨r, x, p, rs, beta, ap, hrs, hr, hx, hp, hlrs, hbeta, hap, htr, htrs, htp, htx⟩ := h
  have hp' : l.p' = up fun j => r j + beta * p j := by
    unfold Late.p'; rw [hr, hp, hbeta]; exact axpy_up _ _ _
  have hout : l.out = up fun j => x j + ap * p j := by
    unfold Late.out; rw [hx, hp, hap]; exact axpy_up _ _ _
  generalize hq : (fun j => r j + beta * p j) = q at hp'
  have hAp : A l.p' = up (M q) := by rw [hp', hA]
  have hBp : B t.p = up (M q) := by rw [htp, hp', hB]
  obtain ⟨a, ha⟩ := hs.al_real rs (∑ j, q j * M q j) (hM q)
  have hla : l.a s A = a := by
    unfold Late.a; rw [hAp, hlrs, hp', dot_up]; exact ha
  have hta : t.a s B = a := by
    unfold Now.a; rw [hBp, htrs, hlrs, htp, hp', dot_up]; exact ha
  have hlr : l.r' s A = up fun j => r j - a * M q j := by
    unfold Late.r'; rw [hla, hAp, hr]; exact axmy_up _ _ _
  have htr' : t.r' s B = l.r' s A := by
    unfold Now.r' Late.r'; rw [hla, hta, hAp, hBp, htr]
  generalize hr2 : (fun j => r j - a * M q j) = r2 at hlr
  have hrs' : l.rs' s A = ((∑ j, r2 j * r2 j : ℝ) : EReal) := by unfold Late.rs'; rw [hlr, dot_up]
  have htrs' : t.rs' s B = l.rs' s A := by unfold Now.rs' Late.rs'; rw [htr']
  obtain ⟨b, hb⟩ := hs.be_real (∑ j, r2 j * r2 j) rs hrs
  refine ⟨r2, fun j => x j + ap * p j, q, ∑ j, r2 j * r2 j, b, a, Finset.sum_nonneg fun j _ => mul_self_nonneg _, hlr, hout, hp', hrs',
    ?_, hla, htr', htrs', ?_, ?_⟩
  · show s.be (l.rs' s A) l.rs = b
    rw [hrs', hlrs]; exact hb
  · funext j
    show t.r' s B j + s.be (t.rs' s B) t.rs * t.p j = l.r' s A j + s.be (l.rs' s A) l.rs * l.p' j
    rw [htr', htrs', htrs, htp]
  · funext j
    show t.x j + t.a s B * t.p j = l.out j + l.a s A * l.p' j
    rw [hla, hta, htx, htp]

/-- On finite data, with operators that agree with one operator on the reals whose form is not negative, the two recurrences
    reach the same iterate. -/
theorem out_eq_of_finite (hs : s.Good) (B : (J → EReal) → J → EReal) (M : (J → ℝ) → J → ℝ) (hA : ∀ u, A (up u) = up (M u)) (hB : ∀ u, B (up u) = up (M u))
    (hM : ∀ u, 0 ≤ ∑ j, u j * M u j) (b : J → ℝ) (n : ℕ) : (Late.run s A (up b) n).out = (Now.run s B (up b) n).x := by
  have h : Agree (Late.run s A (up b) n) (Now.run s B (up b) n) := by
    induction n with
    | zero => exact agree_init b
    | succ n ih => exact agree_next s A hs B M hA hB hM _ _ ih
  obtain ⟨_, _, _, _, _, _, _, _, _, _, _, _, _, _, _, _, h⟩ := h
  exact h.symm

/-! ## A right-hand side with an infinite entry -/

theorem dot_self_of_inf (b : J → EReal) (j : J) (h : Inf (b j)) : dot b b = ⊤ := by
  have h1 : b j * b j = ⊤ := by rcases h with h | h <;> rw [h] <;> simp
  refine top_unique (h1 ▸ ?_)
  exact Finset.single_le_sum (f := fun j => b j * b j) (fun i _ => mul_self_nonneg' (b i)) (Finset.mem_univ j)

theorem dot_inf (p q : J → EReal) (j : J) (hp : Inf (p j)) (hq : Inf (q j)) : Inf (dot p q) :=
  Inf.sum (i := j) (hp.mul_right hq.ne_zero)

theorem now_of_inf (hs : s.Good) (hA : ∀ u j, Inf (u j) → Inf (A u j)) (b : J → EReal) (j : J) (h : Inf (b j)) (n : ℕ) :
    Now.run s A b n = ⟨fun _ => 0, b, b, ⊤⟩ := by
  induction n with
  | zero => simp only [Now.run, Now.init, dot_self_of_inf b j h]
  | succ n ih =>
    rw [Now.run, ih]
    have ha : Now.a s A ⟨fun _ => 0, b, b, ⊤⟩ = 0 := hs.al_inf _ (dot_inf _ _ j h (hA b j h))
    have hr : Now.r' s A ⟨fun _ => 0, b, b, ⊤⟩ = b := by funext i; unfold Now.r'; rw [ha]; simp
    have hrs : Now.rs' s A ⟨fun _ => 0, b, b, ⊤⟩ = ⊤ := by unfold Now.rs'; rw [hr]; exact dot_self_of_inf b j h
    unfold Now.next
    rw [ha, hr, hrs, hs.be_inf]
    simp

theorem late_of_inf (hs : s.Good) (hA : ∀ u j, Inf (u j) → Inf (A u j)) (b : J → EReal) (j : J) (h : Inf (b j)) (n : ℕ) :
    ∃ p, Late.run s A b n = ⟨fun _ => 0, b, p, ⊤, 0, 0⟩ := by
  induction n with
  | zero => exact ⟨fun _ => 0, by simp only [Late.run, Late.init, dot_self_of_inf b j h]⟩
  | succ n ih =>
    obtain ⟨p, ih⟩ := ih
    refine ⟨b, ?_⟩
    rw [Late.run, ih]
    have hp : Late.p' ⟨fun _ => 0, b, p, ⊤, 0, 0⟩ = b := by funext i; simp [Late.p']
    have ha : Late.a s A ⟨fun _ => 0, b, p, ⊤, 0, 0⟩ = 0 := by
      unfold Late.a; rw [hp]; exact hs.al_inf _ (dot_inf _ _ j h (hA b j h))
    have hr : Late.r' s A ⟨fun _ => 0, b, p, ⊤, 0, 0⟩ = b := by funext i; unfold Late.r'; rw [ha]; simp
    have hrs : Late.rs' s A ⟨fun _ => 0, b, p, ⊤, 0, 0⟩ = ⊤ := by unfold Late.rs'; rw [hr]; exact dot_self_of_inf b j h
    unfold Late.next
    rw [ha, hp, hr, hrs, hs.be_inf]
    simp

/-- Where the two right-hand sides have an infinite entry each, both recurrences leave the iterate at zero. -/
theorem out_eq_of_inf (hs : s.Good) (B : (J → EReal) → J → EReal) (hA : ∀ u j, Inf (u j) → Inf (A u j)) (hB : ∀ u j, Inf (u j) → Inf (B u j))
    (b b' : J → EReal) (j j' : J) (h : Inf (b j)) (h' : Inf (b' j')) (n : ℕ) : (Late.run s A b n).out = (Now.run s B b' n).x := by
  obtain ⟨p, hp⟩ := late_of_inf s A hs hA b j h n
  rw [hp, now_of_inf s B hs hB b' j' h' n]
  funext i; simp [Late.out]

/-! ## A right-hand side of zeros -/

theorem now_of_zero (hA : A (fun _ => 0) = fun _ => 0) (n : ℕ) : Now.run s A (fun _ => 0) n = ⟨fun _ => 0, fun _ => 0, fun _ => 0, 0⟩ := by
  induction n with
  | zero => simp [Now.run, Now.init, dot]
  | succ n ih =>
    rw [Now.run, ih]
    have hr : Now.r' s A (⟨fun _ => 0, fun _ => 0, fun _ => 0, 0⟩ : Now J) = fun _ => 0 := by
      funext i; unfold Now.r'; rw [hA]; simp
    unfold Now.next Now.rs'
    rw [hr]
    simp [dot]

theorem late_of_zero (hA : A (fun _ => 0) = fun _ => 0) (n : ℕ) :
    ∃ b a, Late.run s A (fun _ => 0) n = ⟨fun _ => 0, fun _ => 0, fun _ => 0, 0, b, a⟩ := by
  induction n with
  | zero => exact ⟨0, 0, by simp [Late.run, Late.init, dot]⟩
  | succ n ih =>
    obtain ⟨b, a, ih⟩ := ih
    rw [Late.run, ih]
    have hp : Late.p' (⟨fun _ => 0, fun _ => 0, fun _ => 0, 0, b, a⟩ : Late J) = fun _ => 0 := by funext i; simp [Late.p']
    have hr : Late.r' s A (⟨fun _ => 0, fun _ => 0, fun _ => 0, 0, b, a⟩ : Late J) = fun _ => 0 := by
      funext i; unfold Late.r'; rw [hp, hA]; simp
    have hrs : Late.rs' s A (⟨fun _ => 0, fun _ => 0, fun _ => 0, 0, b, a⟩ : Late J) = 0 := by unfold Late.rs'; rw [hr]; simp [dot]
    refine ⟨s.be 0 0, Late.a s A ⟨fun _ => 0, fun _ => 0, fun _ => 0, 0, b, a⟩, ?_⟩
    unfold Late.next
    rw [hp, hr, hrs]
    simp

/-- Where the right-hand sides are zero, both recurrences leave the iterate at zero. -/
theorem out_eq_of_zero (B : (J → EReal) → J → EReal) (hA : A (fun _ => 0) = fun _ => 0) (hB : B (fun _ => 0) = fun _ => 0) (n : ℕ) :
    (Late.run s A (fun _ => 0) n).out = (Now.run s B (fun _ => 0) n).x := by
  obtain ⟨b, a, h⟩ := late_of_zero s A hA n
  rw [h, now_of_zero s B hB n]
  funext i; simp [Late.out]

end Cert.Proof.ConjGrad
end
-- ==== Proof.Hand.Stencil.lean ====
/- The stencil along a row of 768 numbers, on the extended reals, in the two forms the programs use: a sum of rolled copies of the
   row, and a product of a window of the row with a band of weights. On finite data both are one operator on the reals, and that
   operator is symmetric; the system the programs solve and its right-hand side follow. -/
module

public import proofs.«01_k».proof.Proof.Hand.ConjGrad
public import Mathlib.Data.Fintype.BigOperators

@[expose] public section
noncomputable section

namespace Cert.Proof.Stencil
open Cert.Proof.ConjGrad

/-- The distances the stencil reaches, in order. -/
def dist : Fin 11 → ℕ := ![1, 2, 3, 4, 5, 6, 8, 10, 12, 16, 20]

theorem dist_pos (i : Fin 11) : 1 ≤ dist i := by fin_cases i <;> decide
theorem dist_le (i : Fin 11) : dist i ≤ 20 := by fin_cases i <;> decide

/-- The column `k` before, and `k` after, column `d`, around the row's end. -/
def back (k : ℕ) (d : Fin 768) : Fin 768 := ⟨(d.val + (768 - k)) % 768, Nat.mod_lt _ (by decide)⟩
def fwd (k : ℕ) (d : Fin 768) : Fin 768 := ⟨(d.val + k) % 768, Nat.mod_lt _ (by decide)⟩

/-- The stencil as a sum of rolled copies. -/
def rolled (c : Fin 11 → EReal) (u : Fin 768 → EReal) (d : Fin 768) : EReal :=
  (∑ i, c i * (u (back (dist i) d) + u (fwd (dist i) d))) - ((2 : ℝ) : EReal) * (∑ i, c i) * u d

/-- Column `k` of the window that serves column `d`, and the place in the weights' row it meets. -/
def win (d : Fin 768) (k : Fin 512) : Fin 768 := ⟨(d.val / 256 * 256 + k.val + 640) % 768, Nat.mod_lt _ (by decide)⟩
def off (l : ℕ) (k : Fin 512) : Fin 768 := ⟨(k.val + 640 - l) % 768, Nat.mod_lt _ (by decide)⟩

/-- The weights' row: a coefficient at its distance and at the distance's mirror image, and the diagonal at zero. -/
def row (c : Fin 11 → EReal) (e : Fin 768) : EReal :=
  (∑ i, ((if e.val = dist i then c i else 0) + (if e.val = 768 - dist i then c i else 0))) + (if e.val = 0 then ((-2 : ℝ) : EReal) * ∑ i, c i else 0)

/-- The product of the window with a band of weights given in two parts, the row itself in two parts. -/
def band (hi lo : Fin 512 → Fin 256 → EReal) (u : Fin 768 → EReal) (d : Fin 768) : EReal :=
  ((∑ k, u (win d k) * hi k ⟨d.val % 256, Nat.mod_lt _ (by decide)⟩) + (∑ k, u (win d k) * lo k ⟨d.val % 256, Nat.mod_lt _ (by decide)⟩)) +
    ∑ k, (u (win d k) - u (win d k)) * hi k ⟨d.val % 256, Nat.mod_lt _ (by decide)⟩

/-- The stencil as the product with the band made of the weights' row. -/
def banded (c : Fin 11 → EReal) : (Fin 768 → EReal) → Fin 768 → EReal :=
  band (fun k l => row c (off l.val k)) (fun k l => row c (off l.val k) - row c (off l.val k))

/-! ## On the reals -/

/-- The stencil on the reals. -/
def real (c : Fin 11 → ℝ) (u : Fin 768 → ℝ) (d : Fin 768) : ℝ :=
  (∑ i, c i * (u (back (dist i) d) + u (fwd (dist i) d))) - 2 * (∑ i, c i) * u d

theorem rolled_up (c : Fin 11 → ℝ) (u : Fin 768 → ℝ) : rolled (up c) (up u) = up (real c u) := by
  funext d
  simp only [rolled, real, up, EReal.coe_sub, EReal.coe_mul, coe_sum, EReal.coe_add]

theorem row_up (c : Fin 11 → ℝ) (e : Fin 768) : row (up c) e =
    (((∑ i, ((if e.val = dist i then c i else 0) + (if e.val = 768 - dist i then c i else 0))) + (if e.val = 0 then -2 * ∑ i, c i else 0) : ℝ) : EReal) := by
  rw [EReal.coe_add, coe_sum]
  unfold row
  congr 1
  · refine Finset.sum_congr rfl fun i _ => ?_
    rw [EReal.coe_add]
    congr 1 <;> split_ifs <;> simp [up]
  · split_ifs
    · rw [EReal.coe_mul, coe_sum]; rfl
    · simp

/-- The one column of the window that meets a place not far after the weights' middle. -/
theorem sum_fwd (u : Fin 768 → ℝ) (d : Fin 768) (o : ℕ) (ho : o ≤ 20) (a : ℝ) :
    ∑ k : Fin 512, u (win d k) * (if (off (d.val % 256) k).val = o then a else 0) = a * u (fwd o d) := by
  have hl : d.val % 256 < 256 := Nat.mod_lt _ (by decide)
  have hd := d.isLt
  rw [Finset.sum_eq_single (⟨d.val % 256 + 128 + o, by omega⟩ : Fin 512)]
  · rw [if_pos (show (off (d.val % 256) _).val = o by simp only [off]; omega), mul_comm]
    congr 2
    refine Fin.ext ?_
    show (d.val / 256 * 256 + (d.val % 256 + 128 + o) + 640) % 768 = (d.val + o) % 768
    omega
  · intro k _ hk
    have hk' : k.val ≠ d.val % 256 + 128 + o := fun h => hk (Fin.ext h)
    have := k.isLt
    rw [if_neg (show ¬ (off (d.val % 256) k).val = o by simp only [off]; omega), mul_zero]
  · intro h; exact absurd (Finset.mem_univ _) h

/-- The one column of the window that meets a place not far before the weights' middle. -/
theorem sum_back (u : Fin 768 → ℝ) (d : Fin 768) (o : ℕ) (h1 : 1 ≤ o) (ho : o ≤ 20) (a : ℝ) :
    ∑ k : Fin 512, u (win d k) * (if (off (d.val % 256) k).val = 768 - o then a else 0) = a * u (back o d) := by
  have hl : d.val % 256 < 256 := Nat.mod_lt _ (by decide)
  have hd := d.isLt
  rw [Finset.sum_eq_single (⟨d.val % 256 + 128 - o, by omega⟩ : Fin 512)]
  · rw [if_pos (show (off (d.val % 256) _).val = 768 - o by simp only [off]; omega), mul_comm]
    congr 2
    refine Fin.ext ?_
    show (d.val / 256 * 256 + (d.val % 256 + 128 - o) + 640) % 768 = (d.val + (768 - o)) % 768
    omega
  · intro k _ hk
    have hk' : k.val ≠ d.val % 256 + 128 - o := fun h => hk (Fin.ext h)
    have := k.isLt
    rw [if_neg (show ¬ (off (d.val % 256) k).val = 768 - o by simp only [off]; omega), mul_zero]
  · intro h; exact absurd (Finset.mem_univ _) h

theorem banded_up (c : Fin 11 → ℝ) (u : Fin 768 → ℝ) : banded (up c) (up u) = up (real c u) := by
  funext d
  have hz : ∀ x : ℝ, (x : EReal) - (x : EReal) = 0 := fun x => by rw [← EReal.coe_sub, sub_self]; rfl
  have h1 : ∀ k : Fin 512, up u (win d k) * (row (up c) (off (d.val % 256) k) - row (up c) (off (d.val % 256) k)) = 0 := fun k => by
    rw [row_up, hz, mul_zero]
  have h2 : ∀ k : Fin 512, (up u (win d k) - up u (win d k)) * row (up c) (off (d.val % 256) k) = 0 := fun k => by
    rw [show up u (win d k) - up u (win d k) = 0 from hz _, zero_mul]
  show (((∑ k, up u (win d k) * row (up c) (off (d.val % 256) k)) +
    (∑ k, up u (win d k) * (row (up c) (off (d.val % 256) k) - row (up c) (off (d.val % 256) k)))) +
    ∑ k, (up u (win d k) - up u (win d k)) * row (up c) (off (d.val % 256) k)) = _
  rw [Finset.sum_congr rfl fun k _ => h1 k, Finset.sum_congr rfl fun k _ => h2 k, Finset.sum_const_zero, add_zero, add_zero]
  have h3 : ∀ k : Fin 512, up u (win d k) * row (up c) (off (d.val % 256) k) = ((u (win d k) *
      ((∑ i, ((if (off (d.val % 256) k).val = dist i then c i else 0) + (if (off (d.val % 256) k).val = 768 - dist i then c i else 0))) +
        (if (off (d.val % 256) k).val = 0 then -2 * ∑ i, c i else 0)) : ℝ) : EReal) := fun k => by
    rw [row_up, EReal.coe_mul]; rfl
  rw [Finset.sum_congr rfl fun k _ => h3 k, ← coe_sum]
  show _ = ((real c u d : ℝ) : EReal)
  congr 1
  simp only [mul_add, Finset.sum_add_distrib, Finset.mul_sum]
  rw [← Finset.mul_sum]
  rw [Finset.sum_comm, Finset.sum_comm (f := fun k i => u (win d k) * (if (off (d.val % 256) k).val = 768 - dist i then c i else 0))]
  rw [Finset.sum_congr rfl fun i _ => sum_fwd u d (dist i) (dist_le i) (c i), Finset.sum_congr rfl fun i _ => sum_back u d (dist i) (dist_pos i) (dist_le i) (c i),
    sum_fwd u d 0 (by omega)]
  have h0 : fwd 0 d = d := Fin.ext (by show (d.val + 0) % 768 = d.val; have := d.isLt; omega)
  rw [h0]
  unfold real
  simp only [mul_add, Finset.sum_add_distrib]
  ring

theorem back_fwd (k : ℕ) (hk : k ≤ 20) (d : Fin 768) : back k (fwd k d) = d := Fin.ext (by
  show ((d.val + k) % 768 + (768 - k)) % 768 = d.val
  have := d.isLt; omega)

theorem fwd_back (k : ℕ) (hk : k ≤ 20) (d : Fin 768) : fwd k (back k d) = d := Fin.ext (by
  show ((d.val + (768 - k)) % 768 + k) % 768 = d.val
  have := d.isLt; omega)

/-- Moving a roll from one factor to the other. -/
theorem sum_roll (k : ℕ) (hk : k ≤ 20) (u v : Fin 768 → ℝ) : ∑ d, u d * v (back k d) = ∑ d, u (fwd k d) * v d :=
  Fintype.sum_equiv ⟨back k, fwd k, fwd_back k hk, back_fwd k hk⟩ _ _ fun d => by
    show u d * v (back k d) = u (fwd k (back k d)) * v (back k d)
    rw [fwd_back k hk]

/-- The stencil is symmetric. -/
theorem real_symm (c : Fin 11 → ℝ) (u v : Fin 768 → ℝ) : ∑ d, u d * real c v d = ∑ d, v d * real c u d := by
  have key : ∀ u v : Fin 768 → ℝ, ∑ d, u d * real c v d =
      (∑ i, c i * ((∑ d, u d * v (back (dist i) d)) + ∑ d, u d * v (fwd (dist i) d))) - 2 * (∑ i, c i) * ∑ d, u d * v d := by
    intro u v
    simp only [real, mul_sub, Finset.sum_sub_distrib]
    congr 1
    · simp only [Finset.mul_sum, ← Finset.sum_add_distrib]
      rw [Finset.sum_comm]
      refine Finset.sum_congr rfl fun i _ => Finset.sum_congr rfl fun d _ => by ring
    · generalize (∑ i, c i) = t
      rw [Finset.mul_sum]
      exact Finset.sum_congr rfl fun d _ => by ring
  rw [key, key]
  congr 1
  · refine Finset.sum_congr rfl fun i _ => ?_
    rw [sum_roll _ (dist_le i) u v, sum_roll _ (dist_le i) v u, add_comm]
    congr 2 <;> exact Finset.sum_congr rfl fun d _ => mul_comm _ _
  · congr 1
    exact Finset.sum_congr rfl fun d _ => mul_comm _ _

/-! ## Off the reals -/

theorem rolled_zero (c : Fin 11 → EReal) : rolled c (fun _ => 0) = fun _ => 0 := by
  funext d; simp [rolled]

theorem band_zero (hi lo : Fin 512 → Fin 256 → EReal) : band hi lo (fun _ => 0) = fun _ => 0 := by
  funext d; simp [band]

theorem banded_zero (c : Fin 11 → EReal) : banded c (fun _ => 0) = fun _ => 0 := band_zero _ _

/-- With an infinite coefficient the stencil is infinite wherever the row is not zero. -/
theorem rolled_inf (c : Fin 11 → EReal) (i : Fin 11) (h : Inf (c i)) (u : Fin 768 → EReal) (d : Fin 768) (hd : u d ≠ 0) : Inf (rolled c u d) :=
  Inf.sub_left ((Inf.mul_left (Inf.sum h) (by norm_num)).mul_right hd) _

theorem banded_inf (c : Fin 11 → EReal) (i : Fin 11) (h : Inf (c i)) (u : Fin 768 → EReal) (d : Fin 768) (hd : u d ≠ 0) : Inf (banded c u d) := by
  have hl : d.val % 256 < 256 := Nat.mod_lt _ (by decide)
  have hd' := d.isLt
  have hw : win d ⟨d.val % 256 + 128, by omega⟩ = d := Fin.ext (by
    show (d.val / 256 * 256 + (d.val % 256 + 128) + 640) % 768 = d.val
    omega)
  have ho : (off (d.val % 256) ⟨d.val % 256 + 128, by omega⟩).val = 0 := by
    show (d.val % 256 + 128 + 640 - d.val % 256) % 768 = 0
    omega
  refine Inf.add_right (Inf.add_right (Inf.sum (i := ⟨d.val % 256 + 128, by omega⟩) ?_) _) _
  rw [hw]
  refine Inf.mul_left ?_ hd
  show Inf (row c (off (d.val % 256) ⟨d.val % 256 + 128, by omega⟩))
  unfold row
  rw [if_pos ho]
  exact Inf.add_left (Inf.mul_left (Inf.sum h) (by norm_num)) _

/-! ## The system -/

/-- A row, a column, and the real or the imaginary part. -/
abbrev J : Type := Fin 2048 × Fin 768 × Fin 2

/-- The operator of the system: each part, moved by a multiple `h` of the stencil of the other part. -/
def sys (H : (Fin 768 → EReal) → Fin 768 → EReal) (h : EReal) (u : J → EReal) (j : J) : EReal :=
  if j.2.2 = 0 then u (j.1, j.2.1, 0) - h * H (fun e => u (j.1, e, 1)) j.2.1 else u (j.1, j.2.1, 1) + h * H (fun e => u (j.1, e, 0)) j.2.1

/-- The right-hand side of the system from the rotated wave function. -/
def rhs (H : (Fin 768 → EReal) → Fin 768 → EReal) (h : EReal) (u : J → EReal) (j : J) : EReal :=
  if j.2.2 = 0 then u (j.1, j.2.1, 0) + h * H (fun e => u (j.1, e, 1)) j.2.1 else u (j.1, j.2.1, 1) - h * H (fun e => u (j.1, e, 0)) j.2.1

def sysReal (c : Fin 11 → ℝ) (h : ℝ) (u : J → ℝ) (j : J) : ℝ :=
  if j.2.2 = 0 then u (j.1, j.2.1, 0) - h * real c (fun e => u (j.1, e, 1)) j.2.1 else u (j.1, j.2.1, 1) + h * real c (fun e => u (j.1, e, 0)) j.2.1

def rhsReal (c : Fin 11 → ℝ) (h : ℝ) (u : J → ℝ) (j : J) : ℝ :=
  if j.2.2 = 0 then u (j.1, j.2.1, 0) + h * real c (fun e => u (j.1, e, 1)) j.2.1 else u (j.1, j.2.1, 1) - h * real c (fun e => u (j.1, e, 0)) j.2.1

variable (H : (Fin 768 → EReal) → Fin 768 → EReal)

theorem sys_up (c : Fin 11 → ℝ) (hH : ∀ u, H (up u) = up (real c u)) (h : ℝ) (u : J → ℝ) : sys H h (up u) = up (sysReal c h u) := by
  funext j
  have e : ∀ (a : Fin 2) (d : Fin 768), H (fun e => up u (j.1, e, a)) d = ((real c (fun e => u (j.1, e, a)) d : ℝ) : EReal) := fun a d =>
    congrFun (hH fun e => u (j.1, e, a)) d
  simp only [sys, e]
  by_cases hj : j.2.2 = 0
  · simp only [up, sysReal, hj, if_true, EReal.coe_sub, EReal.coe_mul]
  · simp only [up, sysReal, hj, if_false, EReal.coe_add, EReal.coe_mul]

theorem rhs_up (c : Fin 11 → ℝ) (hH : ∀ u, H (up u) = up (real c u)) (h : ℝ) (u : J → ℝ) : rhs H h (up u) = up (rhsReal c h u) := by
  funext j
  have e : ∀ (a : Fin 2) (d : Fin 768), H (fun e => up u (j.1, e, a)) d = ((real c (fun e => u (j.1, e, a)) d : ℝ) : EReal) := fun a d =>
    congrFun (hH fun e => u (j.1, e, a)) d
  simp only [rhs, e]
  by_cases hj : j.2.2 = 0
  · simp only [up, rhsReal, hj, if_true, EReal.coe_add, EReal.coe_mul]
  · simp only [up, rhsReal, hj, if_false, EReal.coe_sub, EReal.coe_mul]

/-- The system's form is the sum of squares: what the stencil adds to one part it takes from the other. -/
theorem sysReal_form (c : Fin 11 → ℝ) (h : ℝ) (u : J → ℝ) : 0 ≤ ∑ j, u j * sysReal c h u j := by
  have e : ∑ j, u j * sysReal c h u j = ∑ n, ((∑ d, u (n, d, 0) * u (n, d, 0)) + (∑ d, u (n, d, 1) * u (n, d, 1)) +
      h * ((∑ d, u (n, d, 1) * real c (fun e => u (n, e, 0)) d) - ∑ d, u (n, d, 0) * real c (fun e => u (n, e, 1)) d)) := by
    rw [Fintype.sum_prod_type]
    refine Finset.sum_congr rfl fun n _ => ?_
    rw [Fintype.sum_prod_type, ← Finset.sum_sub_distrib, Finset.mul_sum, ← Finset.sum_add_distrib, ← Finset.sum_add_distrib]
    refine Finset.sum_congr rfl fun d _ => ?_
    rw [Fin.sum_univ_two]
    simp only [sysReal, if_true, one_ne_zero, if_false]
    ring
  rw [e]
  refine Finset.sum_nonneg fun n _ => ?_
  rw [real_symm c (fun d => u (n, d, 1)) fun d => u (n, d, 0), sub_self, mul_zero, add_zero]
  exact add_nonneg (Finset.sum_nonneg fun d _ => mul_self_nonneg _) (Finset.sum_nonneg fun d _ => mul_self_nonneg _)

theorem sys_inf (h : EReal) (u : J → EReal) (j : J) (hj : Inf (u j)) : Inf (sys H h u j) := by
  obtain ⟨n, d, a⟩ := j
  fin_cases a
  · exact Inf.sub_right hj _
  · exact Inf.add_right hj _

theorem sys_zero (h : EReal) (hH : H (fun _ => 0) = fun _ => 0) : sys H h (fun _ => 0) = fun _ => 0 := by
  funext j; simp [sys, hH]

theorem rhs_zero (h : EReal) (hH : H (fun _ => 0) = fun _ => 0) : rhs H h (fun _ => 0) = fun _ => 0 := by
  funext j; simp [rhs, hH]

theorem rhs_inf (h : EReal) (u : J → EReal) (j : J) (hj : Inf (u j)) : Inf (rhs H h u j) := by
  obtain ⟨n, d, a⟩ := j
  fin_cases a
  · exact Inf.add_right hj _
  · exact Inf.sub_right hj _

/-- Where the stencil is infinite wherever its row is not zero, the right-hand side of data that is not zero has an infinite entry. -/
theorem rhs_inf_of (h : EReal) (h0 : h ≠ 0) (hH : ∀ u d, u d ≠ 0 → Inf (H u d)) (u : J → EReal) (j : J) (hj : u j ≠ 0) : ∃ i, Inf (rhs H h u i) := by
  obtain ⟨n, d, a⟩ := j
  fin_cases a
  · exact ⟨(n, d, 1), Inf.sub_left (Inf.mul_left (hH (fun e => u (n, e, 0)) d hj) h0) _⟩
  · exact ⟨(n, d, 0), Inf.add_left (Inf.mul_left (hH (fun e => u (n, e, 1)) d hj) h0) _⟩

/-- The two programs' solutions agree: the recurrence that defers its moves, run with the banded stencil, and the one that does
    not, run with the rolled stencil, reach the same iterate from every wave function and all coefficients. -/
theorem solution_eq (s : Rule) (hs : s.Good) (c : Fin 11 → EReal) (h : ℝ) (h0 : h ≠ 0) (u : J → EReal) (n : ℕ) :
    (Late.run s (sys (banded c) h) (rhs (banded c) h u) n).out = (Now.run s (sys (rolled c) h) (rhs (rolled c) h u) n).x := by
  have h0' : (h : EReal) ≠ 0 := by simpa using h0
  by_cases hz : u = fun _ => 0
  · rw [hz, rhs_zero _ _ (banded_zero c), rhs_zero _ _ (rolled_zero c)]
    exact out_eq_of_zero s _ _ (sys_zero _ _ (banded_zero c)) (sys_zero _ _ (rolled_zero c)) n
  · obtain ⟨j, hj⟩ : ∃ j, u j ≠ 0 := by
      by_contra hn; push Not at hn; exact hz (funext hn)
    by_cases hu : ∃ j, Inf (u j)
    · obtain ⟨i, hi⟩ := hu
      exact out_eq_of_inf s _ hs _ (fun u j => sys_inf _ _ u j) (fun u j => sys_inf _ _ u j) _ _ i i (rhs_inf _ _ u i hi) (rhs_inf _ _ u i hi) n
    · by_cases hc : ∃ i, Inf (c i)
      · obtain ⟨i, hi⟩ := hc
        obtain ⟨a, ha⟩ := rhs_inf_of (banded c) h h0' (fun u d => banded_inf c i hi u d) u j hj
        obtain ⟨b, hb⟩ := rhs_inf_of (rolled c) h h0' (fun u d => rolled_inf c i hi u d) u j hj
        exact out_eq_of_inf s _ hs _ (fun u j => sys_inf _ _ u j) (fun u j => sys_inf _ _ u j) _ _ a b ha hb n
      · push Not at hu hc
        choose v hv using fun j => not_inf (hu j)
        choose w hw using fun i => not_inf (hc i)
        obtain rfl : u = up v := funext hv
        obtain rfl : c = up w := funext hw
        rw [rhs_up _ w (banded_up w), rhs_up _ w (rolled_up w)]
        exact out_eq_of_finite s _ hs _ (sysReal w h) (sys_up _ w (banded_up w) h) (sys_up _ w (rolled_up w) h) (sysReal_form w h) _ n

/-- The two right-hand sides have the same square norm. -/
theorem norm_eq (c : Fin 11 → EReal) (h : ℝ) (h0 : h ≠ 0) (u : J → EReal) :
    dot (rhs (banded c) h u) (rhs (banded c) h u) = dot (rhs (rolled c) h u) (rhs (rolled c) h u) := by
  have h0' : (h : EReal) ≠ 0 := by simpa using h0
  by_cases hz : u = fun _ => 0
  · rw [hz, rhs_zero _ _ (banded_zero c), rhs_zero _ _ (rolled_zero c)]
  · obtain ⟨j, hj⟩ : ∃ j, u j ≠ 0 := by
      by_contra hn; push Not at hn; exact hz (funext hn)
    by_cases hu : ∃ j, Inf (u j)
    · obtain ⟨i, hi⟩ := hu
      rw [dot_self_of_inf _ i (rhs_inf _ _ u i hi), dot_self_of_inf _ i (rhs_inf _ _ u i hi)]
    · by_cases hc : ∃ i, Inf (c i)
      · obtain ⟨i, hi⟩ := hc
        obtain ⟨a, ha⟩ := rhs_inf_of (banded c) h h0' (fun u d => banded_inf c i hi u d) u j hj
        obtain ⟨b, hb⟩ := rhs_inf_of (rolled c) h h0' (fun u d => rolled_inf c i hi u d) u j hj
        rw [dot_self_of_inf _ a ha, dot_self_of_inf _ b hb]
      · push Not at hu hc
        choose v hv using fun j => not_inf (hu j)
        choose w hw using fun i => not_inf (hc i)
        obtain rfl : u = up v := funext hv
        obtain rfl : c = up w := funext hw
        rw [rhs_up _ w (banded_up w), rhs_up _ w (rolled_up w)]

end Cert.Proof.Stencil
end
-- ==== Proof.Hand.Consts.lean ====
/- What the two programs' formulas share: their numbers, the stencil's coefficients from the three weights, and the rule for the
   two scalars of a conjugate-gradient step. -/
module

public import proofs.«01_k».proof.Proof.Hand.Stencil
public import Idealize.ShloMosaic.Lib.Pointwise

@[expose] public section
noncomputable section

namespace Cert.Proof.Consts
open Idealize.ShloMosaic Cert.Proof.ConjGrad Cert.Proof.Stencil

/-- Half a time step, the guard of the denominators, and the tolerance. -/
def half : EReal := Ideal.ofBits .f32 0x3D4CCCCD#32
def eps : EReal := Ideal.ofBits .f32 0x0DA24260#32
def tol : EReal := Ideal.ofBits .f32 0x358637BD#32

/-- The value of a normal single-precision pattern, from its three fields. -/
theorem ofBits_normal (b : BitVec 32) (x f : ℕ) (n : Bool) (hn : (b.extractLsb' 31 1 == 1#1) = n) (hx : (b.extractLsb' 23 8).toNat = x)
    (hf : (b.extractLsb' 0 23).toNat = f) (h1 : x ≠ 255) (h0 : x ≠ 0) :
    Ideal.ofBits .f32 b = (((if n then -1 else 1) * ((2 ^ 23 + f : ℕ) : ℝ) * (2 : ℝ) ^ ((x : ℤ) - 127 - 23) : ℝ) : EReal) := by
  show Ideal.ieee 8 23 b = _
  unfold Ideal.ieee
  simp only [hn, hx, hf]
  rw [if_neg (by simpa using h1), if_neg h0]
  norm_num

theorem two_eq : Ideal.ofBits .f32 0x40000000#32 = ((2 : ℝ) : EReal) := by
  rw [ofBits_normal _ 128 0 false (by decide) (by decide) (by decide) (by decide) (by decide)]
  congr 1; norm_num

theorem negTwo_eq : Ideal.ofBits .f32 0xC0000000#32 = ((-2 : ℝ) : EReal) := by
  rw [ofBits_normal _ 128 0 true (by decide) (by decide) (by decide) (by decide) (by decide)]
  congr 1; norm_num

theorem half_real : ∃ h : ℝ, h ≠ 0 ∧ half = h := by
  refine ⟨_, ?_, ofBits_normal _ 122 5033165 false (by decide) (by decide) (by decide) (by decide) (by decide)⟩
  simp

theorem eps_real : ∃ e : ℝ, 0 < e ∧ eps = e := by
  refine ⟨_, ?_, ofBits_normal _ 27 2245216 false (by decide) (by decide) (by decide) (by decide) (by decide)⟩
  simp only [Bool.false_eq_true, if_false]; positivity

/-- The stencil's coefficients, in the order of the distances. -/
def coef (w : Fin 3 → EReal) : Fin 11 → EReal :=
  ![Ideal.div (w 0) 1, Ideal.div (w 0) (Ideal.ofBits .f32 0x40000000#32) + Ideal.div (w 1) 1,
    Ideal.div (w 0) (Ideal.ofBits .f32 0x40400000#32),
    Ideal.div (w 0) (Ideal.ofBits .f32 0x40800000#32) + Ideal.div (w 1) (Ideal.ofBits .f32 0x40000000#32) + Ideal.div (w 2) 1,
    Ideal.div (w 0) (Ideal.ofBits .f32 0x40A00000#32), Ideal.div (w 1) (Ideal.ofBits .f32 0x40400000#32),
    Ideal.div (w 1) (Ideal.ofBits .f32 0x40800000#32) + Ideal.div (w 2) (Ideal.ofBits .f32 0x40000000#32),
    Ideal.div (w 1) (Ideal.ofBits .f32 0x40A00000#32), Ideal.div (w 2) (Ideal.ofBits .f32 0x40400000#32),
    Ideal.div (w 2) (Ideal.ofBits .f32 0x40800000#32), Ideal.div (w 2) (Ideal.ofBits .f32 0x40A00000#32)]

theorem sum_eleven (f : Fin 11 → EReal) : ∑ i, f i = f 0 + f 1 + f 2 + f 3 + f 4 + f 5 + f 6 + f 7 + f 8 + f 9 + f 10 := by
  simp only [Fin.sum_univ_castSucc, Fin.sum_univ_zero, zero_add]; rfl

/-- The rolled stencil with its sums written out. -/
theorem rolled_eq (c : Fin 11 → EReal) (u : Fin 768 → EReal) (d : Fin 768) : rolled c u d =
    (c 0 * (u (back 1 d) + u (fwd 1 d)) + c 1 * (u (back 2 d) + u (fwd 2 d)) + c 2 * (u (back 3 d) + u (fwd 3 d)) +
      c 3 * (u (back 4 d) + u (fwd 4 d)) + c 4 * (u (back 5 d) + u (fwd 5 d)) + c 5 * (u (back 6 d) + u (fwd 6 d)) +
      c 6 * (u (back 8 d) + u (fwd 8 d)) + c 7 * (u (back 10 d) + u (fwd 10 d)) + c 8 * (u (back 12 d) + u (fwd 12 d)) +
      c 9 * (u (back 16 d) + u (fwd 16 d)) + c 10 * (u (back 20 d) + u (fwd 20 d))) -
    Ideal.ofBits .f32 0x40000000#32 * (c 0 + c 1 + c 2 + c 3 + c 4 + c 5 + c 6 + c 7 + c 8 + c 9 + c 10) * u d := by
  rw [two_eq]; unfold rolled; rw [sum_eleven, sum_eleven]; rfl

/-- A row rolled by `768 - k`, put together from its last `k` and its first `e` entries. -/
def pieces (u : Fin 768 → EReal) (k e : ℕ) (h : k + e = 768) (d : Fin 768) : EReal :=
  if hd : d.val < k then u ⟨e + d.val, by omega⟩ else u ⟨d.val - k, by omega⟩

theorem pieces_back (u : Fin 768 → EReal) (k e : ℕ) (h : k + e = 768) (d : Fin 768) : u (back k d) = pieces u k e h d := by
  have hd := d.isLt
  unfold pieces
  split_ifs with hk <;> refine congrArg u (Fin.ext ?_)
  · show (d.val + (768 - k)) % 768 = e + d.val; omega
  · show (d.val + (768 - k)) % 768 = d.val - k; omega

theorem pieces_fwd (u : Fin 768 → EReal) (k e : ℕ) (h : e + k = 768) (d : Fin 768) : u (fwd k d) = pieces u e k h d := by
  have hd := d.isLt
  unfold pieces
  split_ifs with hk <;> refine congrArg u (Fin.ext ?_)
  · show (d.val + k) % 768 = k + d.val; omega
  · show (d.val + k) % 768 = d.val - e; omega

/-- The rolled stencil over the rows put together from pieces. -/
theorem rolled_pieces (c : Fin 11 → EReal) (u : Fin 768 → EReal) (d : Fin 768) : rolled c u d =
    (c 0 * (pieces u 1 767 rfl d + pieces u 767 1 rfl d) + c 1 * (pieces u 2 766 rfl d + pieces u 766 2 rfl d) +
      c 2 * (pieces u 3 765 rfl d + pieces u 765 3 rfl d) + c 3 * (pieces u 4 764 rfl d + pieces u 764 4 rfl d) +
      c 4 * (pieces u 5 763 rfl d + pieces u 763 5 rfl d) + c 5 * (pieces u 6 762 rfl d + pieces u 762 6 rfl d) +
      c 6 * (pieces u 8 760 rfl d + pieces u 760 8 rfl d) + c 7 * (pieces u 10 758 rfl d + pieces u 758 10 rfl d) +
      c 8 * (pieces u 12 756 rfl d + pieces u 756 12 rfl d) + c 9 * (pieces u 16 752 rfl d + pieces u 752 16 rfl d) +
      c 10 * (pieces u 20 748 rfl d + pieces u 748 20 rfl d)) -
    Ideal.ofBits .f32 0x40000000#32 * (c 0 + c 1 + c 2 + c 3 + c 4 + c 5 + c 6 + c 7 + c 8 + c 9 + c 10) * u d := by
  rw [rolled_eq]
  simp only [pieces_back u 1 767 rfl, pieces_back u 2 766 rfl, pieces_back u 3 765 rfl, pieces_back u 4 764 rfl, pieces_back u 5 763 rfl,
    pieces_back u 6 762 rfl, pieces_back u 8 760 rfl, pieces_back u 10 758 rfl, pieces_back u 12 756 rfl, pieces_back u 16 752 rfl,
    pieces_back u 20 748 rfl, pieces_fwd u 1 767 rfl, pieces_fwd u 2 766 rfl, pieces_fwd u 3 765 rfl, pieces_fwd u 4 764 rfl,
    pieces_fwd u 5 763 rfl, pieces_fwd u 6 762 rfl, pieces_fwd u 8 760 rfl, pieces_fwd u 10 758 rfl, pieces_fwd u 12 756 rfl,
    pieces_fwd u 16 752 rfl, pieces_fwd u 20 748 rfl]

/-- The angle a position is turned by: its intensity over its row's mean intensity, times the column's strength. -/
def turn (a b : Fin 2048 → Fin 768 → EReal) (s : Fin 768 → EReal) (n : Fin 2048) (d : Fin 768) : EReal :=
  s d * Ideal.div (a n d * a n d + b n d * b n d)
    (Ideal.div (∑ x, (a n x * a n x + b n x * b n x)) (Ideal.ofBits .f32 0x44400000#32) + Ideal.ofBits .f32 0x322BCC77#32)

/-- The field after the turn, its two parts side by side. -/
def rot (a b : Fin 2048 → Fin 768 → EReal) (s : Fin 768 → EReal) (j : J) : EReal :=
  if j.2.2 = 0 then a j.1 j.2.1 * Ideal.cos (turn a b s j.1 j.2.1) - b j.1 j.2.1 * Ideal.sin (turn a b s j.1 j.2.1)
  else a j.1 j.2.1 * Ideal.sin (turn a b s j.1 j.2.1) + b j.1 j.2.1 * Ideal.cos (turn a b s j.1 j.2.1)

/-- The rule for the two scalars: both zero once the residual is below the tolerance times `thr`. -/
def rule (thr : EReal) : Rule where
  al rs den := if Ideal.sqrt rs < tol * thr then 0 else Ideal.div rs (den + eps)
  be rs' rs := if Ideal.sqrt rs < tol * thr then 0 else Ideal.div rs' (rs + eps)

theorem div_real (a d : ℝ) (hd : 0 ≤ d) : ∃ q : ℝ, Ideal.div a (d + eps) = q := by
  obtain ⟨e, he, h⟩ := eps_real
  refine ⟨a * (1 / (d + e)), ?_⟩
  rw [h, ← EReal.coe_add, Ideal.div_coe (by positivity), EReal.coe_mul]

theorem div_inf (d : EReal) (hd : Inf d) : Ideal.div ⊤ (d + eps) = 0 := by
  unfold Ideal.div
  rcases hd.add_right eps with h | h <;> rw [h] <;> simp

/-- The programs' rule meets what the recurrences ask of it. -/
theorem rule_good (thr : EReal) : (rule thr).Good where
  al_real rs den h := by
    unfold rule
    by_cases hc : Ideal.sqrt rs < tol * thr
    · exact ⟨0, by simp only [if_pos hc, EReal.coe_zero]⟩
    · simpa only [if_neg hc] using div_real rs den h
  be_real rs' rs h := by
    unfold rule
    by_cases hc : Ideal.sqrt rs < tol * thr
    · exact ⟨0, by simp only [if_pos hc, EReal.coe_zero]⟩
    · simpa only [if_neg hc] using div_real rs' rs h
  al_inf den h := by
    unfold rule
    by_cases hc : Ideal.sqrt ⊤ < tol * thr
    · simp only [if_pos hc]
    · simpa only [if_neg hc] using div_inf den h
  be_inf := by
    unfold rule
    by_cases hc : Ideal.sqrt ⊤ < tol * thr
    · simp only [if_pos hc]
    · simpa only [if_neg hc] using div_inf ⊤ (Or.inl rfl)

end Cert.Proof.Consts
end
-- ==== Proof.Hand.KernelVal.lean ====
/- The kernels' arithmetic over the extended reals: one iteration of the second kernel is a step of the late recurrence with the
   banded stencil, and the first kernel's results are the right-hand side. -/
module

public import proofs.«01_k».proof.Proof.Hand.Model
public import proofs.«01_k».proof.Proof.Hand.Consts

@[expose] public section
noncomputable section

namespace Cert.Proof.KernelVal
open Idealize.ShloMosaic Cert.KernelIdeal Cert.KernelIdeal.Gen StableHlo
open Cert.Proof.Model Cert.Proof.Blocks Cert.Proof.ConjGrad Cert.Proof.Stencil Cert.Proof.Consts

set_option maxHeartbeats 4000000

/-! ## Blocks at an index -/

/-- The row of a block that holds row `n`. -/
def inner (n : Fin 2048) : Fin 256 := ⟨n.val % 256, Nat.mod_lt _ (by decide)⟩
/-- Row `x` of block `k`. -/
def outer (k : ℕ) (x : Fin 256) : Fin 2048 := ⟨(256 * k + x.val) % 2048, Nat.mod_lt _ (by decide)⟩

theorem unblk_at (P : ℕ → Tile Ideal) (n : Fin 2048) (d : Fin 768) : unblk P (ix2 n d) = P (n.val / 256) (ix2 (inner n) d) :=
  congrArg (P (n.val / 256)) (idxT_ext rfl rfl)

theorem blk_at (f : Arr Ideal) (k : ℕ) (x : Fin 256) (d : Fin 768) : blk f k (ix2 x d) = f (ix2 (outer k x) d) :=
  congrArg f (idxA_ext rfl rfl)

theorem outer_inner (n : Fin 2048) : outer (n.val / 256) (inner n) = n := Fin.ext (by
  have := n.isLt
  show (256 * (n.val / 256) + n.val % 256) % 2048 = n.val
  omega)

theorem blk_inner (f : Arr Ideal) (n : Fin 2048) (d : Fin 768) : blk f (n.val / 256) (ix2 (inner n) d) = f (ix2 n d) := by
  rw [blk_at, outer_inner]

/-- A sum over an array's rows, block by block. -/
theorem sum_rows (g : Fin 2048 → EReal) : ∑ k : Fin 8, ∑ x, g (outer k x) = ∑ n, g n := by
  rw [← Fintype.sum_prod_type' (f := fun (k : Fin 8) x => g (outer k x)), ← (finProdFinEquiv (m := 8) (n := 256)).sum_comp]
  refine Finset.sum_congr rfl fun ⟨k, x⟩ _ => congrArg g (Fin.ext ?_)
  have := k.isLt; have := x.isLt
  show (256 * k.val + x.val) % 2048 = x.val + 256 * k.val
  omega

/-- A running sum over the eight blocks is the sum over all positions. -/
theorem sum_blocks (g : J → EReal) (S : ℕ → EReal) (h0 : S 0 = 0)
    (hS : ∀ k, S (k + 1) = S k + ∑ x, ∑ d, g (outer k x, d, 0) + ∑ x, ∑ d, g (outer k x, d, 1)) : S 8 = ∑ j, g j := by
  have hn : ∀ n, S n = ∑ k : Fin n, (∑ x, ∑ d, g (outer k x, d, 0) + ∑ x, ∑ d, g (outer k x, d, 1)) := by
    intro n
    induction n with
    | zero => simpa using h0
    | succ n ih =>
      rw [hS, ih, add_assoc]
      exact (Fin.sum_univ_castSucc fun k : Fin (n + 1) => (∑ x, ∑ d, g (outer k x, d, 0) + ∑ x, ∑ d, g (outer k x, d, 1))).symm
  rw [hn, Finset.sum_add_distrib, sum_rows fun n => ∑ d, g (n, d, 0), sum_rows fun n => ∑ d, g (n, d, 1), Fintype.sum_prod_type, ← Finset.sum_add_distrib]
  refine Finset.sum_congr rfl fun n _ => ?_
  rw [Fintype.sum_prod_type, ← Finset.sum_add_distrib]
  exact Finset.sum_congr rfl fun d _ => (Fin.sum_univ_two fun c => g (n, d, c)).symm

/-! ## The banded product of a row -/

/-- The wave row continued by its ends: entry `m` of the 1024 the kernel's windows are taken from. -/
def wide (u : Fin 768 → EReal) (m : ℕ) (hm : m < 1024) : EReal :=
  if h : m < 128 then u ⟨640 + m, by omega⟩ else if h' : m - 128 < 768 then u ⟨m - 128, h'⟩ else u ⟨m - 128 - 768, by omega⟩

theorem wide_eq (u : Fin 768 → EReal) (m : ℕ) (hm : m < 1024) : wide u m hm = u ⟨(m + 640) % 768, Nat.mod_lt _ (by decide)⟩ := by
  unfold wide
  split_ifs <;> refine congrArg u (Fin.ext ?_)
  · show 640 + m = (m + 640) % 768; omega
  · show m - 128 = (m + 640) % 768; omega
  · show m - 128 - 768 = (m + 640) % 768; omega

/-- The banded product, a third of the columns at a time. -/
theorem band_pieces (hi lo : Fin 512 → Fin 256 → EReal) (u : Fin 768 → EReal) (d : Fin 768) : band hi lo u d =
    if h : d.val < 256 then (∑ x : Fin 512, wide u x.val (by omega) * hi x ⟨d.val, h⟩ + ∑ x : Fin 512, wide u x.val (by omega) * lo x ⟨d.val, h⟩) +
      ∑ x : Fin 512, wide (fun e => u e - u e) x.val (by omega) * hi x ⟨d.val, h⟩
    else if h' : d.val - 256 < 256 then (∑ x : Fin 512, wide u (256 + x.val) (by omega) * hi x ⟨d.val - 256, h'⟩ +
        ∑ x : Fin 512, wide u (256 + x.val) (by omega) * lo x ⟨d.val - 256, h'⟩) +
      ∑ x : Fin 512, wide (fun e => u e - u e) (256 + x.val) (by omega) * hi x ⟨d.val - 256, h'⟩
    else (∑ x : Fin 512, wide u (512 + x.val) (by omega) * hi x ⟨d.val - 256 - 256, by omega⟩ +
        ∑ x : Fin 512, wide u (512 + x.val) (by omega) * lo x ⟨d.val - 256 - 256, by omega⟩) +
      ∑ x : Fin 512, wide (fun e => u e - u e) (512 + x.val) (by omega) * hi x ⟨d.val - 256 - 256, by omega⟩ := by
  have hd := d.isLt
  simp only [wide_eq]
  have key : ∀ (o : ℕ) (l : Fin 256) (_ : d.val / 256 * 256 = o) (_ : l.val = d.val % 256), band hi lo u d =
      (∑ x : Fin 512, u ⟨(o + x.val + 640) % 768, Nat.mod_lt _ (by decide)⟩ * hi x l + ∑ x : Fin 512, u ⟨(o + x.val + 640) % 768, Nat.mod_lt _ (by decide)⟩ * lo x l) +
        ∑ x : Fin 512, (u ⟨(o + x.val + 640) % 768, Nat.mod_lt _ (by decide)⟩ - u ⟨(o + x.val + 640) % 768, Nat.mod_lt _ (by decide)⟩) * hi x l := by
    rintro o l rfl hl
    obtain rfl : l = ⟨d.val % 256, Nat.mod_lt _ (by decide)⟩ := Fin.ext hl
    rfl
  split_ifs with h h'
  · simpa only [Nat.zero_add] using key 0 ⟨d.val, h⟩ (by omega) (by show d.val = d.val % 256; omega)
  · exact key 256 ⟨d.val - 256, h'⟩ (by omega) (by show d.val - 256 = d.val % 256; omega)
  · exact key 512 ⟨d.val - 256 - 256, by omega⟩ (by omega) (by show d.val - 256 - 256 = d.val % 256; omega)

/-- A weight block as a family. -/
def mat (w : Wt Ideal) (k : Fin 512) (l : Fin 256) : EReal := w (ix2 k l)

theorem prodTile1_at (w0 w1 : Wt Ideal) (beta : EReal) (p0 r0 p1 r1 : Tile Ideal) (x : Fin 256) (d : Fin 768) :
    prodTile1 w0 w1 beta p0 r0 p1 r1 (ix2 x d) = (r1 (ix2 x d) + beta * p1 (ix2 x d)) +
      half * band (mat w0) (mat w1) (fun e => r0 (ix2 x e) + beta * p0 (ix2 x e)) d := by
  rw [band_pieces]
  unfold prodTile1
  pointwise [k1_pay12, k1_pay10, k1_pay26, k1_pay31, k1_pay1, k1_pay2, k1_pay29, k1_pay30, k1_pay25]
  rfl

theorem prodTile0_at (w0 w1 : Wt Ideal) (beta : EReal) (p0 r0 p1 r1 : Tile Ideal) (x : Fin 256) (d : Fin 768) :
    prodTile0 w0 w1 beta p0 r0 p1 r1 (ix2 x d) = (r0 (ix2 x d) + beta * p0 (ix2 x d)) -
      half * band (mat w0) (mat w1) (fun e => r1 (ix2 x e) + beta * p1 (ix2 x e)) d := by
  rw [band_pieces]
  unfold prodTile0
  pointwise [k1_pay11, k1_pay9, k1_pay25, k1_pay33, k1_pay34, k1_pay35, k1_pay26, k1_pay32, k1_pay36, k1_pay37, k1_pay1, k1_pay2]
  rfl

end Cert.Proof.KernelVal
end
-- ==== Proof.Hand.KernelLoop.lean ====
/- One iteration of the second kernel over the extended reals is a step of the late recurrence with the banded stencil. -/
module

public import proofs.«01_k».proof.Proof.Hand.KernelVal

@[expose] public section
noncomputable section

namespace Cert.Proof.KernelVal
open Idealize.ShloMosaic Cert.KernelIdeal Cert.KernelIdeal.Gen StableHlo
open Cert.Proof.Model Cert.Proof.Blocks Cert.Proof.ConjGrad Cert.Proof.Stencil Cert.Proof.Consts

set_option maxHeartbeats 400000

/-! ## One iteration -/

/-- Two arrays as one family over the problem's positions. -/
def pair (f g : Arr Ideal) (j : J) : EReal := if j.2.2 = 0 then f (ix2 j.1 j.2.1) else g (ix2 j.1 j.2.1)

theorem pair_eq {f g : Arr Ideal} {u : J → EReal} (hf : ∀ n d, f (ix2 n d) = u (n, d, 0)) (hg : ∀ n d, g (ix2 n d) = u (n, d, 1)) : pair f g = u := by
  funext ⟨n, d, c⟩
  fin_cases c
  · exact hf n d
  · exact hg n d

/-- The recurrence's state from the kernel's. -/
def late (s : St Ideal) : Late J := ⟨pair s.x0 s.x1, pair s.r0 s.r1, pair s.p0 s.p1, s.rs, s.beta, s.ap⟩

/-- The rule the kernel follows, from the sum of squares of its right-hand side. -/
abbrev krule (b : EReal) : Rule := rule (Ideal.sqrt b + eps)

variable (w0 w1 : Wt Ideal) (b : EReal) (s : St Ideal)

abbrev op : (J → EReal) → J → EReal := sys (band (mat w0) (mat w1)) half

theorem weight (rs den : EReal) : k1_pay14 (F := Ideal) b rs den = (krule b).al rs den := by
  unfold k1_pay14
  pointwise []
  rfl

theorem ratio (rs rs' : EReal) : k1_pay20 (F := Ideal) b rs rs' = (krule b).be rs' rs := by
  unfold k1_pay20
  pointwise []
  rfl

theorem direction : pair (newP0 s.beta s.p0 s.r0) (newP1 s.beta s.p1 s.r1) = (late s).p' := by
  refine pair_eq (fun n d => ?_) (fun n d => ?_)
  · unfold newP0
    rw [unblk_at]
    pointwise [k1_pay27, k1_pay25]
    simp only [blk_inner]
    rfl
  · unfold newP1
    rw [unblk_at]
    pointwise [k1_pay28, k1_pay26]
    simp only [blk_inner]
    rfl

theorem product : pair (prod0 w0 w1 s.beta s.p0 s.r0 s.p1 s.r1) (prod1 w0 w1 s.beta s.p0 s.r0 s.p1 s.r1) = op w0 w1 (late s).p' := by
  refine pair_eq (fun n d => ?_) (fun n d => ?_)
  · unfold prod0
    rw [unblk_at, prodTile0_at]
    simp only [blk_inner]
    rfl
  · unfold prod1
    rw [unblk_at, prodTile1_at]
    simp only [blk_inner]
    rfl

theorem step_residual (den : EReal) (q0 q1 : Arr Ideal) : pair (newR0 b s.rs den s.r0 q0) (newR1 b s.rs den s.r1 q1) =
    fun j => pair s.r0 s.r1 j - (krule b).al s.rs den * pair q0 q1 j := by
  refine pair_eq (fun n d => ?_) (fun n d => ?_)
  · unfold newR0
    rw [unblk_at]
    pointwise [k1_pay17, k1_pay15]
    simp only [blk_inner, weight]
    rfl
  · unfold newR1
    rw [unblk_at]
    pointwise [k1_pay18, k1_pay16]
    simp only [blk_inner, weight]
    rfl

theorem normSum_eq (r0 r1 : Arr Ideal) : normSum r0 r1 8 = dot (pair r0 r1) (pair r0 r1) := by
  refine sum_blocks (fun j => pair r0 r1 j * pair r0 r1 j) (normSum r0 r1) Ideal.ofBits_zero_f32 fun k => ?_
  show k1_pay8 (normSum r0 r1 k) (blk r0 k) (blk r1 k) = _
  generalize normSum r0 r1 k = acc
  unfold k1_pay8
  pointwise []
  simp only [blk_at]
  rfl

theorem resSum_step (rs den acc : EReal) (r0 q0 r1 q1 : Tile Ideal) : k1_pay19 (F := Ideal) b rs den acc r0 q0 r1 q1 =
    acc + ∑ x, ∑ d, (r0 (ix2 x d) - (krule b).al rs den * q0 (ix2 x d)) * (r0 (ix2 x d) - (krule b).al rs den * q0 (ix2 x d)) +
      ∑ x, ∑ d, (r1 (ix2 x d) - (krule b).al rs den * q1 (ix2 x d)) * (r1 (ix2 x d) - (krule b).al rs den * q1 (ix2 x d)) := by
  rw [← weight]
  unfold k1_pay19
  pointwise [k1_pay15, k1_pay16]

theorem resSum_eq (rs den : EReal) (r0 q0 r1 q1 : Arr Ideal) : resSum (F := Ideal) b rs den r0 q0 r1 q1 8 =
    dot (fun j => pair r0 r1 j - (krule b).al rs den * pair q0 q1 j) (fun j => pair r0 r1 j - (krule b).al rs den * pair q0 q1 j) := by
  have key : ∀ k, resSum (F := Ideal) b rs den r0 q0 r1 q1 (k + 1) = _ := fun k =>
    resSum_step b rs den (resSum (F := Ideal) b rs den r0 q0 r1 q1 k) (blk r0 k) (blk q0 k) (blk r1 k) (blk q1 k)
  generalize (krule b).al rs den = a at key ⊢
  have h0 : resSum (F := Ideal) b rs den r0 q0 r1 q1 0 = (0 : EReal) := Ideal.ofBits_zero_f32
  generalize resSum (F := Ideal) b rs den r0 q0 r1 q1 = S at key h0 ⊢
  refine sum_blocks (fun j => (pair r0 r1 j - a * pair q0 q1 j) * (pair r0 r1 j - a * pair q0 q1 j)) S h0 fun k => ?_
  rw [key]
  simp only [blk_at]
  rfl

theorem prodSum_step (beta acc : EReal) (p0 r0 p1 r1 : Tile Ideal) : prodSumTile w0 w1 beta acc p0 r0 p1 r1 =
    acc + ∑ x, ∑ d, (r0 (ix2 x d) + beta * p0 (ix2 x d)) * prodTile0 w0 w1 beta p0 r0 p1 r1 (ix2 x d) +
      ∑ x, ∑ d, (r1 (ix2 x d) + beta * p1 (ix2 x d)) * prodTile1 w0 w1 beta p0 r0 p1 r1 (ix2 x d) := by
  have h0 : prodTile0 w0 w1 beta p0 r0 p1 r1 = k1_pay9 w0 w1 (k1_pay25 beta p0 r0) (k1_pay33 (k1_pay26 beta p1 r1)) (k1_pay34 (k1_pay26 beta p1 r1))
    (k1_pay35 (k1_pay1 w0) (k1_pay2 w1) (k1_pay26 beta p1 r1)) (k1_pay36 (k1_pay26 beta p1 r1)) (k1_pay37 (k1_pay26 beta p1 r1)) := by
    unfold prodTile0; funext i; rw [eq_ix2 i]; pointwise [k1_pay11]
  have h1 : prodTile1 w0 w1 beta p0 r0 p1 r1 = k1_pay10 (k1_pay26 beta p1 r1) (k1_pay31 (k1_pay1 w0) (k1_pay2 w1) (k1_pay29 beta p0 r0) (k1_pay30 beta p0 r0)) := by
    unfold prodTile1; funext i; rw [eq_ix2 i]; pointwise [k1_pay12]
  unfold prodSumTile k1_pay13
  rw [← h0, ← h1]
  generalize prodTile0 w0 w1 beta p0 r0 p1 r1 = q0
  generalize prodTile1 w0 w1 beta p0 r0 p1 r1 = q1
  pointwise [k1_pay25, k1_pay26]

theorem prodSum_eq : s.den w0 w1 = dot (late s).p' (op w0 w1 (late s).p') := by
  unfold St.den dot
  refine sum_blocks _ (prodSum w0 w1 s.beta s.p0 s.r0 s.p1 s.r1) Ideal.ofBits_zero_f32 fun k => ?_
  show prodSumTile w0 w1 s.beta (prodSum w0 w1 s.beta s.p0 s.r0 s.p1 s.r1 k) (blk s.p0 k) (blk s.r0 k) (blk s.p1 k) (blk s.r1 k) = _
  generalize prodSum w0 w1 s.beta s.p0 s.r0 s.p1 s.r1 k = acc
  rw [prodSum_step]
  simp only [prodTile0_at, prodTile1_at, blk_at]
  rfl

theorem moved : pair (newX0 s.ap s.p0 s.x0) (newX1 s.ap s.p1 s.x1) = (late s).out := by
  refine pair_eq (fun n d => ?_) (fun n d => ?_)
  · unfold newX0
    rw [unblk_at]
    pointwise [k1_pay23]
    simp only [blk_inner]
    rfl
  · unfold newX1
    rw [unblk_at]
    pointwise [k1_pay24]
    simp only [blk_inner]
    rfl

theorem last : pair (lastX0 s.ap s.p0 s.x0) (lastX1 s.ap s.p1 s.x1) = (late s).out := by
  refine pair_eq (fun n d => ?_) (fun n d => ?_)
  · unfold lastX0
    rw [unblk_at]
    pointwise [k1_pay21]
    simp only [blk_inner]
    rfl
  · unfold lastX1
    rw [unblk_at]
    pointwise [k1_pay22]
    simp only [blk_inner]
    rfl

/-- One iteration of the kernel is one step of the late recurrence. -/
theorem step : late (s.next w0 w1 b) = (late s).next (krule b) (op w0 w1) := by
  have hden := prodSum_eq w0 w1 s
  have hr : pair (newR0 b s.rs (s.den w0 w1) s.r0 (prod0 w0 w1 s.beta s.p0 s.r0 s.p1 s.r1)) (newR1 b s.rs (s.den w0 w1) s.r1 (prod1 w0 w1 s.beta s.p0 s.r0 s.p1 s.r1)) =
      (late s).r' (krule b) (op w0 w1) := by
    rw [step_residual, product, hden]; rfl
  have hs : s.rs' w0 w1 b = (late s).rs' (krule b) (op w0 w1) := by
    unfold St.rs'
    rw [resSum_eq, product, hden]; rfl
  have hbeta : k1_pay20 b s.rs (s.rs' w0 w1 b) = (krule b).be ((late s).rs' (krule b) (op w0 w1)) s.rs := by rw [ratio, hs]
  have hap : k1_pay14 b s.rs (s.den w0 w1) = (late s).a (krule b) (op w0 w1) := by rw [weight, hden]; rfl
  show Late.mk (pair (newX0 s.ap s.p0 s.x0) (newX1 s.ap s.p1 s.x1))
    (pair (newR0 b s.rs (s.den w0 w1) s.r0 (prod0 w0 w1 s.beta s.p0 s.r0 s.p1 s.r1)) (newR1 b s.rs (s.den w0 w1) s.r1 (prod1 w0 w1 s.beta s.p0 s.r0 s.p1 s.r1)))
    (pair (newP0 s.beta s.p0 s.r0) (newP1 s.beta s.p1 s.r1)) (s.rs' w0 w1 b)
    (k1_pay20 b s.rs (s.rs' w0 w1 b)) (k1_pay14 b s.rs (s.den w0 w1)) = _
  rw [hbeta, hap, hs, direction, moved, hr]
  rfl

theorem zero_at (n : Fin 2048) (d : Fin 768) : zeroArr (F := Ideal) (ix2 n d) = (0 : EReal) := by
  unfold zeroArr
  rw [unblk_at]
  pointwise [k1_pay4, k1_pay3]

theorem start (r0 r1 : Arr Ideal) : late (St.init r0 r1) = Late.init (pair r0 r1) := by
  have hz : pair (zeroArr (F := Ideal)) zeroArr = fun _ => 0 := pair_eq zero_at zero_at
  show Late.mk (pair zeroArr zeroArr) (pair r0 r1) (pair zeroArr zeroArr) (normSum r0 r1 8) (z0 (F := Ideal)) (z0 (F := Ideal)) = _
  rw [hz, normSum_eq, show z0 (F := Ideal) = (0 : EReal) from Ideal.ofBits_zero_f32]
  rfl

/-- The kernel's results are the late recurrence's. -/
theorem solution (r0 r1 : Arr Ideal) : pair (out0 w0 w1 r0 r1) (out1 w0 w1 r0 r1) =
    (Late.run (krule (dot (pair r0 r1) (pair r0 r1))) (op w0 w1) (pair r0 r1) 20).out := by
  have h : ∀ n, late (St.run w0 w1 r0 r1 n) = Late.run (krule (dot (pair r0 r1) (pair r0 r1))) (op w0 w1) (pair r0 r1) n := by
    intro n
    induction n with
    | zero => exact start r0 r1
    | succ n ih =>
      show late (St.next w0 w1 (normSum r0 r1 8) (St.run w0 w1 r0 r1 n)) = _
      rw [step, ih, normSum_eq]; rfl
  unfold out0 out1
  rw [last, h]

end Cert.Proof.KernelVal
end
-- ==== Proof.Hand.KernelRhs.lean ====
/- The first kernel's results over the extended reals are the right-hand side of the system with the banded stencil. -/
module

public import proofs.«01_k».proof.Proof.Hand.KernelLoop

@[expose] public section
noncomputable section

namespace Cert.Proof.KernelVal
open Idealize.ShloMosaic Cert.KernelIdeal Cert.KernelIdeal.Gen StableHlo
open Cert.Proof.Model Cert.Proof.Blocks Cert.Proof.ConjGrad Cert.Proof.Stencil Cert.Proof.Consts

set_option maxHeartbeats 1000000

theorem rhsTile0_at (a b : Tile Ideal) (s : Vec Ideal S1x768 .f32) (hi lo : Wt Ideal) (x : Fin 256) (d : Fin 768) :
    rhsTile0 a b s hi lo (ix2 x d) = k0_pay8 a b s (ix2 x d) + half * band (mat hi) (mat lo) (fun e => k0_pay9 a b s (ix2 x e)) d := by
  rw [band_pieces]
  unfold rhsTile0
  generalize k0_pay8 a b s = u
  generalize k0_pay9 a b s = v
  pointwise [k0_pay1, k0_pay10, k0_pay11, k0_pay22, k0_pay23, k0_pay24, k0_pay25, k0_pay26, k0_pay20, k0_pay21, k0_pay19]
  rfl

theorem rhsTile1_at (a b : Tile Ideal) (s : Vec Ideal S1x768 .f32) (hi lo : Wt Ideal) (x : Fin 256) (d : Fin 768) :
    rhsTile1 a b s hi lo (ix2 x d) = k0_pay9 a b s (ix2 x d) - half * band (mat hi) (mat lo) (fun e => k0_pay8 a b s (ix2 x e)) d := by
  rw [band_pieces]
  unfold rhsTile1 k0_pay13 k0_pay14 k0_pay15 k0_pay16 k0_pay17 k0_pay15 k0_pay13 k0_pay14 k0_pay12
  generalize k0_pay8 a b s = u
  generalize k0_pay9 a b s = v
  pointwise [k0_pay2, k0_pay18, k0_pay10, k0_pay11]
  rfl

/-- The turned field, real part. -/
theorem turned0 (a b : Tile Ideal) (s : Vec Ideal S1x768 .f32) (A B : Fin 2048 → Fin 768 → EReal) (n : Fin 2048) (x : Fin 256)
    (ha : ∀ d, a (ix2 x d) = A n d) (hb : ∀ d, b (ix2 x d) = B n d) (d : Fin 768) :
    k0_pay8 a b s (ix2 x d) = rot A B (fun d => s (ix2 0 d)) (n, d, 0) := by
  pointwise [k0_pay8, k0_pay3, k0_pay4, k0_pay5, k0_pay6, k0_pay7]
  simp only [ha, hb]
  rfl

/-- The turned field, imaginary part. -/
theorem turned1 (a b : Tile Ideal) (s : Vec Ideal S1x768 .f32) (A B : Fin 2048 → Fin 768 → EReal) (n : Fin 2048) (x : Fin 256)
    (ha : ∀ d, a (ix2 x d) = A n d) (hb : ∀ d, b (ix2 x d) = B n d) (d : Fin 768) :
    k0_pay9 a b s (ix2 x d) = rot A B (fun d => s (ix2 0 d)) (n, d, 1) := by
  pointwise [k0_pay9, k0_pay3, k0_pay4, k0_pay5, k0_pay6, k0_pay7]
  simp only [ha, hb]
  rfl

/-- The first kernel's results are the right-hand side. -/
theorem right (a b : Arr Ideal) (s : Vec Ideal S1x768 .f32) (hi lo : Wt Ideal) : pair (rhs0 a b s hi lo) (rhs1 a b s hi lo) =
    rhs (band (mat hi) (mat lo)) half (rot (fun n d => a (ix2 n d)) (fun n d => b (ix2 n d)) fun d => s (ix2 0 d)) := by
  have h0 := fun n => turned0 (blk a (n.val / 256)) (blk b (n.val / 256)) s (fun n d => a (ix2 n d)) (fun n d => b (ix2 n d)) n (inner n)
    (fun d => blk_inner a n d) (fun d => blk_inner b n d)
  have h1 := fun n => turned1 (blk a (n.val / 256)) (blk b (n.val / 256)) s (fun n d => a (ix2 n d)) (fun n d => b (ix2 n d)) n (inner n)
    (fun d => blk_inner a n d) (fun d => blk_inner b n d)
  refine pair_eq (fun n d => ?_) (fun n d => ?_)
  · unfold rhs0
    rw [unblk_at, rhsTile0_at]
    simp only [h0, h1]
    rfl
  · unfold rhs1
    rw [unblk_at, rhsTile1_at]
    simp only [h0, h1]
    rfl

end Cert.Proof.KernelVal
end
-- ==== Proof.Hand.KernelEntry.lean ====
/- What the kernels are launched on, over the extended reals: the host operations before them lay the stencil's coefficients out
   as a row, turn the row into a band, and split the band in two parts whose second is the row less itself. -/
module

public import proofs.«01_k».proof.Proof.Hand.KernelRhs
public import proofs.«01_k».proof.Proof.Gen.KernelIdeal.Regions
public import Idealize.ShloMosaic.Lib.StableHlo.RunRead
public import Idealize.ShloMosaic.Lib.Routing.OpsOne

@[expose] public section
noncomputable section

namespace Cert.Proof.KernelEntry
open Idealize.ShloMosaic Cert.KernelIdeal Cert.KernelIdeal.Gen StableHlo
open Cert.Proof.ConjGrad Cert.Proof.Stencil Cert.Proof.Consts Cert.Proof.KernelVal

set_option maxHeartbeats 4000000

abbrev Val := Valuation τ sig (Elt Ideal)

/-- A vector with a scalar added at one place. -/
def bump (x : S768.Idx → EReal) (k : ℕ) (u : S_.Idx → EReal) (i : S768.Idx) : EReal := x i + if (i 0).val = k then u ix0 else 0

theorem scatter_eq (x : FVec Ideal S768 .f32) (k : BitVec 32) (u : FVec Ideal S_ .f32) (hk : k.toNat < 768) :
    Host.scatter scatter_S768_S1_S__n_0_0_0 (FloatOps.addf (F := Ideal) (φ := .f32)) x (broadcastInDim S1 ![] bcast_S_S1 (constantI S_ 32 k)) u = bump x k.toNat u := by
  have hl := fun e => Routing.lands_one scatter_S768_S1_S__n_0_0_0 rfl rfl (broadcastInDim S1 ![] bcast_S_S1 (constantI S_ 32 k)) ⟨k.toNat, hk⟩
    (BitVec.toInt_eq_toNat_of_lt (by show 2 * k.toNat < 2 ^ 32; omega)) e
  funext i
  have h0 : ∀ j : S_.Idx, j = ix0 := fun j => funext fun a => a.elim0
  have hi : i = ValueIdx.ix1 (i 0) := ValueIdx.eq_ix1 i
  have hr : List.finRange S_.numel = [⟨0, by decide⟩] := rfl
  unfold Host.scatter bump
  rw [hr, List.foldl_cons, List.foldl_nil, h0 (S_.rowMajor.symm _)]
  generalize he : scatter_S768_S1_S__n_0_0_0.resultIdx? ix0 (broadcastInDim S1 ![] bcast_S_S1 (constantI S_ 32 k)) = o
  rcases o with _ | j
  · exact absurd (((hl ⟨k.toNat, hk⟩).2 rfl).symm.trans he) (by simp)
  · have hj := he
    obtain ⟨e, rfl⟩ : ∃ e : Fin 768, j = ValueIdx.ix1 e := ⟨j 0, ValueIdx.eq_ix1 j⟩
    obtain rfl := (hl e).1 hj
    show (if i = ValueIdx.ix1 (⟨k.toNat, hk⟩ : Fin 768) then x (ValueIdx.ix1 (⟨k.toNat, hk⟩ : Fin 768)) + u ix0 else x i : EReal) = _
    by_cases h : (i 0).val = k.toNat
    · have hik : i = ValueIdx.ix1 (⟨k.toNat, hk⟩ : Fin 768) := hi.trans (congrArg ValueIdx.ix1 (Fin.ext h))
      rw [if_pos hik, if_pos h, hik]
    · rw [if_neg h, if_neg fun e => h (by rw [e]), add_zero]

/-- The same at the element types the host operations print. -/
theorem scatter_read (x : S768.Idx → Elt Ideal .f32) (k : BitVec 32) (u : S_.Idx → Elt Ideal .f32) (hk : k.toNat < 768) :
    @Host.scatter S768 (Elt Ideal .f32) 32 S1 S_ scatter_S768_S1_S__n_0_0_0 (FloatOps.addf (F := Ideal) (φ := .f32)) x
      (@broadcastInDim S_ (Elt Ideal .i32) S1 ![] bcast_S_S1 (constantI S_ 32 k)) u = bump x k.toNat u := scatter_eq x k u hk

def fr (V : Val) (n : Fin 2048) (d : Fin 768) : EReal := (V (Proc.devRef .tc main_arg0) : Vec Ideal S1x2048x768 .f32) (Idealize.ShloMosaic.ix3 (0 : Fin 1) n d)
def fi (V : Val) (n : Fin 2048) (d : Fin 768) : EReal := (V (Proc.devRef .tc main_arg1) : Vec Ideal S1x2048x768 .f32) (Idealize.ShloMosaic.ix3 (0 : Fin 1) n d)
def st (V : Val) (d : Fin 768) : EReal := (V (Proc.devRef .tc main_arg2) : Vec Ideal S768 .f32) (Idealize.ShloMosaic.ix1 d)
def wt (V : Val) (i : Fin 3) : EReal := (V (Proc.devRef .tc main_arg3) : Vec Ideal S3 .f32) (Idealize.ShloMosaic.ix1 i)

variable (V : Val)

theorem field_r (n : Fin 2048) (d : Fin 768) : (after hostOps0 V (Proc.devRef .tc main_v0) : Vec Ideal S2048x768 .f32) (ix2 n d) = fr V n d := by
  after_reads_simp
  pointwise []
  rfl

theorem field_i (n : Fin 2048) (d : Fin 768) : (after hostOps0 V (Proc.devRef .tc main_v1) : Vec Ideal S2048x768 .f32) (ix2 n d) = fi V n d := by
  after_reads_simp
  pointwise []
  rfl

/-- The row with its sums written out. -/
theorem row_eq (c : Fin 11 → EReal) (e : Fin 768) : row c e =
    (if e.val = 1 then c 0 else 0) + (if e.val = 767 then c 0 else 0) + (if e.val = 2 then c 1 else 0) + (if e.val = 766 then c 1 else 0) +
    (if e.val = 3 then c 2 else 0) + (if e.val = 765 then c 2 else 0) + (if e.val = 4 then c 3 else 0) + (if e.val = 764 then c 3 else 0) +
    (if e.val = 5 then c 4 else 0) + (if e.val = 763 then c 4 else 0) + (if e.val = 6 then c 5 else 0) + (if e.val = 762 then c 5 else 0) +
    (if e.val = 8 then c 6 else 0) + (if e.val = 760 then c 6 else 0) + (if e.val = 10 then c 7 else 0) + (if e.val = 758 then c 7 else 0) +
    (if e.val = 12 then c 8 else 0) + (if e.val = 756 then c 8 else 0) + (if e.val = 16 then c 9 else 0) + (if e.val = 752 then c 9 else 0) +
    (if e.val = 20 then c 10 else 0) + (if e.val = 748 then c 10 else 0) +
    (if e.val = 0 then Ideal.ofBits .f32 0xC0000000#32 * (c 0 + c 1 + c 2 + c 3 + c 4 + c 5 + c 6 + c 7 + c 8 + c 9 + c 10) else 0) := by
  unfold row
  rw [sum_eleven, sum_eleven, negTwo_eq]
  simp only [← add_assoc]
  rfl

/-- The row the scatters fill holds each coefficient at its distance and the mirrored distance, and the diagonal at zero. -/
theorem row_at (e : Fin 768) : (after hostOps0 V (Proc.devRef .tc main_v120) : Vec Ideal S768 .f32) (ix1 e) = row (coef (wt V)) e := by
  rw [row_eq]
  after_reads_simp
  have at_ := fun (k : BitVec 32) (h : k.toNat < 768) x u => scatter_read x k u h
  simp only [at_ 0#32 (by decide), at_ 1#32 (by decide), at_ 767#32 (by decide), at_ 2#32 (by decide), at_ 766#32 (by decide), at_ 3#32 (by decide),
    at_ 765#32 (by decide), at_ 4#32 (by decide), at_ 764#32 (by decide), at_ 5#32 (by decide), at_ 763#32 (by decide), at_ 6#32 (by decide),
    at_ 762#32 (by decide), at_ 8#32 (by decide), at_ 760#32 (by decide), at_ 10#32 (by decide), at_ 758#32 (by decide), at_ 12#32 (by decide),
    at_ 756#32 (by decide), at_ 16#32 (by decide), at_ 752#32 (by decide), at_ 20#32 (by decide), at_ 748#32 (by decide)]
  pointwise [bump]
  rfl

/-! ## The index words -/

/-- The remainder as the host computes it, of the divisor's sign. -/
def rem (n w : BitVec 32) : BitVec 32 :=
  Scalar.select
      (IntOp.andi
        (IntOp.cmpi CmpIPredicate.ne
          (IntOp.cmpi CmpIPredicate.slt (IntOp.remsi ArithUnit.host w (Scalar.select (IntOp.cmpi CmpIPredicate.eq n 0#32) (1#32) n)) 0#32)
          (IntOp.cmpi CmpIPredicate.slt (Scalar.select (IntOp.cmpi CmpIPredicate.eq n 0#32) (1#32) n) 0#32))
        (IntOp.cmpi CmpIPredicate.ne (IntOp.remsi ArithUnit.host w (Scalar.select (IntOp.cmpi CmpIPredicate.eq n 0#32) (1#32) n)) 0#32))
      (IntOp.addi (IntOp.remsi ArithUnit.host w (Scalar.select (IntOp.cmpi CmpIPredicate.eq n 0#32) (1#32) n))
        (Scalar.select (IntOp.cmpi CmpIPredicate.eq n 0#32) (1#32) n))
      (IntOp.remsi ArithUnit.host w (Scalar.select (IntOp.cmpi CmpIPredicate.eq n 0#32) (1#32) n))

/-- A negative index counted from the end. -/
def wrap (w : BitVec 32) : BitVec 32 := Scalar.select (IntOp.cmpi CmpIPredicate.slt w 0#32) (IntOp.addi w 768#32) w

theorem wrap_rem : ∀ t : Fin 767, wrap (rem 768#32 (BitVec.ofNat 32 t.val - 383#32)) = BitVec.ofNat 32 ((t.val + 385) % 768) := by
  decide +kernel

theorem word_at (k : Fin 512) (l : Fin 256) : (after hostOps0 V (Proc.devRef .tc main_v129) : IVec S512x256 32) (ix2 k l) =
    BitVec.ofNat 32 k.val - BitVec.ofNat 32 l.val - 128#32 := by
  after_reads_simp
  pointwise []
  rfl

theorem modulus (j : S_.Idx) : (after hostOps0 V (Proc.devRef .tc main_c_51) : IVec S_ 32) j = 768#32 := by
  after_reads_simp
  rfl

theorem rem_at (k : Fin 512) (l : Fin 256) : (after hostOps0_1 V (Proc.devRef .tc main_v130) : IVec S512x256 32) (ix2 k l) =
    rem ((V (Proc.devRef .tc main_c_51) : IVec S_ 32) ix0) ((V (Proc.devRef .tc main_v129) : IVec S512x256 32) (ix2 k l)) := by
  after_reads_simp
  simp only [TRef.toBuf, TRef.ofBuf, cast_eq]
  pointwise [id_eq]
  rfl

theorem wrap_at (k : Fin 512) (l : Fin 256) : (after hostOps0_2 V (Proc.devRef .tc main_v135) : IVec S512x256 32) (ix2 k l) =
    wrap ((V (Proc.devRef .tc main_v130) : IVec S512x256 32) (ix2 k l)) := by
  after_reads_simp
  pointwise [id_eq]
  rfl

/-- The three stretches before the kernels. -/
abbrev pre (V : Val) : Val := after hostOps0_2 (after hostOps0_1 (after hostOps0 V))

theorem index_at (k : Fin 512) (l : Fin 256) : (pre V (Proc.devRef .tc main_v135) : IVec S512x256 32) (ix2 k l) = BitVec.ofNat 32 (off l.val k).val := by
  unfold pre
  rw [wrap_at, rem_at, modulus, word_at]
  have hk := k.isLt
  have hl := l.isLt
  have hw : BitVec.ofNat 32 k.val - BitVec.ofNat 32 l.val - 128#32 = BitVec.ofNat 32 (k.val + 255 - l.val) - 383#32 := by
    apply BitVec.eq_of_toNat_eq
    simp only [BitVec.toNat_sub, BitVec.toNat_ofNat]
    omega
  rw [hw]
  refine (wrap_rem ⟨k.val + 255 - l.val, by omega⟩).trans (congrArg (BitVec.ofNat 32) ?_)
  show (k.val + 255 - l.val + 385) % 768 = (k.val + 640 - l.val) % 768
  omega

/-! ## The band -/

theorem band_read : (after hostOps0_2 V (Proc.devRef .tc main_v137) : Vec Ideal S512x256 .f32) =
    Host.gather gather_S768_S512x256x1_S512x256_n_0_n_n_0_2_1 (V (Proc.devRef .tc main_v120) : Vec Ideal S768 .f32)
      (broadcastInDim S512x256x1 ![0, 1] bcast_S512x256_S512x256x1_0_1 (after hostOps0_2 V (Proc.devRef .tc main_v135) : IVec S512x256 32)) := by
  after_reads_simp

theorem band_at (k : Fin 512) (l : Fin 256) : (pre V (Proc.devRef .tc main_v137) : Vec Ideal S512x256 .f32) (ix2 k l) = row (coef (wt V)) (off l.val k) := by
  have hrow : (after hostOps0_1 (after hostOps0 V) (Proc.devRef .tc main_v120) : Vec Ideal S768 .f32) = after hostOps0 V (Proc.devRef .tc main_v120) := by
    generalize after hostOps0 V = W
    after_reads_simp
  unfold pre
  rw [← row_at, ← hrow, band_read]
  generalize (after hostOps0_1 (after hostOps0 V) (Proc.devRef .tc main_v120) : Vec Ideal S768 .f32) = x
  have hi := index_at V k l
  unfold pre at hi
  generalize (after hostOps0_2 (after hostOps0_1 (after hostOps0 V)) (Proc.devRef .tc main_v135) : IVec S512x256 32) = w at hi ⊢
  have hn := (off l.val k).isLt
  refine (ValueIdx.gather_take_apply (N := 768) (R := 512) (C := 256) (by decide) gather_S768_S512x256x1_S512x256_n_0_n_n_0_2_1_wf x _ (ix2 k l)).trans ?_
  have hb : broadcastInDim S512x256x1 ![0, 1] bcast_S512x256_S512x256x1_0_1 w (ValueIdx.takeIdx (ix2 k l)) = w (ix2 k l) := by
    have ht : ValueIdx.takeIdx (R := 512) (C := 256) (ix2 k l) = ix3 k l 0 := by
      funext a
      match a with
      | ⟨0, _⟩ => rfl
      | ⟨1, _⟩ => rfl
      | ⟨2, _⟩ => rfl
    rw [ht]
    pointwise []
  have hz : (BitVec.ofNat 32 (off l.val k).val).toInt.toNat = (off l.val k).val := by
    rw [BitVec.toInt_eq_toNat_of_lt (by simp only [BitVec.toNat_ofNat]; omega)]
    simp only [BitVec.toNat_ofNat]
    omega
  have hx : ∀ a b : Fin 768, a.val = b.val → x (ValueIdx.ix1 a) = x (ix1 b) := fun a b h => by rw [Fin.ext h]; rfl
  refine hx _ _ ?_
  show min (broadcastInDim S512x256x1 ![0, 1] bcast_S512x256_S512x256x1_0_1 w (ValueIdx.takeIdx (ix2 k l))).toInt.toNat (768 - 1) = _
  rw [hb, hi, hz]
  omega

/-- The first part of the band is the row laid out … -/
theorem hi_eq : mat (pre V (Proc.devRef .tc main_v138)) = fun k l => row (coef (wt V)) (off l.val k) := by
  funext k l
  rw [← band_at]
  unfold pre
  generalize after hostOps0_1 (after hostOps0 V) = W
  unfold mat
  have h : (after hostOps0_2 W (Proc.devRef .tc main_v138) : Vec Ideal S512x256 .bf16) =
      (truncf .bf16 (after hostOps0_2 W (Proc.devRef .tc main_v137) : FVec Ideal S512x256 .f32) bitsLt_bf16_f32 : FVec Ideal S512x256 .bf16) := by
    after_reads_simp
  rw [h]
  pointwise []

/-- … and the second is the row less itself. -/
theorem lo_eq : mat (pre V (Proc.devRef .tc main_v141)) = fun k l => row (coef (wt V)) (off l.val k) - row (coef (wt V)) (off l.val k) := by
  funext k l
  rw [← band_at]
  unfold pre
  generalize after hostOps0_1 (after hostOps0 V) = W
  unfold mat
  have h : (after hostOps0_2 W (Proc.devRef .tc main_v141) : Vec Ideal S512x256 .bf16) =
      truncf .bf16 (subf (after hostOps0_2 W (Proc.devRef .tc main_v137) : Vec Ideal S512x256 .f32)
        (extf .f32 (truncf .bf16 (after hostOps0_2 W (Proc.devRef .tc main_v137) : Vec Ideal S512x256 .f32) bitsLt_bf16_f32 : FVec Ideal S512x256 .bf16) bitsLt_bf16_f32)) bitsLt_bf16_f32 := by
    after_reads_simp
  rw [h]
  pointwise []

/-! ## The fields -/

theorem pre_r (n : Fin 2048) (d : Fin 768) : (pre V (Proc.devRef .tc main_v0) : Vec Ideal S2048x768 .f32) (ix2 n d) = fr V n d := by
  have h : (pre V (Proc.devRef .tc main_v0) : Vec Ideal S2048x768 .f32) = after hostOps0 V (Proc.devRef .tc main_v0) := by
    unfold pre
    generalize after hostOps0 V = W
    after_reads_simp
  rw [h, field_r]

theorem pre_i (n : Fin 2048) (d : Fin 768) : (pre V (Proc.devRef .tc main_v1) : Vec Ideal S2048x768 .f32) (ix2 n d) = fi V n d := by
  have h : (pre V (Proc.devRef .tc main_v1) : Vec Ideal S2048x768 .f32) = after hostOps0 V (Proc.devRef .tc main_v1) := by
    unfold pre
    generalize after hostOps0 V = W
    after_reads_simp
  rw [h, field_i]

theorem pre_s (d : Fin 768) : (pre V (Proc.devRef .tc main_v142) : Vec Ideal S1x768 .f32) (ix2 0 d) = st V d := by
  have h : (after hostOps0_1 (after hostOps0 V) (Proc.devRef .tc main_arg2) : Vec Ideal S768 .f32) = V (Proc.devRef .tc main_arg2) := by
    after_reads_simp
  unfold st
  rw [← h]
  unfold pre
  generalize after hostOps0_1 (after hostOps0 V) = W
  after_reads_simp
  pointwise []

end Cert.Proof.KernelEntry
end
-- ==== Proof.Hand.RefVal.lean ====
/- One trip of the reference's loop, read over the extended reals: a conjugate-gradient step with the rolled stencil. -/
module

public import proofs.«01_k».proof.Proof.Gen.ReferenceIdeal.Run
public import proofs.«01_k».proof.Proof.Hand.Consts

@[expose] public section
noncomputable section

namespace Cert.Proof.RefVal
open Idealize.ShloMosaic Cert.ReferenceIdeal Cert.ReferenceIdeal.Gen Cert.ReferenceIdeal.Value StableHlo
open Cert.Proof.ConjGrad Cert.Proof.Stencil Cert.Proof.Consts

set_option maxHeartbeats 4000000

/-- The weights a valuation carries into a trip. -/
def wts (V : Valuation τ sig (Elt Ideal)) (i : Fin 3) : EReal := V (Proc.devRef .tc main_v323_1) (Idealize.ShloMosaic.ix1 i)

theorem coefs_r (V : Valuation τ sig (Elt Ideal)) (j : S_.Idx) :
    res_main_while0b_v336 V j = coef (wts V) 0 ∧ res_main_while0b_v356 V j = coef (wts V) 1 ∧ res_main_while0b_v344 V j = coef (wts V) 2 ∧
    res_main_while0b_v376 V j = coef (wts V) 3 ∧ res_main_while0b_v352 V j = coef (wts V) 4 ∧ res_main_while0b_v364 V j = coef (wts V) 5 ∧
    res_main_while0b_v380 V j = coef (wts V) 6 ∧ res_main_while0b_v372 V j = coef (wts V) 7 ∧ res_main_while0b_v384 V j = coef (wts V) 8 ∧
    res_main_while0b_v388 V j = coef (wts V) 9 ∧ res_main_while0b_v392 V j = coef (wts V) 10 := by
  refine ⟨?_, ?_, ?_, ?_, ?_, ?_, ?_, ?_, ?_, ?_, ?_⟩ <;>
    (pointwise [res_main_while0b_v336, res_main_while0b_v356, res_main_while0b_v344, res_main_while0b_v376, res_main_while0b_v352,
      res_main_while0b_v364, res_main_while0b_v380, res_main_while0b_v372, res_main_while0b_v384, res_main_while0b_v388, res_main_while0b_v392]; rfl)

theorem coefs_i (V : Valuation τ sig (Elt Ideal)) (j : S_.Idx) :
    res_main_while0b_v478 V j = coef (wts V) 0 ∧ res_main_while0b_v498 V j = coef (wts V) 1 ∧ res_main_while0b_v486 V j = coef (wts V) 2 ∧
    res_main_while0b_v518 V j = coef (wts V) 3 ∧ res_main_while0b_v494 V j = coef (wts V) 4 ∧ res_main_while0b_v506 V j = coef (wts V) 5 ∧
    res_main_while0b_v522 V j = coef (wts V) 6 ∧ res_main_while0b_v514 V j = coef (wts V) 7 ∧ res_main_while0b_v526 V j = coef (wts V) 8 ∧
    res_main_while0b_v530 V j = coef (wts V) 9 ∧ res_main_while0b_v534 V j = coef (wts V) 10 := by
  refine ⟨?_, ?_, ?_, ?_, ?_, ?_, ?_, ?_, ?_, ?_, ?_⟩ <;>
    (pointwise [res_main_while0b_v478, res_main_while0b_v498, res_main_while0b_v486, res_main_while0b_v518, res_main_while0b_v494,
      res_main_while0b_v506, res_main_while0b_v522, res_main_while0b_v514, res_main_while0b_v526, res_main_while0b_v530, res_main_while0b_v534]; rfl)

/-- The first stencil of a trip is the rolled stencil of the direction's first part. -/
theorem stencil_r (V : Valuation τ sig (Elt Ideal)) (u : Fin 2048 → Fin 768 → EReal) (hu : ∀ n d, res_main_while0b_v330 V (Idealize.ShloMosaic.ix2 n d) = u n d)
    (n : Fin 2048) (d : Fin 768) : res_main_while0b_v621 V (Idealize.ShloMosaic.ix2 n d) = half * rolled (coef (wts V)) (u n) d := by
  rw [rolled_pieces]
  pointwise [res_main_while0b_v621, res_main_while0b_v434]
  simp only [hu, coefs_r V]
  rfl

theorem stencil_i (V : Valuation τ sig (Elt Ideal)) (u : Fin 2048 → Fin 768 → EReal) (hu : ∀ n d, res_main_while0b_v332 V (Idealize.ShloMosaic.ix2 n d) = u n d)
    (n : Fin 2048) (d : Fin 768) : res_main_while0b_v618 V (Idealize.ShloMosaic.ix2 n d) = half * rolled (coef (wts V)) (u n) d := by
  rw [rolled_pieces]
  pointwise [res_main_while0b_v618, res_main_while0b_v576]
  simp only [hu, coefs_i V]
  rfl

/-- A buffer of the iteration as a family over the problem's positions. -/
def fam (a : Vec Ideal S2048x768x2 .f32) (j : J) : EReal := a (Idealize.ShloMosaic.ix3 j.1 j.2.1 j.2.2)

theorem sum_fam (f : J → EReal) : ∑ j, f j = ∑ n, ∑ d, ∑ c, f (n, d, c) := by
  rw [Fintype.sum_prod_type]; exact Finset.sum_congr rfl fun n _ => Fintype.sum_prod_type _

/-- The trip's product of the system matrix with the direction. -/
theorem product (V : Valuation τ sig (Elt Ideal)) :
    fam (res_main_while0b_v625 V) = sys (rolled (coef (wts V))) half (fam (V (Proc.devRef .tc main_v323_6))) := by
  funext ⟨n, d, c⟩
  have hr := stencil_r V (fun n d => fam (V (Proc.devRef .tc main_v323_6)) (n, d, 0)) (fun n d => by pointwise [res_main_while0b_v330]; rfl) n d
  have hi := stencil_i V (fun n d => fam (V (Proc.devRef .tc main_v323_6)) (n, d, 1)) (fun n d => by pointwise [res_main_while0b_v332]; rfl) n d
  unfold sys
  show res_main_while0b_v625 V (Idealize.ShloMosaic.ix3 n d c) = _
  fin_cases c
  · pointwise [res_main_while0b_v625, res_main_while0b_v330]
    simp only [hi]
    rfl
  · pointwise [res_main_while0b_v625, res_main_while0b_v332]
    simp only [hr]
    rfl

/-- The state of the iteration a valuation carries. -/
def now (V : Valuation τ sig (Elt Ideal)) : Now J :=
  ⟨fam (V (Proc.devRef .tc main_v323_4)), fam (V (Proc.devRef .tc main_v323_5)), fam (V (Proc.devRef .tc main_v323_6)),
    (V (Proc.devRef .tc main_v323_7) : Vec Ideal S_ .f32) (fun a => a.elim0)⟩

def thr (V : Valuation τ sig (Elt Ideal)) : EReal := (V (Proc.devRef .tc main_v323_0) : Vec Ideal S_ .f32) (fun a => a.elim0)

theorem scalar_idx (j : S_.Idx) : j = fun a => a.elim0 := funext fun a => a.elim0

theorem weight (V : Valuation τ sig (Elt Ideal)) (j : S_.Idx) :
    res_main_while0b_v630 V j = (now V).a (rule (thr V)) (sys (rolled (coef (wts V))) half) := by
  obtain rfl := scalar_idx j
  unfold Now.a dot
  rw [sum_fam]
  have hp : ∀ n d c, sys (rolled (coef (wts V))) half (now V).p (n, d, c) = res_main_while0b_v625 V (Idealize.ShloMosaic.ix3 n d c) :=
    fun n d c => (congrFun (product V) (n, d, c)).symm
  simp only [hp]
  pointwise [res_main_while0b_v630, res_main_while0b_v328]
  exact if_congr Iff.rfl Ideal.ofBits_zero_f32 rfl

theorem residual (V : Valuation τ sig (Elt Ideal)) :
    fam (res_main_while0b_v636 V) = (now V).r' (rule (thr V)) (sys (rolled (coef (wts V))) half) := by
  funext ⟨n, d, c⟩
  unfold Now.r'
  rw [show sys (rolled (coef (wts V))) half (now V).p (n, d, c) = res_main_while0b_v625 V (Idealize.ShloMosaic.ix3 n d c) from
    (congrFun (product V) (n, d, c)).symm]
  show res_main_while0b_v636 V (Idealize.ShloMosaic.ix3 n d c) = _
  pointwise [res_main_while0b_v636]
  simp only [weight]
  rfl

theorem square (V : Valuation τ sig (Elt Ideal)) (j : S_.Idx) :
    res_main_while0b_v638 V j = (now V).rs' (rule (thr V)) (sys (rolled (coef (wts V))) half) := by
  unfold Now.rs' dot
  rw [sum_fam, ← residual]
  pointwise [res_main_while0b_v638]
  rfl

/-- One trip is one step of the recurrence. -/
theorem step (V : Valuation τ sig (Elt Ideal)) : now (STEP V) = (now V).next (rule (thr V)) (sys (rolled (coef (wts V))) half) := by
  unfold Now.next
  rw [← residual, ← square V (fun a => a.elim0)]
  show Now.mk (fam (STEP V (Proc.devRef .tc main_v323_4))) (fam (STEP V (Proc.devRef .tc main_v323_5))) (fam (STEP V (Proc.devRef .tc main_v323_6)))
    ((STEP V (Proc.devRef .tc main_v323_7) : Vec Ideal S_ .f32) fun a => a.elim0) = _
  rw [STEP_main_v323_4, STEP_main_v323_5, STEP_main_v323_6, STEP_main_v323_7]
  congr 1
  · funext ⟨n, d, c⟩
    rw [← weight V (fun a => a.elim0)]
    show step_main_v323_4 V (Idealize.ShloMosaic.ix3 n d c) = _
    pointwise [step_main_v323_4, id_eq]
    rfl
  · funext ⟨n, d, c⟩
    show step_main_v323_6 V (Idealize.ShloMosaic.ix3 n d c) = _
    pointwise [step_main_v323_6, res_main_while0b_v328, id_eq]
    rfl

theorem thr_step (V : Valuation τ sig (Elt Ideal)) : thr (STEP V) = thr V := congrFun (STEP_main_v323_0 V) _
theorem wts_step (V : Valuation τ sig (Elt Ideal)) : wts (STEP V) = wts V := funext fun _ => congrFun (STEP_main_v323_1 V) _

/-- The whole loop, from a valuation that enters it. -/
theorem loop (V : Valuation τ sig (Elt Ideal)) (b : J → EReal) (h : now V = Now.init b) (k : ℕ) :
    now (STEP^[k] V) = Now.run (rule (thr V)) (sys (rolled (coef (wts V))) half) b k := by
  have hk : ∀ k, thr (STEP^[k] V) = thr V ∧ wts (STEP^[k] V) = wts V ∧
      now (STEP^[k] V) = Now.run (rule (thr V)) (sys (rolled (coef (wts V))) half) b k := by
    intro k
    induction k with
    | zero => exact ⟨rfl, rfl, h⟩
    | succ k ih =>
      rw [Function.iterate_succ_apply']
      refine ⟨(thr_step _).trans ih.1, (wts_step _).trans ih.2.1, ?_⟩
      rw [step, ih.1, ih.2.1, ih.2.2]; rfl
  exact (hk k).2.2

end Cert.Proof.RefVal
end
-- ==== Proof.Hand.RefEntry.lean ====
/- What the reference's loop is entered with, over the extended reals: the right-hand side of the system for the turned field. -/
module

public import proofs.«01_k».proof.Proof.Hand.RefVal

@[expose] public section
noncomputable section

namespace Cert.Proof.RefEntry
open Idealize.ShloMosaic Cert.ReferenceIdeal Cert.ReferenceIdeal.Gen Cert.ReferenceIdeal.Value StableHlo
open Cert.Proof.ConjGrad Cert.Proof.Stencil Cert.Proof.Consts Cert.Proof.RefVal

set_option maxHeartbeats 4000000

abbrev Val := Valuation τ sig (Elt Ideal)

/-- Two vectors joined along an axis, as a function of the two. -/
def join {α : Type} (t : Shape) (a : Fin t.rank) (s1 s2 : Shape) (h : Shape.Concatenates [s1, s2] t a) (x : s1.Idx → α) (y : s2.Idx → α) : t.Idx → α :=
  concatenate t a [⟨s1, x⟩, ⟨s2, y⟩] h

theorem join_eq {α : Type} (t : Shape) (a : Fin t.rank) (s1 s2 : Shape) (h : Shape.Concatenates [s1, s2] t a) (x : s1.Idx → α) (y : s2.Idx → α) :
    concatenate t a [⟨s1, x⟩, ⟨s2, y⟩] h = join t a s1 s2 h x y := rfl

/-! ## The last stretch before the loop -/

theorem entry_r (V : Val) : after hostOps0_66 V (Proc.devRef .tc main_v323_5) =
    shapeCast S2048x768x2 (join S1x2048x768x2 3 S1x2048x768x1 S1x2048x768x1 concatenates_S1x2048x768x1_S1x2048x768x1_S1x2048x768x2_d3
     (broadcastInDim S1x2048x768x1 ![0, 1, 2] bcast_S1x2048x768_S1x2048x768x1_0_1_2 (after hostOps0_66 V (Proc.devRef .tc main_v308)))
     (broadcastInDim S1x2048x768x1 ![0, 1, 2] bcast_S1x2048x768_S1x2048x768x1_0_1_2 (after hostOps0_66 V (Proc.devRef .tc main_v311))))
    shapeCasts_S1x2048x768x2_S2048x768x2 := by
  after_reads_simp [join_eq]
  rfl

theorem entry_p (V : Val) : after hostOps0_66 V (Proc.devRef .tc main_v323_6) = after hostOps0_66 V (Proc.devRef .tc main_v323_5) := by
  after_reads_simp [join_eq]

theorem entry_rs (V : Val) : (after hostOps0_66 V (Proc.devRef .tc main_v323_7) : FVec Ideal S_ .f32) =
    (Host.reduceAdd (mulf (after hostOps0_66 V (Proc.devRef .tc main_v323_5) : FVec Ideal S2048x768x2 .f32) (after hostOps0_66 V (Proc.devRef .tc main_v323_5)))
      (constant (F := Ideal) S_ .f32 0x00000000#32) reducesTo_S2048x768x2_S_d0_1_2 h_S_ : FVec Ideal S_ .f32) := by
  after_reads_simp [join_eq]
  rfl

theorem entry_thr (V : Val) : (after hostOps0_66 V (Proc.devRef .tc main_v323_0) : FVec Ideal S_ .f32) =
    (addf (Host.sqrt (Host.reduceAdd (mulf (after hostOps0_66 V (Proc.devRef .tc main_v323_5) : FVec Ideal S2048x768x2 .f32)
      (after hostOps0_66 V (Proc.devRef .tc main_v323_5))) (constant (F := Ideal) S_ .f32 0x00000000#32) reducesTo_S2048x768x2_S_d0_1_2 h_S_))
      (constant (F := Ideal) S_ .f32 0x0DA24260#32) : FVec Ideal S_ .f32) := by
  after_reads_simp [join_eq]
  rfl

theorem entry_x (V : Val) : (after hostOps0_66 V (Proc.devRef .tc main_v323_4) : FVec Ideal S2048x768x2 .f32) =
    (broadcastInDim S2048x768x2 ![] bcast_S_S2048x768x2 (constant (F := Ideal) S_ .f32 0x00000000#32) : FVec Ideal S2048x768x2 .f32) := by
  after_reads_simp [join_eq]
  rfl

/-- The right-hand side at an index, from its two parts. -/
theorem entry_at (V : Val) (u v : Fin 2048 → Fin 768 → EReal)
    (hu : ∀ n d, (after hostOps0_66 V (Proc.devRef .tc main_v308) : Vec Ideal S1x2048x768 .f32) (Idealize.ShloMosaic.ix3 (0 : Fin 1) n d) = u n d)
    (hv : ∀ n d, (after hostOps0_66 V (Proc.devRef .tc main_v311) : Vec Ideal S1x2048x768 .f32) (Idealize.ShloMosaic.ix3 (0 : Fin 1) n d) = v n d)
    (j : J) : fam (after hostOps0_66 V (Proc.devRef .tc main_v323_5)) j = if j.2.2 = 0 then u j.1 j.2.1 else v j.1 j.2.1 := by
  obtain ⟨n, d, c⟩ := j
  rw [entry_r]
  generalize (after hostOps0_66 V (Proc.devRef .tc main_v308) : Vec Ideal S1x2048x768 .f32) = x at hu ⊢
  generalize (after hostOps0_66 V (Proc.devRef .tc main_v311) : Vec Ideal S1x2048x768 .f32) = y at hv ⊢
  unfold fam
  fin_cases c
  · pointwise [join]
    exact hu n d
  · pointwise [join]
    exact hv n d

/-! ## The first stretch: the turn and the coefficients -/

variable (V : Val)

def fr (n : Fin 2048) (d : Fin 768) : EReal := (V (Proc.devRef .tc main_arg0) : Vec Ideal S1x2048x768 .f32) (Idealize.ShloMosaic.ix3 (0 : Fin 1) n d)
def fi (n : Fin 2048) (d : Fin 768) : EReal := (V (Proc.devRef .tc main_arg1) : Vec Ideal S1x2048x768 .f32) (Idealize.ShloMosaic.ix3 (0 : Fin 1) n d)
def st (d : Fin 768) : EReal := (V (Proc.devRef .tc main_arg2) : Vec Ideal S768 .f32) (Idealize.ShloMosaic.ix1 d)
def wt (i : Fin 3) : EReal := (V (Proc.devRef .tc main_arg3) : Vec Ideal S3 .f32) (Idealize.ShloMosaic.ix1 i)

theorem turned_r (n : Fin 2048) (d : Fin 768) : (after hostOps0 V (Proc.devRef .tc main_v18) : Vec Ideal S1x2048x768 .f32)
    (Idealize.ShloMosaic.ix3 (0 : Fin 1) n d) = rot (fr V) (fi V) (st V) (n, d, 0) := by
  after_reads_simp
  pointwise []
  rfl

theorem turned_i (n : Fin 2048) (d : Fin 768) : (after hostOps0 V (Proc.devRef .tc main_v21) : Vec Ideal S1x2048x768 .f32)
    (Idealize.ShloMosaic.ix3 (0 : Fin 1) n d) = rot (fr V) (fi V) (st V) (n, d, 1) := by
  after_reads_simp
  pointwise []
  rfl

theorem wt_after (i : Fin 3) : wt (after hostOps0 V) i = wt V i := by
  unfold wt
  after_reads_simp

/-- The coefficients the first stretch leaves, and the zero its first stencil starts from. -/
structure Coefs (V1 : Val) (c : Fin 11 → EReal) : Prop where
  c0 : ∀ j, (V1 (Proc.devRef .tc main_v25) : Vec Ideal S_ .f32) j = c 0
  c1 : ∀ j, (V1 (Proc.devRef .tc main_v45) : Vec Ideal S_ .f32) j = c 1
  c2 : ∀ j, (V1 (Proc.devRef .tc main_v33) : Vec Ideal S_ .f32) j = c 2
  c3 : ∀ j, (V1 (Proc.devRef .tc main_v65) : Vec Ideal S_ .f32) j = c 3
  c4 : ∀ j, (V1 (Proc.devRef .tc main_v41) : Vec Ideal S_ .f32) j = c 4
  c5 : ∀ j, (V1 (Proc.devRef .tc main_v53) : Vec Ideal S_ .f32) j = c 5
  c6 : ∀ j, (V1 (Proc.devRef .tc main_v69) : Vec Ideal S_ .f32) j = c 6
  c7 : ∀ j, (V1 (Proc.devRef .tc main_v61) : Vec Ideal S_ .f32) j = c 7
  c8 : ∀ j, (V1 (Proc.devRef .tc main_v73) : Vec Ideal S_ .f32) j = c 8
  c9 : ∀ j, (V1 (Proc.devRef .tc main_v77) : Vec Ideal S_ .f32) j = c 9
  c10 : ∀ j, (V1 (Proc.devRef .tc main_v81) : Vec Ideal S_ .f32) j = c 10
  zero : ∀ n d, (V1 (Proc.devRef .tc main_v82) : Vec Ideal S1x2048x768 .f32) (Idealize.ShloMosaic.ix3 (0 : Fin 1) n d) = (0 : EReal)

theorem coefs : Coefs (after hostOps0 V) (coef (wt V)) := by
  constructor
  all_goals first
    | (intro j; after_reads_simp; pointwise []; rfl)
    | (intro n d; after_reads_simp; pointwise [])

/-! ## The stretches between: the two stencils -/

theorem part_i (V1 : Val) (c : Fin 11 → EReal) (h : Coefs V1 c) (u v : Fin 2048 → Fin 768 → EReal)
    (hu : ∀ n d, (V1 (Proc.devRef .tc main_v18) : Vec Ideal S1x2048x768 .f32) (Idealize.ShloMosaic.ix3 (0 : Fin 1) n d) = u n d)
    (hv : ∀ n d, (V1 (Proc.devRef .tc main_v21) : Vec Ideal S1x2048x768 .f32) (Idealize.ShloMosaic.ix3 (0 : Fin 1) n d) = v n d)
    (n : Fin 2048) (d : Fin 768) : (afterL (List.tail preI) V1 (Proc.devRef .tc main_v311) : Vec Ideal S1x2048x768 .f32)
      (Idealize.ShloMosaic.ix3 (0 : Fin 1) n d) = v n d - half * rolled c (u n) d := by
  rw [rolled_pieces]
  simp only [List.tail_cons, afterL_cons, afterL_nil]
  after_reads_simp [join_eq]
  simp only [TRef.toBuf, TRef.ofBuf, cast_eq]
  pointwise [join]
  simp only [hu, hv, h.c0, h.c1, h.c2, h.c3, h.c4, h.c5, h.c6, h.c7, h.c8, h.c9, h.c10, h.zero, zero_add]
  rfl

theorem part_r (V1 : Val) (u v : Fin 2048 → Fin 768 → EReal)
    (hu : ∀ n d, (V1 (Proc.devRef .tc main_v18) : Vec Ideal S1x2048x768 .f32) (Idealize.ShloMosaic.ix3 (0 : Fin 1) n d) = u n d)
    (hv : ∀ n d, (V1 (Proc.devRef .tc main_v21) : Vec Ideal S1x2048x768 .f32) (Idealize.ShloMosaic.ix3 (0 : Fin 1) n d) = v n d)
    (n : Fin 2048) (d : Fin 768) : (afterL (List.tail preI) V1 (Proc.devRef .tc main_v308) : Vec Ideal S1x2048x768 .f32)
      (Idealize.ShloMosaic.ix3 (0 : Fin 1) n d) = u n d + half * rolled (coef (wt V1)) (v n) d := by
  rw [rolled_pieces]
  simp only [List.tail_cons, afterL_cons, afterL_nil]
  after_reads_simp [join_eq]
  simp only [TRef.toBuf, TRef.ofBuf, cast_eq]
  pointwise [join]
  simp only [hu, hv]
  rfl

/-! ## The loop's state on entry -/

variable (m : (ℓ : Loc nD τ sig) → Buf (Elt Ideal) ℓ) (c : Dev nD)

/-- What the loop is entered with: the starting state for the turned field's right-hand side. -/
theorem entered (V : Val) : now (afterL preI V) = Now.init (rhs (rolled (coef (wt V))) half (rot (fr V) (fi V) (st V))) ∧
    thr (afterL preI V) = Ideal.sqrt (dot (rhs (rolled (coef (wt V))) half (rot (fr V) (fi V) (st V))) (rhs (rolled (coef (wt V))) half (rot (fr V) (fi V) (st V)))) + eps ∧
    wts (afterL preI V) = wt V := by
  have hi := part_i (after hostOps0 V) _ (coefs V) _ _ (turned_r V) (turned_i V)
  have hr := part_r (after hostOps0 V) _ _ (turned_r V) (turned_i V)
  have hw : wts (afterL (List.tail preI) (after hostOps0 V)) = wt (after hostOps0 V) := by
    funext i
    unfold wts wt
    simp only [List.tail_cons, afterL_cons, afterL_nil]
    after_reads_simp [join_eq]
    rfl
  rw [show wt (after hostOps0 V) = wt V from funext (wt_after V)] at hw hr
  rw [show afterL preI V = afterL (List.tail preI) (after hostOps0 V) from rfl]
  refine ⟨?_, ?_, hw⟩
  all_goals
    obtain ⟨W, hW⟩ : ∃ W, afterL (List.tail preI) (after hostOps0 V) = after hostOps0_66 W := ⟨_, rfl⟩
    rw [hW] at hi hr ⊢
    have hb : fam (after hostOps0_66 W (Proc.devRef .tc main_v323_5)) = rhs (rolled (coef (wt V))) half (rot (fr V) (fi V) (st V)) := by
      funext j
      rw [entry_at W _ _ hr hi]
      rfl
  · have hx : fam (broadcastInDim S2048x768x2 ![] bcast_S_S2048x768x2 (constant (F := Ideal) S_ .f32 0x00000000#32)) = fun _ => 0 := by
      funext j
      unfold fam
      pointwise []
    have hs : (after hostOps0_66 W (Proc.devRef .tc main_v323_7) : FVec Ideal S_ .f32) (fun a => a.elim0) =
        dot (fam (after hostOps0_66 W (Proc.devRef .tc main_v323_5))) (fam (after hostOps0_66 W (Proc.devRef .tc main_v323_5))) := by
      rw [entry_rs]
      unfold dot
      rw [sum_fam]
      pointwise []
      rfl
    unfold now Now.init
    rw [← hb]
    refine Eq.trans ?_ (congrArg (Now.mk _ _ _) hs)
    rw [entry_p, entry_x, hx]
  · unfold thr
    rw [entry_thr, ← hb]
    unfold dot
    rw [sum_fam]
    pointwise []
    rfl

end Cert.Proof.RefEntry
end
-- ==== Proof.Hand.Value.lean ====
/- The value claim: over the extended reals, from equal arguments, the kernel and the reference end with the same result. -/
module

public import proofs.«01_k».proof.Proof.Hand.Run
public import proofs.«01_k».proof.Proof.Hand.KernelEntry
public import proofs.«01_k».proof.Proof.Hand.RefEntry
public import proofs.«01_k».proof.Defs

@[expose] public section
noncomputable section

namespace Cert.Proof.KernelValue
open Idealize.ShloMosaic Idealize.ShloMosaic.TcCoe Cert.KernelIdeal Cert.KernelIdeal.Gen StableHlo
open Cert.Proof.ConjGrad Cert.Proof.Stencil Cert.Proof.Consts Cert.Proof.KernelVal Cert.Proof.KernelEntry Cert.Proof.Run
open Cert.Proof.RefEntry (join join_eq)

set_option maxHeartbeats 4000000

/-- The two parts of the solution, laid side by side along a last axis of two. -/
def laid (f g : Vec Ideal S2048x768 .f32) : Vec Ideal S2048x768x2 .f32 :=
  join S2048x768x2 2 S2048x768x1 S2048x768x1 concatenates_S2048x768x1_S2048x768x1_S2048x768x2_d2
    (broadcastInDim S2048x768x1 ![0, 1] bcast_S2048x768_S2048x768x1_0_1 f) (broadcastInDim S2048x768x1 ![0, 1] bcast_S2048x768_S2048x768x1_0_1 g)

theorem laid_at (f g : Vec Ideal S2048x768 .f32) (n : Fin 2048) (d : Fin 768) (c : Fin 2) :
    laid f g (Idealize.ShloMosaic.ix3 n d c) = pair f g (n, d, c) := by
  unfold laid pair
  fin_cases c
  · pointwise [join]
  · pointwise [join]

/-- The last host operations lay the kernels' two results side by side. -/
theorem final (W : Val) : after hostOps2 W (Proc.devRef .tc main_v148) =
    shapeCast S1x2048x768x2 (laid (W (Proc.devRef .tc main_v144_0)) (W (Proc.devRef .tc main_v144_1))) shapeCasts_S2048x768x2_S1x2048x768x2 := by
  unfold laid
  after_reads_simp [join_eq]
  rfl

variable (m : (ℓ : Loc nD τ sig) → Buf (Elt Ideal) ℓ) (c : Dev nD)

/-- The right-hand side that the second kernel is given. -/
theorem given : pair (mid m c main_v143_0) (mid m c main_v143_1) =
    rhs (banded (coef (wt (V0 m c)))) half (rot (fr (V0 m c)) (fi (V0 m c)) (st (V0 m c))) := by
  rw [mid_5, mid_6, right]
  have h1 := hi_eq (V0 m c)
  have h2 := lo_eq (V0 m c)
  have h3 : (fun n d => (pre (V0 m c) (Proc.devRef .tc main_v0) : Vec Ideal S2048x768 .f32) (Idealize.ShloMosaic.ix2 n d)) = fr (V0 m c) := funext fun n => funext (pre_r (V0 m c) n)
  have h4 : (fun n d => (pre (V0 m c) (Proc.devRef .tc main_v1) : Vec Ideal S2048x768 .f32) (Idealize.ShloMosaic.ix2 n d)) = fi (V0 m c) := funext fun n => funext (pre_i (V0 m c) n)
  have h5 : (fun d => (pre (V0 m c) (Proc.devRef .tc main_v142) : Vec Ideal S1x768 .f32) (Idealize.ShloMosaic.ix2 0 d)) = st (V0 m c) := funext (pre_s (V0 m c))
  rw [← h3, ← h4, ← h5]
  unfold banded
  rw [← h1, ← h2]

/-- What the second kernel leaves: the deferred recurrence's answer after twenty steps. -/
theorem left : pair (sol0 (mid m c)) (sol1 (mid m c)) =
    (Late.run (krule (dot (pair (mid m c main_v143_0) (mid m c main_v143_1)) (pair (mid m c main_v143_0) (mid m c main_v143_1))))
      (sys (banded (coef (wt (V0 m c)))) half) (pair (mid m c main_v143_0) (mid m c main_v143_1)) 20).out := by
  have h1 := hi_eq (V0 m c)
  have h2 := lo_eq (V0 m c)
  rw [solution, mid_of m c main_v138 (by decide), mid_of m c main_v141 (by decide)]
  unfold banded op
  rw [← h1, ← h2]

/-- The kernel's answer is the reference's recurrence with the rolled stencil, from the same turned field. -/
theorem answer : pair (sol0 (mid m c)) (sol1 (mid m c)) =
    (Now.run (rule (Ideal.sqrt (dot (rhs (rolled (coef (wt (V0 m c)))) half (rot (fr (V0 m c)) (fi (V0 m c)) (st (V0 m c))))
        (rhs (rolled (coef (wt (V0 m c)))) half (rot (fr (V0 m c)) (fi (V0 m c)) (st (V0 m c))))) + eps))
      (sys (rolled (coef (wt (V0 m c)))) half) (rhs (rolled (coef (wt (V0 m c)))) half (rot (fr (V0 m c)) (fi (V0 m c)) (st (V0 m c)))) 20).x := by
  obtain ⟨h, h0, hh⟩ := half_real
  rw [left, given, hh, krule, norm_eq _ h h0]
  exact solution_eq _ (rule_good _) _ h h0 _ 20

end Cert.Proof.KernelValue

namespace Cert.Proof.RefValue
open Idealize.ShloMosaic Idealize.ShloMosaic.TcCoe Cert.ReferenceIdeal Cert.ReferenceIdeal.Gen Cert.ReferenceIdeal.Value StableHlo
open Cert.Proof.ConjGrad Cert.Proof.Stencil Cert.Proof.Consts Cert.Proof.RefVal Cert.Proof.RefEntry

/-- The loop's answer, from any contents that enter it with the right-hand side `b` and the weights `w`. -/
theorem after_loop (W : Val) (b : J → EReal) (w : Fin 3 → EReal) (hn : now W = Now.init b) (ht : thr W = Ideal.sqrt (dot b b) + eps) (hw : wts W = w) :
    fam (STEP^[20] W (Proc.devRef .tc main_v323_4)) = (Now.run (rule (Ideal.sqrt (dot b b) + eps)) (sys (rolled (coef w)) half) b 20).x := by
  have hl := loop W b hn 20
  rw [ht, hw] at hl
  exact congrArg Now.x hl

/-- The reference's answer: its recurrence after twenty steps from the turned field's right-hand side. -/
theorem answer (V : Val) : fam (STEP^[20] (afterL preI V) (Proc.devRef .tc main_v323_4)) =
    (Now.run (rule (Ideal.sqrt (dot (rhs (rolled (coef (wt V))) half (rot (fr V) (fi V) (st V))) (rhs (rolled (coef (wt V))) half (rot (fr V) (fi V) (st V)))) + eps))
      (sys (rolled (coef (wt V))) half) (rhs (rolled (coef (wt V))) half (rot (fr V) (fi V) (st V))) 20).x :=
  after_loop (afterL preI V) _ _ (entered V).1 (entered V).2.1 (entered V).2.2

end Cert.Proof.RefValue

namespace Cert.Proof.Value
open Idealize.ShloMosaic Idealize.ShloMosaic.TcCoe Idealize.SL.Sem StableHlo

/-- Two arrays that agree at every index written by its coordinates are equal. -/
theorem ext3 {n0 n1 n2 : ℕ} {f g : (⟨3, ![n0, n1, n2]⟩ : Shape).Idx → EReal}
    (h : ∀ a b c, f (Idealize.ShloMosaic.ix3 a b c) = g (Idealize.ShloMosaic.ix3 a b c)) : f = g :=
  funext fun j => by rw [← Idealize.ShloMosaic.ix3_eta j]; exact h _ _ _

/-- Over the extended reals, from memories that agree on the arguments, both programs end with the same result and leave their
    arguments as they were. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Gen.V6 m (Run.outs m) c Cert.KernelIdeal.main_v148, ?_, ?_⟩
  · exact (θ_run (Cert.KernelIdeal.defs (F := Ideal)) _ _).mono
      (fun _ h c => ⟨(h.1 c).2, (h.1 c).1.1, (h.1 c).1.2.1, (h.1 c).1.2.2.1, (h.1 c).1.2.2.2⟩) (Run.run (F := Ideal) m g)
  · refine (θ_run (Cert.ReferenceIdeal.defs (F := Ideal)) _ _).mono (fun _ h c => ⟨(h c).1.trans ?_, (h c).2⟩) (Cert.ReferenceIdeal.Value.run (F := Ideal) m' g')
    have hr : RefEntry.fr (launchContents m' c) = KernelEntry.fr (Cert.KernelIdeal.Gen.V0 m c) := funext fun n => funext fun d => congrFun (hag c).1 _
    have hi : RefEntry.fi (launchContents m' c) = KernelEntry.fi (Cert.KernelIdeal.Gen.V0 m c) := funext fun n => funext fun d => congrFun (hag c).2.1 _
    have hs : RefEntry.st (launchContents m' c) = KernelEntry.st (Cert.KernelIdeal.Gen.V0 m c) := funext fun d => congrFun (hag c).2.2.1 _
    have hw : RefEntry.wt (launchContents m' c) = KernelEntry.wt (Cert.KernelIdeal.Gen.V0 m c) := funext fun i => congrFun (hag c).2.2.2 _
    have ha := RefValue.answer (launchContents m' c)
    rw [hr, hi, hs, hw, ← KernelValue.answer m c] at ha
    have hv := KernelValue.final (Cert.KernelIdeal.Gen.V5 m (Run.outs m) c)
    rw [Run.V5_0 m c, Run.V5_1 m c] at hv
    have he : (Cert.ReferenceIdeal.Value.STEP^[20] (afterL Cert.ReferenceIdeal.Value.preI (launchContents m' c)) (Proc.devRef .tc Cert.ReferenceIdeal.main_v323_4) :
        Vec Ideal Cert.ReferenceIdeal.S2048x768x2 .f32) = KernelValue.laid (Run.sol0 (Run.mid m c)) (Run.sol1 (Run.mid m c)) :=
      ext3 fun n d c' => (congrFun ha (n, d, c')).trans (KernelValue.laid_at _ _ n d c').symm
    refine Eq.trans ?_ hv.symm
    unfold Cert.ReferenceIdeal.Value.out_main_v324
    exact congrArg (fun a => shapeCast Cert.ReferenceIdeal.S1x2048x768x2 a Cert.ReferenceIdeal.Gen.shapeCasts_S2048x768x2_S1x2048x768x2) he

end Cert.Proof.Value
end
-- ==== Proof.lean ====
module

public import proofs.«01_k».proof.Defs
public import proofs.«01_k».proof.Proof.Hand.Frames
public import proofs.«01_k».proof.Proof.Hand.Value

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Frames.kernel, Frames.kernelIdeal, Frames.referenceIdeal, trivial, Value.algebraic⟩

end Cert.Proof

end
